-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S32x65536 : Shape := ⟨2, ![32, 65536]⟩
abbrev S1x32x65536 : Shape := ⟨3, ![1, 32, 65536]⟩
abbrev S1x1x1 : Shape := ⟨3, ![1, 1, 1]⟩
abbrev S32x1 : Shape := ⟨2, ![32, 1]⟩
abbrev S32 : Shape := ⟨1, ![32]⟩

abbrev nBuf : Space → Nat
  | .hbm => 529
  | .vmem => 11
  | .smem => 6
  | _ => 0

abbrev hbmTy0_0 (i : Nat) : BufTy := match i % 128 with
  | 0 => ⟨S32x1000000, .f32⟩
  | 1 => ⟨S_, .f32⟩
  | 2 => ⟨S_, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S1, .i32⟩
  | 14 => ⟨S_, .i32⟩
  | 15 => ⟨S1, .i32⟩
  | 16 => ⟨S_, .i32⟩
  | 17 => ⟨S2, .i64⟩
  | 18 => ⟨S_, .i64⟩
  | 19 => ⟨S2, .i64⟩
  | 20 => ⟨S2, .i64⟩
  | 21 => ⟨S_, .i64⟩
  | 22 => ⟨S2, .i64⟩
  | 23 => ⟨S2, .i64⟩
  | 24 => ⟨S2, .i32⟩
  | 25 => ⟨S2, .i32⟩
  | 26 => ⟨S_, .i32⟩
  | 27 => ⟨S_, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S_, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S_, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S32x1000000, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S_, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S_, .i32⟩
  | 106 => ⟨S2, .i32⟩
  | 107 => ⟨S2, .i32⟩
  | 108 => ⟨S_, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S2x1, .i32⟩
  | 121 => ⟨S2x1, .i32⟩
  | 122 => ⟨S2x2, .i32⟩
  | 123 => ⟨S1x2, .i32⟩
  | 124 => ⟨S2, .i32⟩
  | 125 => ⟨S1x2, .i32⟩
  | 126 => ⟨S2, .i32⟩
  | 127 => ⟨S_, .f32⟩
  | _ => ⟨S32x1000000, .f32⟩

abbrev hbmTy0_2 (i : Nat) : BufTy := match i % 128 with
  | 0 => ⟨S_, .f32⟩
  | 1 => ⟨S_, .f32⟩
  | 2 => ⟨S1x1, .f32⟩
  | 3 => ⟨S1x1, .f32⟩
  | 4 => ⟨S1, .i32⟩
  | 5 => ⟨S_, .i32⟩
  | 6 => ⟨S1, .i32⟩
  | 7 => ⟨S_, .i32⟩
  | 8 => ⟨S32x1000000, .i64⟩
  | 9 => ⟨S32x1000000, .i64⟩
  | 10 => ⟨S_, .i64⟩
  | 11 => ⟨S32x1000000, .i64⟩
  | 12 => ⟨S32x1000000, .i64⟩
  | 13 => ⟨S_, .i64⟩
  | 14 => ⟨S32x1000000, .i64⟩
  | 15 => ⟨S32x1000000, .i64⟩
  | 16 => ⟨S32x1000000, .i64⟩
  | 17 => ⟨S_, .i64⟩
  | 18 => ⟨S32x1000000, .i64⟩
  | 19 => ⟨S32x1000000, .i64⟩
  | 20 => ⟨S32x1000000, .i32⟩
  | 21 => ⟨S32x1000000, .i32⟩
  | 22 => ⟨S_, .i32⟩
  | 23 => ⟨S_, .i32⟩
  | 24 => ⟨S_, .i32⟩
  | 25 => ⟨S32x1000000, .i32⟩
  | 26 => ⟨S32x1000000, .i32⟩
  | 27 => ⟨S32x1000000, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S32x1000000, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S_, .i32⟩
  | 52 => ⟨S32x1000000, .i32⟩
  | 53 => ⟨S32x1000000, .i32⟩
  | 54 => ⟨S32x1000000, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S32x1000000, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S_, .i32⟩
  | 95 => ⟨S32x1000000, .i32⟩
  | 96 => ⟨S32x1000000, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S_, .i32⟩
  | 126 => ⟨S32x1000000, .i32⟩
  | 127 => ⟨S32x1000000, .i32⟩
  | _ => ⟨S32x1000000, .f32⟩

abbrev hbmTy0_3 (i : Nat) : BufTy := match i % 128 with
  | 0 => ⟨S_, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S_, .i32⟩
  | 10 => ⟨S32x1000000, .i32⟩
  | 11 => ⟨S32x1000000, .i32⟩
  | 12 => ⟨S32x1000000, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S32x1000000, .i32⟩
  | 31 => ⟨S_, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S_, .i32⟩
  | 41 => ⟨S32x1000000, .i32⟩
  | 42 => ⟨S32x1000000, .i32⟩
  | 43 => ⟨S_, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S_, .i32⟩
  | 50 => ⟨S32x1000000, .i32⟩
  | 51 => ⟨S32x1000000, .i32⟩
  | 52 => ⟨S_, .i32⟩
  | 53 => ⟨S32x1000000, .i32⟩
  | 54 => ⟨S32x1000000, .i32⟩
  | 55 => ⟨S32x1000000, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S32x1000000, .i32⟩
  | 65 => ⟨S32x1000000, .i32⟩
  | 66 => ⟨S32x1000000, .i32⟩
  | 67 => ⟨S32x1000000, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S_, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S_, .i32⟩
  | 96 => ⟨S32x1000000, .i32⟩
  | 97 => ⟨S32x1000000, .i32⟩
  | 98 => ⟨S32x1000000, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S32x1000000, .i32⟩
  | 108 => ⟨S32x1000000, .i32⟩
  | 109 => ⟨S32x1000000, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .f32⟩
  | 124 => ⟨S_, .f32⟩
  | 125 => ⟨S32x1000000, .f32⟩
  | 126 => ⟨S32x1000000, .f32⟩
  | 127 => ⟨S1x1, .f32⟩
  | _ => ⟨S32x1000000, .f32⟩

abbrev hbmTy0_4 (i : Nat) : BufTy := match i % 128 with
  | 0 => ⟨S32x1000000, .f32⟩
  | 1 => ⟨S32x1000000, .f32⟩
  | 2 => ⟨S32x1000000, .f32⟩
  | 3 => ⟨S32x1000000, .f32⟩
  | 4 => ⟨S32x1000000, .f32⟩
  | 5 => ⟨S32x1000000, .f32⟩
  | 6 => ⟨S32x1000000, .f32⟩
  | 7 => ⟨S32x1000000, .f32⟩
  | 8 => ⟨S32x1000000, .f32⟩
  | 9 => ⟨S32x1000000, .f32⟩
  | 10 => ⟨S1x1, .f32⟩
  | 11 => ⟨S1x1, .f32⟩
  | 12 => ⟨S1x1, .f32⟩
  | 13 => ⟨S1x1, .f32⟩
  | 14 => ⟨S32x1, .i32⟩
  | 15 => ⟨S32x1, .f32⟩
  | 16 => ⟨S32x1000000, .f32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1000000, .f32⟩

abbrev bufTy : (tb : Table) → Fin (tcTables nBuf tb) → BufTy
  | .hbm, ⟨i, _⟩ => hbmTy i
  | .local _ .vmem, ⟨0, _⟩ => ⟨S32x65536, .f32⟩
  | .local _ .vmem, ⟨1, _⟩ => ⟨S32x65536, .f32⟩
  | .local _ .vmem, ⟨2, _⟩ => ⟨S32x65536, .f32⟩
  | .local _ .vmem, ⟨3, _⟩ => ⟨S32x65536, .f32⟩
  | .local _ .vmem, ⟨4, _⟩ => ⟨S32x65536, .f32⟩
  | .local _ .vmem, ⟨5, _⟩ => ⟨S32x65536, .f32⟩
  | .local _ .vmem, ⟨6, _⟩ => ⟨S32x1, .i32⟩
  | .local _ .vmem, ⟨7, _⟩ => ⟨S32x1, .f32⟩
  | .local _ .vmem, ⟨8, _⟩ => ⟨S32x1, .i32⟩
  | .local _ .vmem, ⟨9, _⟩ => ⟨S32x65536, .f32⟩
  | .local _ .vmem, ⟨10, _⟩ => ⟨S32x65536, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_call0_v0 : Ref sig .tc := ⟨.hbm, 26, rfl⟩
abbrev main_call0_call0_c : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_c_0 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_c_1 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_c_2 : Ref sig .tc := ⟨.hbm, 43, rfl⟩
abbrev main_call0_call0_v14 : Ref sig .tc := ⟨.hbm, 44, rfl⟩
abbrev main_call0_call0_v15 : Ref sig .tc := ⟨.hbm, 45, rfl⟩
abbrev main_call0_call0_c_3 : Ref sig .tc := ⟨.hbm, 46, rfl⟩
abbrev main_call0_call0_v16 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_c_4 : Ref sig .tc := ⟨.hbm, 52, rfl⟩
abbrev main_call0_call0_v21 : Ref sig .tc := ⟨.hbm, 53, rfl⟩
abbrev main_call0_call0_v22 : Ref sig .tc := ⟨.hbm, 54, rfl⟩
abbrev main_call0_call0_c_5 : Ref sig .tc := ⟨.hbm, 55, rfl⟩
abbrev main_call0_call0_v23 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_v27 : Ref sig .tc := ⟨.hbm, 60, rfl⟩
abbrev main_call0_call0_c_6 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_c_7 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_v32 : Ref sig .tc := ⟨.hbm, 67, rfl⟩
abbrev main_call0_call0_v33 : Ref sig .tc := ⟨.hbm, 68, rfl⟩
abbrev main_call0_call0_v34 : Ref sig .tc := ⟨.hbm, 69, rfl⟩
abbrev main_call0_call0_v35 : Ref sig .tc := ⟨.hbm, 70, rfl⟩
abbrev main_call0_call0_v36 : Ref sig .tc := ⟨.hbm, 71, rfl⟩
abbrev main_call0_call0_v37 : Ref sig .tc := ⟨.hbm, 72, rfl⟩
abbrev main_call0_call0_c_8 : Ref sig .tc := ⟨.hbm, 73, rfl⟩
abbrev main_call0_call0_v38 : Ref sig .tc := ⟨.hbm, 74, rfl⟩
abbrev main_call0_call0_v39 : Ref sig .tc := ⟨.hbm, 75, rfl⟩
abbrev main_call0_call0_v40 : Ref sig .tc := ⟨.hbm, 76, rfl⟩
abbrev main_call0_call0_c_9 : Ref sig .tc := ⟨.hbm, 77, rfl⟩
abbrev main_call0_call0_v41 : Ref sig .tc := ⟨.hbm, 78, rfl⟩
abbrev main_call0_call0_v42 : Ref sig .tc := ⟨.hbm, 79, rfl⟩
abbrev main_call0_call0_c_10 : Ref sig .tc := ⟨.hbm, 80, rfl⟩
abbrev main_call0_call0_v43 : Ref sig .tc := ⟨.hbm, 81, rfl⟩
abbrev main_call0_call0_v44 : Ref sig .tc := ⟨.hbm, 82, rfl⟩
abbrev main_call0_call0_v45 : Ref sig .tc := ⟨.hbm, 83, rfl⟩
abbrev main_call0_call0_v46 : Ref sig .tc := ⟨.hbm, 84, rfl⟩
abbrev main_call0_call0_v47 : Ref sig .tc := ⟨.hbm, 85, rfl⟩
abbrev main_call0_call0_c_11 : Ref sig .tc := ⟨.hbm, 86, rfl⟩
abbrev main_call0_call0_v48 : Ref sig .tc := ⟨.hbm, 87, rfl⟩
abbrev main_call0_call0_v49 : Ref sig .tc := ⟨.hbm, 88, rfl⟩
abbrev main_call0_call0_c_12 : Ref sig .tc := ⟨.hbm, 89, rfl⟩
abbrev main_call0_call0_v50 : Ref sig .tc := ⟨.hbm, 90, rfl⟩
abbrev main_call0_call0_v51 : Ref sig .tc := ⟨.hbm, 91, rfl⟩
abbrev main_call0_call0_v52 : Ref sig .tc := ⟨.hbm, 92, rfl⟩
abbrev main_call0_call0_v53 : Ref sig .tc := ⟨.hbm, 93, rfl⟩
abbrev main_call0_call0_v54 : Ref sig .tc := ⟨.hbm, 94, rfl⟩
abbrev main_call0_call0_c_13 : Ref sig .tc := ⟨.hbm, 95, rfl⟩
abbrev main_call0_call0_v55 : Ref sig .tc := ⟨.hbm, 96, rfl⟩
abbrev main_call0_call0_v56 : Ref sig .tc := ⟨.hbm, 97, rfl⟩
abbrev main_call0_call0_c_14 : Ref sig .tc := ⟨.hbm, 98, rfl⟩
abbrev main_call0_call0_v57 : Ref sig .tc := ⟨.hbm, 99, rfl⟩
abbrev main_call0_call0_v58 : Ref sig .tc := ⟨.hbm, 100, rfl⟩
abbrev main_call0_call0_v59 : Ref sig .tc := ⟨.hbm, 101, rfl⟩
abbrev main_call0_call0_v60 : Ref sig .tc := ⟨.hbm, 102, rfl⟩
abbrev main_call0_call0_v61 : Ref sig .tc := ⟨.hbm, 103, rfl⟩
abbrev main_call0_call0_c_15 : Ref sig .tc := ⟨.hbm, 104, rfl⟩
abbrev main_call0_call0_v62 : Ref sig .tc := ⟨.hbm, 105, rfl⟩
abbrev main_call0_call0_v63 : Ref sig .tc := ⟨.hbm, 106, rfl⟩
abbrev main_call0_call0_c_16 : Ref sig .tc := ⟨.hbm, 107, rfl⟩
abbrev main_call0_call0_v64 : Ref sig .tc := ⟨.hbm, 108, rfl⟩
abbrev main_call0_call0_v65 : Ref sig .tc := ⟨.hbm, 109, rfl⟩
abbrev main_call0_call0_v66 : Ref sig .tc := ⟨.hbm, 110, rfl⟩
abbrev main_call0_call0_v67 : Ref sig .tc := ⟨.hbm, 111, rfl⟩
abbrev main_call0_call0_v68 : Ref sig .tc := ⟨.hbm, 112, rfl⟩
abbrev main_call0_call0_v69 : Ref sig .tc := ⟨.hbm, 113, rfl⟩
abbrev main_call0_call0_v70 : Ref sig .tc := ⟨.hbm, 114, rfl⟩
abbrev main_call0_call0_v71 : Ref sig .tc := ⟨.hbm, 115, rfl⟩
abbrev main_call0_call0_c_17 : Ref sig .tc := ⟨.hbm, 116, rfl⟩
abbrev main_call0_call0_v72 : Ref sig .tc := ⟨.hbm, 117, rfl⟩
abbrev main_call0_call0_v73 : Ref sig .tc := ⟨.hbm, 118, rfl⟩
abbrev main_call0_call0_v74 : Ref sig .tc := ⟨.hbm, 119, rfl⟩
abbrev main_call0_call0_c_18 : Ref sig .tc := ⟨.hbm, 120, rfl⟩
abbrev main_call0_call0_v75 : Ref sig .tc := ⟨.hbm, 121, rfl⟩
abbrev main_call0_call0_v76 : Ref sig .tc := ⟨.hbm, 122, rfl⟩
abbrev main_call0_call0_c_19 : Ref sig .tc := ⟨.hbm, 123, rfl⟩
abbrev main_call0_call0_v77 : Ref sig .tc := ⟨.hbm, 124, rfl⟩
abbrev main_call0_call0_v78 : Ref sig .tc := ⟨.hbm, 125, rfl⟩
abbrev main_call0_call0_v79 : Ref sig .tc := ⟨.hbm, 126, rfl⟩
abbrev main_call0_call0_v80 : Ref sig .tc := ⟨.hbm, 127, rfl⟩
abbrev main_call0_call0_v81 : Ref sig .tc := ⟨.hbm, 128, rfl⟩
abbrev main_call0_call0_c_20 : Ref sig .tc := ⟨.hbm, 129, rfl⟩
abbrev main_call0_call0_v82 : Ref sig .tc := ⟨.hbm, 130, rfl⟩
abbrev main_call0_call0_v83 : Ref sig .tc := ⟨.hbm, 131, rfl⟩
abbrev main_call0_call0_c_21 : Ref sig .tc := ⟨.hbm, 132, rfl⟩
abbrev main_call0_call0_v84 : Ref sig .tc := ⟨.hbm, 133, rfl⟩
abbrev main_call0_call0_v85 : Ref sig .tc := ⟨.hbm, 134, rfl⟩
abbrev main_call0_call0_v86 : Ref sig .tc := ⟨.hbm, 135, rfl⟩
abbrev main_call0_call0_v87 : Ref sig .tc := ⟨.hbm, 136, rfl⟩
abbrev main_call0_call0_v88 : Ref sig .tc := ⟨.hbm, 137, rfl⟩
abbrev main_call0_call0_c_22 : Ref sig .tc := ⟨.hbm, 138, rfl⟩
abbrev main_call0_call0_v89 : Ref sig .tc := ⟨.hbm, 139, rfl⟩
abbrev main_call0_call0_v90 : Ref sig .tc := ⟨.hbm, 140, rfl⟩
abbrev main_call0_call0_c_23 : Ref sig .tc := ⟨.hbm, 141, rfl⟩
abbrev main_call0_call0_v91 : Ref sig .tc := ⟨.hbm, 142, rfl⟩
abbrev main_call0_call0_v92 : Ref sig .tc := ⟨.hbm, 143, rfl⟩
abbrev main_call0_call0_v93 : Ref sig .tc := ⟨.hbm, 144, rfl⟩
abbrev main_call0_call0_v94 : Ref sig .tc := ⟨.hbm, 145, rfl⟩
abbrev main_call0_call0_v95 : Ref sig .tc := ⟨.hbm, 146, rfl⟩
abbrev main_call0_call0_c_24 : Ref sig .tc := ⟨.hbm, 147, rfl⟩
abbrev main_call0_call0_v96 : Ref sig .tc := ⟨.hbm, 148, rfl⟩
abbrev main_call0_call0_v97 : Ref sig .tc := ⟨.hbm, 149, rfl⟩
abbrev main_call0_call0_c_25 : Ref sig .tc := ⟨.hbm, 150, rfl⟩
abbrev main_call0_call0_v98 : Ref sig .tc := ⟨.hbm, 151, rfl⟩
abbrev main_call0_call0_v99 : Ref sig .tc := ⟨.hbm, 152, rfl⟩
abbrev main_call0_call0_v100 : Ref sig .tc := ⟨.hbm, 153, rfl⟩
abbrev main_call0_call0_v101 : Ref sig .tc := ⟨.hbm, 154, rfl⟩
abbrev main_call0_call0_v102 : Ref sig .tc := ⟨.hbm, 155, rfl⟩
abbrev main_call0_call0_v103 : Ref sig .tc := ⟨.hbm, 156, rfl⟩
abbrev main_call0_call0_v104 : Ref sig .tc := ⟨.hbm, 157, rfl⟩
abbrev main_call0_call0_v105 : Ref sig .tc := ⟨.hbm, 158, rfl⟩
abbrev main_call0_call0_c_26 : Ref sig .tc := ⟨.hbm, 159, rfl⟩
abbrev main_call0_call0_v106 : Ref sig .tc := ⟨.hbm, 160, rfl⟩
abbrev main_call0_call0_v107 : Ref sig .tc := ⟨.hbm, 161, rfl⟩
abbrev main_call0_call0_v108 : Ref sig .tc := ⟨.hbm, 162, rfl⟩
abbrev main_call0_call0_c_27 : Ref sig .tc := ⟨.hbm, 163, rfl⟩
abbrev main_call0_call0_v109 : Ref sig .tc := ⟨.hbm, 164, rfl⟩
abbrev main_call0_call0_v110 : Ref sig .tc := ⟨.hbm, 165, rfl⟩
abbrev main_call0_call0_c_28 : Ref sig .tc := ⟨.hbm, 166, rfl⟩
abbrev main_call0_call0_v111 : Ref sig .tc := ⟨.hbm, 167, rfl⟩
abbrev main_call0_call0_v112 : Ref sig .tc := ⟨.hbm, 168, rfl⟩
abbrev main_call0_call0_v113 : Ref sig .tc := ⟨.hbm, 169, rfl⟩
abbrev main_call0_call0_v114 : Ref sig .tc := ⟨.hbm, 170, rfl⟩
abbrev main_call0_call0_v115 : Ref sig .tc := ⟨.hbm, 171, rfl⟩
abbrev main_call0_call0_c_29 : Ref sig .tc := ⟨.hbm, 172, rfl⟩
abbrev main_call0_call0_v116 : Ref sig .tc := ⟨.hbm, 173, rfl⟩
abbrev main_call0_call0_v117 : Ref sig .tc := ⟨.hbm, 174, rfl⟩
abbrev main_call0_call0_c_30 : Ref sig .tc := ⟨.hbm, 175, rfl⟩
abbrev main_call0_call0_v118 : Ref sig .tc := ⟨.hbm, 176, rfl⟩
abbrev main_call0_call0_v119 : Ref sig .tc := ⟨.hbm, 177, rfl⟩
abbrev main_call0_call0_v120 : Ref sig .tc := ⟨.hbm, 178, rfl⟩
abbrev main_call0_call0_v121 : Ref sig .tc := ⟨.hbm, 179, rfl⟩
abbrev main_call0_call0_v122 : Ref sig .tc := ⟨.hbm, 180, rfl⟩
abbrev main_call0_call0_c_31 : Ref sig .tc := ⟨.hbm, 181, rfl⟩
abbrev main_call0_call0_v123 : Ref sig .tc := ⟨.hbm, 182, rfl⟩
abbrev main_call0_call0_v124 : Ref sig .tc := ⟨.hbm, 183, rfl⟩
abbrev main_call0_call0_c_32 : Ref sig .tc := ⟨.hbm, 184, rfl⟩
abbrev main_call0_call0_v125 : Ref sig .tc := ⟨.hbm, 185, rfl⟩
abbrev main_call0_call0_v126 : Ref sig .tc := ⟨.hbm, 186, rfl⟩
abbrev main_call0_call0_v127 : Ref sig .tc := ⟨.hbm, 187, rfl⟩
abbrev main_call0_call0_v128 : Ref sig .tc := ⟨.hbm, 188, rfl⟩
abbrev main_call0_call0_v129 : Ref sig .tc := ⟨.hbm, 189, rfl⟩
abbrev main_call0_call0_c_33 : Ref sig .tc := ⟨.hbm, 190, rfl⟩
abbrev main_call0_call0_v130 : Ref sig .tc := ⟨.hbm, 191, rfl⟩
abbrev main_call0_call0_v131 : Ref sig .tc := ⟨.hbm, 192, rfl⟩
abbrev main_call0_call0_c_34 : Ref sig .tc := ⟨.hbm, 193, rfl⟩
abbrev main_call0_call0_v132 : Ref sig .tc := ⟨.hbm, 194, rfl⟩
abbrev main_call0_call0_v133 : Ref sig .tc := ⟨.hbm, 195, rfl⟩
abbrev main_call0_call0_v134 : Ref sig .tc := ⟨.hbm, 196, rfl⟩
abbrev main_call0_call0_v135 : Ref sig .tc := ⟨.hbm, 197, rfl⟩
abbrev main_call0_call0_v136 : Ref sig .tc := ⟨.hbm, 198, rfl⟩
abbrev main_call0_call0_v137 : Ref sig .tc := ⟨.hbm, 199, rfl⟩
abbrev main_call0_call0_v138 : Ref sig .tc := ⟨.hbm, 200, rfl⟩
abbrev main_call0_call0_v139 : Ref sig .tc := ⟨.hbm, 201, rfl⟩
abbrev main_call0_call0_c_35 : Ref sig .tc := ⟨.hbm, 202, rfl⟩
abbrev main_call0_call0_v140 : Ref sig .tc := ⟨.hbm, 203, rfl⟩
abbrev main_call0_call0_v141 : Ref sig .tc := ⟨.hbm, 204, rfl⟩
abbrev main_call0_call0_v142 : Ref sig .tc := ⟨.hbm, 205, rfl⟩
abbrev main_call0_call0_c_36 : Ref sig .tc := ⟨.hbm, 206, rfl⟩
abbrev main_call0_call0_v143 : Ref sig .tc := ⟨.hbm, 207, rfl⟩
abbrev main_call0_call0_v144 : Ref sig .tc := ⟨.hbm, 208, rfl⟩
abbrev main_call0_call0_c_37 : Ref sig .tc := ⟨.hbm, 209, rfl⟩
abbrev main_call0_call0_v145 : Ref sig .tc := ⟨.hbm, 210, rfl⟩
abbrev main_call0_call0_v146 : Ref sig .tc := ⟨.hbm, 211, rfl⟩
abbrev main_call0_call0_v147 : Ref sig .tc := ⟨.hbm, 212, rfl⟩
abbrev main_call0_call0_v148 : Ref sig .tc := ⟨.hbm, 213, rfl⟩
abbrev main_call0_call0_v149 : Ref sig .tc := ⟨.hbm, 214, rfl⟩
abbrev main_call0_call0_c_38 : Ref sig .tc := ⟨.hbm, 215, rfl⟩
abbrev main_call0_call0_v150 : Ref sig .tc := ⟨.hbm, 216, rfl⟩
abbrev main_call0_call0_v151 : Ref sig .tc := ⟨.hbm, 217, rfl⟩
abbrev main_call0_call0_c_39 : Ref sig .tc := ⟨.hbm, 218, rfl⟩
abbrev main_call0_call0_v152 : Ref sig .tc := ⟨.hbm, 219, rfl⟩
abbrev main_call0_call0_v153 : Ref sig .tc := ⟨.hbm, 220, rfl⟩
abbrev main_call0_call0_v154 : Ref sig .tc := ⟨.hbm, 221, rfl⟩
abbrev main_call0_call0_v155 : Ref sig .tc := ⟨.hbm, 222, rfl⟩
abbrev main_call0_call0_v156 : Ref sig .tc := ⟨.hbm, 223, rfl⟩
abbrev main_call0_call0_c_40 : Ref sig .tc := ⟨.hbm, 224, rfl⟩
abbrev main_call0_call0_v157 : Ref sig .tc := ⟨.hbm, 225, rfl⟩
abbrev main_call0_call0_v158 : Ref sig .tc := ⟨.hbm, 226, rfl⟩
abbrev main_call0_call0_c_41 : Ref sig .tc := ⟨.hbm, 227, rfl⟩
abbrev main_call0_call0_v159 : Ref sig .tc := ⟨.hbm, 228, rfl⟩
abbrev main_call0_call0_v160 : Ref sig .tc := ⟨.hbm, 229, rfl⟩
abbrev main_call0_call0_v161 : Ref sig .tc := ⟨.hbm, 230, rfl⟩
abbrev main_call0_call0_v162 : Ref sig .tc := ⟨.hbm, 231, rfl⟩
abbrev main_call0_call0_v163 : Ref sig .tc := ⟨.hbm, 232, rfl⟩
abbrev main_call0_call0_c_42 : Ref sig .tc := ⟨.hbm, 233, rfl⟩
abbrev main_call0_call0_v164 : Ref sig .tc := ⟨.hbm, 234, rfl⟩
abbrev main_call0_call0_v165 : Ref sig .tc := ⟨.hbm, 235, rfl⟩
abbrev main_call0_call0_c_43 : Ref sig .tc := ⟨.hbm, 236, rfl⟩
abbrev main_call0_call0_v166 : Ref sig .tc := ⟨.hbm, 237, rfl⟩
abbrev main_call0_call0_v167 : Ref sig .tc := ⟨.hbm, 238, rfl⟩
abbrev main_call0_call0_v168 : Ref sig .tc := ⟨.hbm, 239, rfl⟩
abbrev main_call0_call0_v169 : Ref sig .tc := ⟨.hbm, 240, rfl⟩
abbrev main_call0_call0_v170 : Ref sig .tc := ⟨.hbm, 241, rfl⟩
abbrev main_call0_v11_0 : Ref sig .tc := ⟨.hbm, 242, rfl⟩
abbrev main_call0_call0_v172 : Ref sig .tc := ⟨.hbm, 243, rfl⟩
abbrev main_call0_call0_v173 : Ref sig .tc := ⟨.hbm, 244, rfl⟩
abbrev main_call0_call0_c_44 : Ref sig .tc := ⟨.hbm, 245, rfl⟩
abbrev main_call0_call0_v174 : Ref sig .tc := ⟨.hbm, 246, rfl⟩
abbrev main_call0_v11_1 : Ref sig .tc := ⟨.hbm, 247, rfl⟩
abbrev main_call0_v12 : Ref sig .tc := ⟨.hbm, 248, rfl⟩
abbrev main_call0_v13 : Ref sig .tc := ⟨.hbm, 249, rfl⟩
abbrev main_v7 : Ref sig .tc := ⟨.hbm, 250, rfl⟩
abbrev main_v8 : Ref sig .tc := ⟨.hbm, 251, rfl⟩
abbrev main_v9 : Ref sig .tc := ⟨.hbm, 252, rfl⟩
abbrev main_v10 : Ref sig .tc := ⟨.hbm, 253, rfl⟩
abbrev main_v11 : Ref sig .tc := ⟨.hbm, 254, rfl⟩
abbrev main_call1_cst : Ref sig .tc := ⟨.hbm, 255, rfl⟩
abbrev main_call1_cst_0 : Ref sig .tc := ⟨.hbm, 256, rfl⟩
abbrev main_call1_call0_v0 : Ref sig .tc := ⟨.hbm, 257, rfl⟩
abbrev main_call1_call0_v1 : Ref sig .tc := ⟨.hbm, 258, rfl⟩
abbrev main_call1_call0_v2 : Ref sig .tc := ⟨.hbm, 259, rfl⟩
abbrev main_call1_call0_v3 : Ref sig .tc := ⟨.hbm, 260, rfl⟩
abbrev main_call1_call0_v4 : Ref sig .tc := ⟨.hbm, 261, rfl⟩
abbrev main_call1_call0_v5 : Ref sig .tc := ⟨.hbm, 262, rfl⟩
abbrev main_call1_call0_v6 : Ref sig .tc := ⟨.hbm, 263, rfl⟩
abbrev main_call1_call0_v7 : Ref sig .tc := ⟨.hbm, 264, rfl⟩
abbrev main_call1_call0_v8 : Ref sig .tc := ⟨.hbm, 265, rfl⟩
abbrev main_call1_call0_c : Ref sig .tc := ⟨.hbm, 266, rfl⟩
abbrev main_call1_call0_v9 : Ref sig .tc := ⟨.hbm, 267, rfl⟩
abbrev main_call1_call0_v10 : Ref sig .tc := ⟨.hbm, 268, rfl⟩
abbrev main_call1_call0_c_0 : Ref sig .tc := ⟨.hbm, 269, rfl⟩
abbrev main_call1_call0_v11 : Ref sig .tc := ⟨.hbm, 270, rfl⟩
abbrev main_call1_call0_v12 : Ref sig .tc := ⟨.hbm, 271, rfl⟩
abbrev main_call1_call0_v13 : Ref sig .tc := ⟨.hbm, 272, rfl⟩
abbrev main_call1_call0_c_1 : Ref sig .tc := ⟨.hbm, 273, rfl⟩
abbrev main_call1_call0_v14 : Ref sig .tc := ⟨.hbm, 274, rfl⟩
abbrev main_call1_call0_v15 : Ref sig .tc := ⟨.hbm, 275, rfl⟩
abbrev main_call1_call0_v16 : Ref sig .tc := ⟨.hbm, 276, rfl⟩
abbrev main_call1_call0_v17 : Ref sig .tc := ⟨.hbm, 277, rfl⟩
abbrev main_call1_call0_call0_v0 : Ref sig .tc := ⟨.hbm, 278, rfl⟩
abbrev main_call1_call0_call0_c : Ref sig .tc := ⟨.hbm, 279, rfl⟩
abbrev main_call1_call0_call0_v1 : Ref sig .tc := ⟨.hbm, 280, rfl⟩
abbrev main_call1_call0_call0_v2 : Ref sig .tc := ⟨.hbm, 281, rfl⟩
abbrev main_call1_call0_call0_v3 : Ref sig .tc := ⟨.hbm, 282, rfl⟩
abbrev main_call1_call0_call0_v4 : Ref sig .tc := ⟨.hbm, 283, rfl⟩
abbrev main_call1_call0_call0_v5 : Ref sig .tc := ⟨.hbm, 284, rfl⟩
abbrev main_call1_call0_call0_v6 : Ref sig .tc := ⟨.hbm, 285, rfl⟩
abbrev main_call1_call0_call0_c_0 : Ref sig .tc := ⟨.hbm, 286, rfl⟩
abbrev main_call1_call0_call0_v7 : Ref sig .tc := ⟨.hbm, 287, rfl⟩
abbrev main_call1_call0_call0_v8 : Ref sig .tc := ⟨.hbm, 288, rfl⟩
abbrev main_call1_call0_call0_c_1 : Ref sig .tc := ⟨.hbm, 289, rfl⟩
abbrev main_call1_call0_call0_v9 : Ref sig .tc := ⟨.hbm, 290, rfl⟩
abbrev main_call1_call0_call0_v10 : Ref sig .tc := ⟨.hbm, 291, rfl⟩
abbrev main_call1_call0_call0_v11 : Ref sig .tc := ⟨.hbm, 292, rfl⟩
abbrev main_call1_call0_call0_v12 : Ref sig .tc := ⟨.hbm, 293, rfl⟩
abbrev main_call1_call0_call0_v13 : Ref sig .tc := ⟨.hbm, 294, rfl⟩
abbrev main_call1_call0_call0_c_2 : Ref sig .tc := ⟨.hbm, 295, rfl⟩
abbrev main_call1_call0_call0_v14 : Ref sig .tc := ⟨.hbm, 296, rfl⟩
abbrev main_call1_call0_call0_v15 : Ref sig .tc := ⟨.hbm, 297, rfl⟩
abbrev main_call1_call0_call0_c_3 : Ref sig .tc := ⟨.hbm, 298, rfl⟩
abbrev main_call1_call0_call0_v16 : Ref sig .tc := ⟨.hbm, 299, rfl⟩
abbrev main_call1_call0_call0_v17 : Ref sig .tc := ⟨.hbm, 300, rfl⟩
abbrev main_call1_call0_call0_v18 : Ref sig .tc := ⟨.hbm, 301, rfl⟩
abbrev main_call1_call0_call0_v19 : Ref sig .tc := ⟨.hbm, 302, rfl⟩
abbrev main_call1_call0_call0_v20 : Ref sig .tc := ⟨.hbm, 303, rfl⟩
abbrev main_call1_call0_call0_c_4 : Ref sig .tc := ⟨.hbm, 304, rfl⟩
abbrev main_call1_call0_call0_v21 : Ref sig .tc := ⟨.hbm, 305, rfl⟩
abbrev main_call1_call0_call0_v22 : Ref sig .tc := ⟨.hbm, 306, rfl⟩
abbrev main_call1_call0_call0_c_5 : Ref sig .tc := ⟨.hbm, 307, rfl⟩
abbrev main_call1_call0_call0_v23 : Ref sig .tc := ⟨.hbm, 308, rfl⟩
abbrev main_call1_call0_call0_v24 : Ref sig .tc := ⟨.hbm, 309, rfl⟩
abbrev main_call1_call0_call0_v25 : Ref sig .tc := ⟨.hbm, 310, rfl⟩
abbrev main_call1_call0_call0_v26 : Ref sig .tc := ⟨.hbm, 311, rfl⟩
abbrev main_call1_call0_call0_v27 : Ref sig .tc := ⟨.hbm, 312, rfl⟩
abbrev main_call1_call0_call0_c_6 : Ref sig .tc := ⟨.hbm, 313, rfl⟩
abbrev main_call1_call0_call0_v28 : Ref sig .tc := ⟨.hbm, 314, rfl⟩
abbrev main_call1_call0_call0_v29 : Ref sig .tc := ⟨.hbm, 315, rfl⟩
abbrev main_call1_call0_call0_c_7 : Ref sig .tc := ⟨.hbm, 316, rfl⟩
abbrev main_call1_call0_call0_v30 : Ref sig .tc := ⟨.hbm, 317, rfl⟩
abbrev main_call1_call0_call0_v31 : Ref sig .tc := ⟨.hbm, 318, rfl⟩
abbrev main_call1_call0_call0_v32 : Ref sig .tc := ⟨.hbm, 319, rfl⟩
abbrev main_call1_call0_call0_v33 : Ref sig .tc := ⟨.hbm, 320, rfl⟩
abbrev main_call1_call0_call0_v34 : Ref sig .tc := ⟨.hbm, 321, rfl⟩
abbrev main_call1_call0_call0_v35 : Ref sig .tc := ⟨.hbm, 322, rfl⟩
abbrev main_call1_call0_call0_v36 : Ref sig .tc := ⟨.hbm, 323, rfl⟩
abbrev main_call1_call0_call0_v37 : Ref sig .tc := ⟨.hbm, 324, rfl⟩
abbrev main_call1_call0_call0_c_8 : Ref sig .tc := ⟨.hbm, 325, rfl⟩
abbrev main_call1_call0_call0_v38 : Ref sig .tc := ⟨.hbm, 326, rfl⟩
abbrev main_call1_call0_call0_v39 : Ref sig .tc := ⟨.hbm, 327, rfl⟩
abbrev main_call1_call0_call0_v40 : Ref sig .tc := ⟨.hbm, 328, rfl⟩
abbrev main_call1_call0_call0_c_9 : Ref sig .tc := ⟨.hbm, 329, rfl⟩
abbrev main_call1_call0_call0_v41 : Ref sig .tc := ⟨.hbm, 330, rfl⟩
abbrev main_call1_call0_call0_v42 : Ref sig .tc := ⟨.hbm, 331, rfl⟩
abbrev main_call1_call0_call0_c_10 : Ref sig .tc := ⟨.hbm, 332, rfl⟩
abbrev main_call1_call0_call0_v43 : Ref sig .tc := ⟨.hbm, 333, rfl⟩
abbrev main_call1_call0_call0_v44 : Ref sig .tc := ⟨.hbm, 334, rfl⟩
abbrev main_call1_call0_call0_v45 : Ref sig .tc := ⟨.hbm, 335, rfl⟩
abbrev main_call1_call0_call0_v46 : Ref sig .tc := ⟨.hbm, 336, rfl⟩
abbrev main_call1_call0_call0_v47 : Ref sig .tc := ⟨.hbm, 337, rfl⟩
abbrev main_call1_call0_call0_c_11 : Ref sig .tc := ⟨.hbm, 338, rfl⟩
abbrev main_call1_call0_call0_v48 : Ref sig .tc := ⟨.hbm, 339, rfl⟩
abbrev main_call1_call0_call0_v49 : Ref sig .tc := ⟨.hbm, 340, rfl⟩
abbrev main_call1_call0_call0_c_12 : Ref sig .tc := ⟨.hbm, 341, rfl⟩
abbrev main_call1_call0_call0_v50 : Ref sig .tc := ⟨.hbm, 342, rfl⟩
abbrev main_call1_call0_call0_v51 : Ref sig .tc := ⟨.hbm, 343, rfl⟩
abbrev main_call1_call0_call0_v52 : Ref sig .tc := ⟨.hbm, 344, rfl⟩
abbrev main_call1_call0_call0_v53 : Ref sig .tc := ⟨.hbm, 345, rfl⟩
abbrev main_call1_call0_call0_v54 : Ref sig .tc := ⟨.hbm, 346, rfl⟩
abbrev main_call1_call0_call0_c_13 : Ref sig .tc := ⟨.hbm, 347, rfl⟩
abbrev main_call1_call0_call0_v55 : Ref sig .tc := ⟨.hbm, 348, rfl⟩
abbrev main_call1_call0_call0_v56 : Ref sig .tc := ⟨.hbm, 349, rfl⟩
abbrev main_call1_call0_call0_c_14 : Ref sig .tc := ⟨.hbm, 350, rfl⟩
abbrev main_call1_call0_call0_v57 : Ref sig .tc := ⟨.hbm, 351, rfl⟩
abbrev main_call1_call0_call0_v58 : Ref sig .tc := ⟨.hbm, 352, rfl⟩
abbrev main_call1_call0_call0_v59 : Ref sig .tc := ⟨.hbm, 353, rfl⟩
abbrev main_call1_call0_call0_v60 : Ref sig .tc := ⟨.hbm, 354, rfl⟩
abbrev main_call1_call0_call0_v61 : Ref sig .tc := ⟨.hbm, 355, rfl⟩
abbrev main_call1_call0_call0_c_15 : Ref sig .tc := ⟨.hbm, 356, rfl⟩
abbrev main_call1_call0_call0_v62 : Ref sig .tc := ⟨.hbm, 357, rfl⟩
abbrev main_call1_call0_call0_v63 : Ref sig .tc := ⟨.hbm, 358, rfl⟩
abbrev main_call1_call0_call0_c_16 : Ref sig .tc := ⟨.hbm, 359, rfl⟩
abbrev main_call1_call0_call0_v64 : Ref sig .tc := ⟨.hbm, 360, rfl⟩
abbrev main_call1_call0_call0_v65 : Ref sig .tc := ⟨.hbm, 361, rfl⟩
abbrev main_call1_call0_call0_v66 : Ref sig .tc := ⟨.hbm, 362, rfl⟩
abbrev main_call1_call0_call0_v67 : Ref sig .tc := ⟨.hbm, 363, rfl⟩
abbrev main_call1_call0_call0_v68 : Ref sig .tc := ⟨.hbm, 364, rfl⟩
abbrev main_call1_call0_call0_v69 : Ref sig .tc := ⟨.hbm, 365, rfl⟩
abbrev main_call1_call0_call0_v70 : Ref sig .tc := ⟨.hbm, 366, rfl⟩
abbrev main_call1_call0_call0_v71 : Ref sig .tc := ⟨.hbm, 367, rfl⟩
abbrev main_call1_call0_call0_c_17 : Ref sig .tc := ⟨.hbm, 368, rfl⟩
abbrev main_call1_call0_call0_v72 : Ref sig .tc := ⟨.hbm, 369, rfl⟩
abbrev main_call1_call0_call0_v73 : Ref sig .tc := ⟨.hbm, 370, rfl⟩
abbrev main_call1_call0_call0_v74 : Ref sig .tc := ⟨.hbm, 371, rfl⟩
abbrev main_call1_call0_call0_c_18 : Ref sig .tc := ⟨.hbm, 372, rfl⟩
abbrev main_call1_call0_call0_v75 : Ref sig .tc := ⟨.hbm, 373, rfl⟩
abbrev main_call1_call0_call0_v76 : Ref sig .tc := ⟨.hbm, 374, rfl⟩
abbrev main_call1_call0_call0_c_19 : Ref sig .tc := ⟨.hbm, 375, rfl⟩
abbrev main_call1_call0_call0_v77 : Ref sig .tc := ⟨.hbm, 376, rfl⟩
abbrev main_call1_call0_call0_v78 : Ref sig .tc := ⟨.hbm, 377, rfl⟩
abbrev main_call1_call0_call0_v79 : Ref sig .tc := ⟨.hbm, 378, rfl⟩
abbrev main_call1_call0_call0_v80 : Ref sig .tc := ⟨.hbm, 379, rfl⟩
abbrev main_call1_call0_call0_v81 : Ref sig .tc := ⟨.hbm, 380, rfl⟩
abbrev main_call1_call0_call0_c_20 : Ref sig .tc := ⟨.hbm, 381, rfl⟩
abbrev main_call1_call0_call0_v82 : Ref sig .tc := ⟨.hbm, 382, rfl⟩
abbrev main_call1_call0_call0_v83 : Ref sig .tc := ⟨.hbm, 383, rfl⟩
abbrev main_call1_call0_call0_c_21 : Ref sig .tc := ⟨.hbm, 384, rfl⟩
abbrev main_call1_call0_call0_v84 : Ref sig .tc := ⟨.hbm, 385, rfl⟩
abbrev main_call1_call0_call0_v85 : Ref sig .tc := ⟨.hbm, 386, rfl⟩
abbrev main_call1_call0_call0_v86 : Ref sig .tc := ⟨.hbm, 387, rfl⟩
abbrev main_call1_call0_call0_v87 : Ref sig .tc := ⟨.hbm, 388, rfl⟩
abbrev main_call1_call0_call0_v88 : Ref sig .tc := ⟨.hbm, 389, rfl⟩
abbrev main_call1_call0_call0_c_22 : Ref sig .tc := ⟨.hbm, 390, rfl⟩
abbrev main_call1_call0_call0_v89 : Ref sig .tc := ⟨.hbm, 391, rfl⟩
abbrev main_call1_call0_call0_v90 : Ref sig .tc := ⟨.hbm, 392, rfl⟩
abbrev main_call1_call0_call0_c_23 : Ref sig .tc := ⟨.hbm, 393, rfl⟩
abbrev main_call1_call0_call0_v91 : Ref sig .tc := ⟨.hbm, 394, rfl⟩
abbrev main_call1_call0_call0_v92 : Ref sig .tc := ⟨.hbm, 395, rfl⟩
abbrev main_call1_call0_call0_v93 : Ref sig .tc := ⟨.hbm, 396, rfl⟩
abbrev main_call1_call0_call0_v94 : Ref sig .tc := ⟨.hbm, 397, rfl⟩
abbrev main_call1_call0_call0_v95 : Ref sig .tc := ⟨.hbm, 398, rfl⟩
abbrev main_call1_call0_call0_c_24 : Ref sig .tc := ⟨.hbm, 399, rfl⟩
abbrev main_call1_call0_call0_v96 : Ref sig .tc := ⟨.hbm, 400, rfl⟩
abbrev main_call1_call0_call0_v97 : Ref sig .tc := ⟨.hbm, 401, rfl⟩
abbrev main_call1_call0_call0_c_25 : Ref sig .tc := ⟨.hbm, 402, rfl⟩
abbrev main_call1_call0_call0_v98 : Ref sig .tc := ⟨.hbm, 403, rfl⟩
abbrev main_call1_call0_call0_v99 : Ref sig .tc := ⟨.hbm, 404, rfl⟩
abbrev main_call1_call0_call0_v100 : Ref sig .tc := ⟨.hbm, 405, rfl⟩
abbrev main_call1_call0_call0_v101 : Ref sig .tc := ⟨.hbm, 406, rfl⟩
abbrev main_call1_call0_call0_v102 : Ref sig .tc := ⟨.hbm, 407, rfl⟩
abbrev main_call1_call0_call0_v103 : Ref sig .tc := ⟨.hbm, 408, rfl⟩
abbrev main_call1_call0_call0_v104 : Ref sig .tc := ⟨.hbm, 409, rfl⟩
abbrev main_call1_call0_call0_v105 : Ref sig .tc := ⟨.hbm, 410, rfl⟩
abbrev main_call1_call0_call0_c_26 : Ref sig .tc := ⟨.hbm, 411, rfl⟩
abbrev main_call1_call0_call0_v106 : Ref sig .tc := ⟨.hbm, 412, rfl⟩
abbrev main_call1_call0_call0_v107 : Ref sig .tc := ⟨.hbm, 413, rfl⟩
abbrev main_call1_call0_call0_v108 : Ref sig .tc := ⟨.hbm, 414, rfl⟩
abbrev main_call1_call0_call0_c_27 : Ref sig .tc := ⟨.hbm, 415, rfl⟩
abbrev main_call1_call0_call0_v109 : Ref sig .tc := ⟨.hbm, 416, rfl⟩
abbrev main_call1_call0_call0_v110 : Ref sig .tc := ⟨.hbm, 417, rfl⟩
abbrev main_call1_call0_call0_c_28 : Ref sig .tc := ⟨.hbm, 418, rfl⟩
abbrev main_call1_call0_call0_v111 : Ref sig .tc := ⟨.hbm, 419, rfl⟩
abbrev main_call1_call0_call0_v112 : Ref sig .tc := ⟨.hbm, 420, rfl⟩
abbrev main_call1_call0_call0_v113 : Ref sig .tc := ⟨.hbm, 421, rfl⟩
abbrev main_call1_call0_call0_v114 : Ref sig .tc := ⟨.hbm, 422, rfl⟩
abbrev main_call1_call0_call0_v115 : Ref sig .tc := ⟨.hbm, 423, rfl⟩
abbrev main_call1_call0_call0_c_29 : Ref sig .tc := ⟨.hbm, 424, rfl⟩
abbrev main_call1_call0_call0_v116 : Ref sig .tc := ⟨.hbm, 425, rfl⟩
abbrev main_call1_call0_call0_v117 : Ref sig .tc := ⟨.hbm, 426, rfl⟩
abbrev main_call1_call0_call0_c_30 : Ref sig .tc := ⟨.hbm, 427, rfl⟩
abbrev main_call1_call0_call0_v118 : Ref sig .tc := ⟨.hbm, 428, rfl⟩
abbrev main_call1_call0_call0_v119 : Ref sig .tc := ⟨.hbm, 429, rfl⟩
abbrev main_call1_call0_call0_v120 : Ref sig .tc := ⟨.hbm, 430, rfl⟩
abbrev main_call1_call0_call0_v121 : Ref sig .tc := ⟨.hbm, 431, rfl⟩
abbrev main_call1_call0_call0_v122 : Ref sig .tc := ⟨.hbm, 432, rfl⟩
abbrev main_call1_call0_call0_c_31 : Ref sig .tc := ⟨.hbm, 433, rfl⟩
abbrev main_call1_call0_call0_v123 : Ref sig .tc := ⟨.hbm, 434, rfl⟩
abbrev main_call1_call0_call0_v124 : Ref sig .tc := ⟨.hbm, 435, rfl⟩
abbrev main_call1_call0_call0_c_32 : Ref sig .tc := ⟨.hbm, 436, rfl⟩
abbrev main_call1_call0_call0_v125 : Ref sig .tc := ⟨.hbm, 437, rfl⟩
abbrev main_call1_call0_call0_v126 : Ref sig .tc := ⟨.hbm, 438, rfl⟩
abbrev main_call1_call0_call0_v127 : Ref sig .tc := ⟨.hbm, 439, rfl⟩
abbrev main_call1_call0_call0_v128 : Ref sig .tc := ⟨.hbm, 440, rfl⟩
abbrev main_call1_call0_call0_v129 : Ref sig .tc := ⟨.hbm, 441, rfl⟩
abbrev main_call1_call0_call0_c_33 : Ref sig .tc := ⟨.hbm, 442, rfl⟩
abbrev main_call1_call0_call0_v130 : Ref sig .tc := ⟨.hbm, 443, rfl⟩
abbrev main_call1_call0_call0_v131 : Ref sig .tc := ⟨.hbm, 444, rfl⟩
abbrev main_call1_call0_call0_c_34 : Ref sig .tc := ⟨.hbm, 445, rfl⟩
abbrev main_call1_call0_call0_v132 : Ref sig .tc := ⟨.hbm, 446, rfl⟩
abbrev main_call1_call0_call0_v133 : Ref sig .tc := ⟨.hbm, 447, rfl⟩
abbrev main_call1_call0_call0_v134 : Ref sig .tc := ⟨.hbm, 448, rfl⟩
abbrev main_call1_call0_call0_v135 : Ref sig .tc := ⟨.hbm, 449, rfl⟩
abbrev main_call1_call0_call0_v136 : Ref sig .tc := ⟨.hbm, 450, rfl⟩
abbrev main_call1_call0_call0_v137 : Ref sig .tc := ⟨.hbm, 451, rfl⟩
abbrev main_call1_call0_call0_v138 : Ref sig .tc := ⟨.hbm, 452, rfl⟩
abbrev main_call1_call0_call0_v139 : Ref sig .tc := ⟨.hbm, 453, rfl⟩
abbrev main_call1_call0_call0_c_35 : Ref sig .tc := ⟨.hbm, 454, rfl⟩
abbrev main_call1_call0_call0_v140 : Ref sig .tc := ⟨.hbm, 455, rfl⟩
abbrev main_call1_call0_call0_v141 : Ref sig .tc := ⟨.hbm, 456, rfl⟩
abbrev main_call1_call0_call0_v142 : Ref sig .tc := ⟨.hbm, 457, rfl⟩
abbrev main_call1_call0_call0_c_36 : Ref sig .tc := ⟨.hbm, 458, rfl⟩
abbrev main_call1_call0_call0_v143 : Ref sig .tc := ⟨.hbm, 459, rfl⟩
abbrev main_call1_call0_call0_v144 : Ref sig .tc := ⟨.hbm, 460, rfl⟩
abbrev main_call1_call0_call0_c_37 : Ref sig .tc := ⟨.hbm, 461, rfl⟩
abbrev main_call1_call0_call0_v145 : Ref sig .tc := ⟨.hbm, 462, rfl⟩
abbrev main_call1_call0_call0_v146 : Ref sig .tc := ⟨.hbm, 463, rfl⟩
abbrev main_call1_call0_call0_v147 : Ref sig .tc := ⟨.hbm, 464, rfl⟩
abbrev main_call1_call0_call0_v148 : Ref sig .tc := ⟨.hbm, 465, rfl⟩
abbrev main_call1_call0_call0_v149 : Ref sig .tc := ⟨.hbm, 466, rfl⟩
abbrev main_call1_call0_call0_c_38 : Ref sig .tc := ⟨.hbm, 467, rfl⟩
abbrev main_call1_call0_call0_v150 : Ref sig .tc := ⟨.hbm, 468, rfl⟩
abbrev main_call1_call0_call0_v151 : Ref sig .tc := ⟨.hbm, 469, rfl⟩
abbrev main_call1_call0_call0_c_39 : Ref sig .tc := ⟨.hbm, 470, rfl⟩
abbrev main_call1_call0_call0_v152 : Ref sig .tc := ⟨.hbm, 471, rfl⟩
abbrev main_call1_call0_call0_v153 : Ref sig .tc := ⟨.hbm, 472, rfl⟩
abbrev main_call1_call0_call0_v154 : Ref sig .tc := ⟨.hbm, 473, rfl⟩
abbrev main_call1_call0_call0_v155 : Ref sig .tc := ⟨.hbm, 474, rfl⟩
abbrev main_call1_call0_call0_v156 : Ref sig .tc := ⟨.hbm, 475, rfl⟩
abbrev main_call1_call0_call0_c_40 : Ref sig .tc := ⟨.hbm, 476, rfl⟩
abbrev main_call1_call0_call0_v157 : Ref sig .tc := ⟨.hbm, 477, rfl⟩
abbrev main_call1_call0_call0_v158 : Ref sig .tc := ⟨.hbm, 478, rfl⟩
abbrev main_call1_call0_call0_c_41 : Ref sig .tc := ⟨.hbm, 479, rfl⟩
abbrev main_call1_call0_call0_v159 : Ref sig .tc := ⟨.hbm, 480, rfl⟩
abbrev main_call1_call0_call0_v160 : Ref sig .tc := ⟨.hbm, 481, rfl⟩
abbrev main_call1_call0_call0_v161 : Ref sig .tc := ⟨.hbm, 482, rfl⟩
abbrev main_call1_call0_call0_v162 : Ref sig .tc := ⟨.hbm, 483, rfl⟩
abbrev main_call1_call0_call0_v163 : Ref sig .tc := ⟨.hbm, 484, rfl⟩
abbrev main_call1_call0_call0_c_42 : Ref sig .tc := ⟨.hbm, 485, rfl⟩
abbrev main_call1_call0_call0_v164 : Ref sig .tc := ⟨.hbm, 486, rfl⟩
abbrev main_call1_call0_call0_v165 : Ref sig .tc := ⟨.hbm, 487, rfl⟩
abbrev main_call1_call0_call0_c_43 : Ref sig .tc := ⟨.hbm, 488, rfl⟩
abbrev main_call1_call0_call0_v166 : Ref sig .tc := ⟨.hbm, 489, rfl⟩
abbrev main_call1_call0_call0_v167 : Ref sig .tc := ⟨.hbm, 490, rfl⟩
abbrev main_call1_call0_call0_v168 : Ref sig .tc := ⟨.hbm, 491, rfl⟩
abbrev main_call1_call0_call0_v169 : Ref sig .tc := ⟨.hbm, 492, rfl⟩
abbrev main_call1_call0_call0_v170 : Ref sig .tc := ⟨.hbm, 493, rfl⟩
abbrev main_call1_call0_v18_0 : Ref sig .tc := ⟨.hbm, 494, rfl⟩
abbrev main_call1_call0_call0_v172 : Ref sig .tc := ⟨.hbm, 495, rfl⟩
abbrev main_call1_call0_call0_v173 : Ref sig .tc := ⟨.hbm, 496, rfl⟩
abbrev main_call1_call0_call0_c_44 : Ref sig .tc := ⟨.hbm, 497, rfl⟩
abbrev main_call1_call0_call0_v174 : Ref sig .tc := ⟨.hbm, 498, rfl⟩
abbrev main_call1_call0_v18_1 : Ref sig .tc := ⟨.hbm, 499, rfl⟩
abbrev main_call1_call0_v19 : Ref sig .tc := ⟨.hbm, 500, rfl⟩
abbrev main_call1_call0_c_2 : Ref sig .tc := ⟨.hbm, 501, rfl⟩
abbrev main_call1_call0_v20 : Ref sig .tc := ⟨.hbm, 502, rfl⟩
abbrev main_call1_call0_v21 : Ref sig .tc := ⟨.hbm, 503, rfl⟩
abbrev main_call1_call0_c_3 : Ref sig .tc := ⟨.hbm, 504, rfl⟩
abbrev main_call1_call0_v22 : Ref sig .tc := ⟨.hbm, 505, rfl⟩
abbrev main_call1_call0_v23 : Ref sig .tc := ⟨.hbm, 506, rfl⟩
abbrev main_call1_call0_v24 : Ref sig .tc := ⟨.hbm, 507, rfl⟩
abbrev main_call1_call0_cst : Ref sig .tc := ⟨.hbm, 508, rfl⟩
abbrev main_call1_call0_v25 : Ref sig .tc := ⟨.hbm, 509, rfl⟩
abbrev main_call1_call0_v26 : Ref sig .tc := ⟨.hbm, 510, rfl⟩
abbrev main_call1_call0_v27 : Ref sig .tc := ⟨.hbm, 511, rfl⟩
abbrev main_call1_call0_v28 : Ref sig .tc := ⟨.hbm, 512, rfl⟩
abbrev main_call1_call0_v29 : Ref sig .tc := ⟨.hbm, 513, rfl⟩
abbrev main_call1_call0_v30 : Ref sig .tc := ⟨.hbm, 514, rfl⟩
abbrev main_call1_call0_v31 : Ref sig .tc := ⟨.hbm, 515, rfl⟩
abbrev main_call1_call0_v32 : Ref sig .tc := ⟨.hbm, 516, rfl⟩
abbrev main_call1_v0 : Ref sig .tc := ⟨.hbm, 517, rfl⟩
abbrev main_call1_v1 : Ref sig .tc := ⟨.hbm, 518, rfl⟩
abbrev main_call1_v2 : Ref sig .tc := ⟨.hbm, 519, rfl⟩
abbrev main_call1_v3 : Ref sig .tc := ⟨.hbm, 520, rfl⟩
abbrev main_v12 : Ref sig .tc := ⟨.hbm, 521, rfl⟩
abbrev main_v13_0 : Ref sig .tc := ⟨.hbm, 522, rfl⟩
abbrev main_v13_1 : Ref sig .tc := ⟨.hbm, 523, rfl⟩
abbrev main_v14 : Ref sig .tc := ⟨.hbm, 524, rfl⟩
abbrev main_v15 : Ref sig .tc := ⟨.hbm, 525, rfl⟩
abbrev main_v16_0 : Ref sig .tc := ⟨.hbm, 526, rfl⟩
abbrev main_v16_1 : Ref sig .tc := ⟨.hbm, 527, rfl⟩
abbrev main_v17 : Ref sig .tc := ⟨.hbm, 528, rfl⟩
abbrev cc0_stg0_0 : Ref sig .tc := ⟨.vmem, 0, rfl⟩
abbrev cc0_stg0_1 : Ref sig .tc := ⟨.vmem, 1, rfl⟩
abbrev cc1_stg4_0 : Ref sig .tc := ⟨.vmem, 2, rfl⟩
abbrev cc1_stg4_1 : Ref sig .tc := ⟨.vmem, 3, rfl⟩
abbrev cc1_stg5_0 : Ref sig .tc := ⟨.vmem, 4, rfl⟩
abbrev cc1_stg5_1 : Ref sig .tc := ⟨.vmem, 5, rfl⟩
abbrev cc1_stg6_0 : Ref sig .tc := ⟨.vmem, 6, rfl⟩
abbrev cc1_stg7_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc0_stg1_0 : Ref sig .tc := ⟨.smem, 0, rfl⟩
abbrev cc0_stg2_0 : Ref sig .tc := ⟨.smem, 1, rfl⟩
abbrev cc1_stg0_0 : Ref sig .tc := ⟨.smem, 2, rfl⟩
abbrev cc1_stg1_0 : Ref sig .tc := ⟨.smem, 3, rfl⟩
abbrev cc1_stg2_0 : Ref sig .tc := ⟨.smem, 4, rfl⟩
abbrev cc1_stg3_0 : Ref sig .tc := ⟨.smem, 5, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem7_0 : DmaSem sig := 13
abbrev cc2_sem0_0 : DmaSem sig := 14
abbrev cc2_sem1_0 : DmaSem sig := 15
abbrev cc2_sem1_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v18 : BitVec 1 := Scalar.cmpi .eq arg0 c0_i32
  let v19 : BitVec 32 := Scalar.extui v18
  let c0_i32_3 : BitVec 32 := 0#32
  let v20 : BitVec 1 := Scalar.cmpi .ne v19 c0_i32_3
  v20

def k0_cond2 (i : grid0.Coords) : BitVec 1 :=
  let arg0 : BitVec 32 := BitVec.ofNat 32 (i 0).val
  let c0_i32_4 : BitVec 32 := 0#32
  let v21 : BitVec 1 := Scalar.cmpi .sgt arg0 c0_i32_4
  let v22 : BitVec 32 := Scalar.extui v21
  let c0_i32_5 : BitVec 32 := 0#32
  let v23 : BitVec 1 := Scalar.cmpi .ne v22 c0_i32_5
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k1_cond2 (i : grid1.Coords) : BitVec 1 :=
  let arg0 : BitVec 32 := BitVec.ofNat 32 (i 0).val
  let c0_i32_17 : BitVec 32 := 0#32
  let v43 : BitVec 1 := Scalar.cmpi .sgt arg0 c0_i32_17
  let v44 : BitVec 32 := Scalar.extui v43
  let c0_i32_18 : BitVec 32 := 0#32
  let v45 : BitVec 1 := Scalar.cmpi .ne v44 c0_i32_18
  v45

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x65536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x65536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S32x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S32x1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S32x65536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S32x1000000 : Shape := ⟨2, ![32, 1000000]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S32 : Shape := ⟨1, ![32]⟩
abbrev S32x1 : Shape := ⟨2, ![32, 1]⟩
abbrev S1x1000000 : Shape := ⟨2, ![1, 1000000]⟩

abbrev nBuf : Space → Nat
  | .hbm => 557
  | .vmem => 0
  | .smem => 0
  | _ => 0

abbrev hbmTy0_0 (i : Nat) : BufTy := match i % 128 with
  | 0 => ⟨S32x1000000, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S32x1000000, .f32⟩
  | 8 => ⟨S32x1000000, .f32⟩
  | 9 => ⟨S32x1000000, .f32⟩
  | 10 => ⟨S_, .f32⟩
  | 11 => ⟨S_, .f32⟩
  | 12 => ⟨S_, .f32⟩
  | 13 => ⟨S_, .f32⟩
  | 14 => ⟨S_, .f32⟩
  | 15 => ⟨S32x1000000, .f32⟩
  | 16 => ⟨S32x1000000, .f32⟩
  | 17 => ⟨S_, .f32⟩
  | 18 => ⟨S_, .f32⟩
  | 19 => ⟨S_, .f32⟩
  | 20 => ⟨S32x1000000, .f32⟩
  | 21 => ⟨S32x1000000, .f32⟩
  | 22 => ⟨S32x1000000, .f32⟩
  | 23 => ⟨S32x1000000, .f32⟩
  | 24 => ⟨S32x1000000, .f32⟩
  | 25 => ⟨S32x1000000, .f32⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i32⟩
  | 34 => ⟨S1, .i32⟩
  | 35 => ⟨S2, .i32⟩
  | 36 => ⟨S1, .i32⟩
  | 37 => ⟨S_, .i32⟩
  | 38 => ⟨S1, .i32⟩
  | 39 => ⟨S_, .i32⟩
  | 40 => ⟨S2, .i64⟩
  | 41 => ⟨S_, .i64⟩
  | 42 => ⟨S2, .i64⟩
  | 43 => ⟨S2, .i64⟩
  | 44 => ⟨S_, .i64⟩
  | 45 => ⟨S2, .i64⟩
  | 46 => ⟨S2, .i64⟩
  | 47 => ⟨S2, .i32⟩
  | 48 => ⟨S2, .i32⟩
  | 49 => ⟨S_, .i32⟩
  | 50 => ⟨S_, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S32x1000000, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S32x1000000, .f32⟩

abbrev hbmTy0_2 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S2x1, .i32⟩
  | 16 => ⟨S2x1, .i32⟩
  | 17 => ⟨S2x2, .i32⟩
  | 18 => ⟨S1x2, .i32⟩
  | 19 => ⟨S2, .i32⟩
  | 20 => ⟨S1x2, .i32⟩
  | 21 => ⟨S2, .i32⟩
  | 22 => ⟨S_, .f32⟩
  | 23 => ⟨S_, .f32⟩
  | 24 => ⟨S_, .f32⟩
  | 25 => ⟨S1x1, .f32⟩
  | 26 => ⟨S1x1, .f32⟩
  | 27 => ⟨S1, .i32⟩
  | 28 => ⟨S_, .i32⟩
  | 29 => ⟨S1, .i32⟩
  | 30 => ⟨S_, .i32⟩
  | 31 => ⟨S32x1000000, .i64⟩
  | 32 => ⟨S32x1000000, .i64⟩
  | 33 => ⟨S_, .i64⟩
  | 34 => ⟨S32x1000000, .i64⟩
  | 35 => ⟨S32x1000000, .i64⟩
  | 36 => ⟨S_, .i64⟩
  | 37 => ⟨S32x1000000, .i64⟩
  | 38 => ⟨S32x1000000, .i64⟩
  | 39 => ⟨S32x1000000, .i64⟩
  | 40 => ⟨S_, .i64⟩
  | 41 => ⟨S32x1000000, .i64⟩
  | 42 => ⟨S32x1000000, .i64⟩
  | 43 => ⟨S32x1000000, .i32⟩
  | 44 => ⟨S32x1000000, .i32⟩
  | 45 => ⟨S_, .i32⟩
  | 46 => ⟨S_, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S_, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_3 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S32x1000000, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S32x1000000, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S_, .i32⟩
  | 33 => ⟨S32x1000000, .i32⟩
  | 34 => ⟨S32x1000000, .i32⟩
  | 35 => ⟨S32x1000000, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S32x1000000, .i32⟩
  | 45 => ⟨S32x1000000, .i32⟩
  | 46 => ⟨S32x1000000, .i32⟩
  | 47 => ⟨S32x1000000, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S32x1000000, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_4 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S32x1000000, .f32⟩
  | 19 => ⟨S_, .f32⟩
  | 20 => ⟨S32x1000000, .f32⟩
  | 21 => ⟨S32x1000000, .f32⟩
  | 22 => ⟨S1x1, .f32⟩
  | 23 => ⟨S32x1000000, .f32⟩
  | 24 => ⟨S32x1000000, .f32⟩
  | 25 => ⟨S32x1000000, .f32⟩
  | 26 => ⟨S32x1000000, .f32⟩
  | 27 => ⟨S32x1000000, .f32⟩
  | 28 => ⟨S32x1000000, .f32⟩
  | 29 => ⟨S32x1000000, .f32⟩
  | 30 => ⟨S32x1000000, .f32⟩
  | 31 => ⟨S32x1000000, .f32⟩
  | 32 => ⟨S32x1000000, .f32⟩
  | 33 => ⟨S32x1000000, .f32⟩
  | 34 => ⟨S32x1000000, .i32⟩
  | 35 => ⟨S_, .f32⟩
  | 36 => ⟨S_, .i32⟩
  | 37 => ⟨S32, .f32⟩
  | 38 => ⟨S32, .i32⟩
  | 39 => ⟨S32x1, .i32⟩
  | 40 => ⟨S1x1000000, .i32⟩
  | 41 => ⟨S32x1000000, .i32⟩
  | 42 => ⟨S32x1000000, .i32⟩
  | 43 => ⟨S32x1000000, .i1⟩
  | 44 => ⟨S32x1000000, .f32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c : Ref sig .tc := ⟨.hbm, 41, rfl⟩
abbrev main_call0_v5 : Ref sig .tc := ⟨.hbm, 42, rfl⟩
abbrev main_call0_v6 : Ref sig .tc := ⟨.hbm, 43, rfl⟩
abbrev main_call0_c_0 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_call0_v0 : Ref sig .tc := ⟨.hbm, 49, rfl⟩
abbrev main_call0_call0_c : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_c_0 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_c_1 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_call0_v12 : Ref sig .tc := ⟨.hbm, 64, rfl⟩
abbrev main_call0_call0_v13 : Ref sig .tc := ⟨.hbm, 65, rfl⟩
abbrev main_call0_call0_c_2 : Ref sig .tc := ⟨.hbm, 66, rfl⟩
abbrev main_call0_call0_v14 : Ref sig .tc := ⟨.hbm, 67, rfl⟩
abbrev main_call0_call0_v15 : Ref sig .tc := ⟨.hbm, 68, rfl⟩
abbrev main_call0_call0_c_3 : Ref sig .tc := ⟨.hbm, 69, rfl⟩
abbrev main_call0_call0_v16 : Ref sig .tc := ⟨.hbm, 70, rfl⟩
abbrev main_call0_call0_v17 : Ref sig .tc := ⟨.hbm, 71, rfl⟩
abbrev main_call0_call0_v18 : Ref sig .tc := ⟨.hbm, 72, rfl⟩
abbrev main_call0_call0_v19 : Ref sig .tc := ⟨.hbm, 73, rfl⟩
abbrev main_call0_call0_v20 : Ref sig .tc := ⟨.hbm, 74, rfl⟩
abbrev main_call0_call0_c_4 : Ref sig .tc := ⟨.hbm, 75, rfl⟩
abbrev main_call0_call0_v21 : Ref sig .tc := ⟨.hbm, 76, rfl⟩
abbrev main_call0_call0_v22 : Ref sig .tc := ⟨.hbm, 77, rfl⟩
abbrev main_call0_call0_c_5 : Ref sig .tc := ⟨.hbm, 78, rfl⟩
abbrev main_call0_call0_v23 : Ref sig .tc := ⟨.hbm, 79, rfl⟩
abbrev main_call0_call0_v24 : Ref sig .tc := ⟨.hbm, 80, rfl⟩
abbrev main_call0_call0_v25 : Ref sig .tc := ⟨.hbm, 81, rfl⟩
abbrev main_call0_call0_v26 : Ref sig .tc := ⟨.hbm, 82, rfl⟩
abbrev main_call0_call0_v27 : Ref sig .tc := ⟨.hbm, 83, rfl⟩
abbrev main_call0_call0_c_6 : Ref sig .tc := ⟨.hbm, 84, rfl⟩
abbrev main_call0_call0_v28 : Ref sig .tc := ⟨.hbm, 85, rfl⟩
abbrev main_call0_call0_v29 : Ref sig .tc := ⟨.hbm, 86, rfl⟩
abbrev main_call0_call0_c_7 : Ref sig .tc := ⟨.hbm, 87, rfl⟩
abbrev main_call0_call0_v30 : Ref sig .tc := ⟨.hbm, 88, rfl⟩
abbrev main_call0_call0_v31 : Ref sig .tc := ⟨.hbm, 89, rfl⟩
abbrev main_call0_call0_v32 : Ref sig .tc := ⟨.hbm, 90, rfl⟩
abbrev main_call0_call0_v33 : Ref sig .tc := ⟨.hbm, 91, rfl⟩
abbrev main_call0_call0_v34 : Ref sig .tc := ⟨.hbm, 92, rfl⟩
abbrev main_call0_call0_v35 : Ref sig .tc := ⟨.hbm, 93, rfl⟩
abbrev main_call0_call0_v36 : Ref sig .tc := ⟨.hbm, 94, rfl⟩
abbrev main_call0_call0_v37 : Ref sig .tc := ⟨.hbm, 95, rfl⟩
abbrev main_call0_call0_c_8 : Ref sig .tc := ⟨.hbm, 96, rfl⟩
abbrev main_call0_call0_v38 : Ref sig .tc := ⟨.hbm, 97, rfl⟩
abbrev main_call0_call0_v39 : Ref sig .tc := ⟨.hbm, 98, rfl⟩
abbrev main_call0_call0_v40 : Ref sig .tc := ⟨.hbm, 99, rfl⟩
abbrev main_call0_call0_c_9 : Ref sig .tc := ⟨.hbm, 100, rfl⟩
abbrev main_call0_call0_v41 : Ref sig .tc := ⟨.hbm, 101, rfl⟩
abbrev main_call0_call0_v42 : Ref sig .tc := ⟨.hbm, 102, rfl⟩
abbrev main_call0_call0_c_10 : Ref sig .tc := ⟨.hbm, 103, rfl⟩
abbrev main_call0_call0_v43 : Ref sig .tc := ⟨.hbm, 104, rfl⟩
abbrev main_call0_call0_v44 : Ref sig .tc := ⟨.hbm, 105, rfl⟩
abbrev main_call0_call0_v45 : Ref sig .tc := ⟨.hbm, 106, rfl⟩
abbrev main_call0_call0_v46 : Ref sig .tc := ⟨.hbm, 107, rfl⟩
abbrev main_call0_call0_v47 : Ref sig .tc := ⟨.hbm, 108, rfl⟩
abbrev main_call0_call0_c_11 : Ref sig .tc := ⟨.hbm, 109, rfl⟩
abbrev main_call0_call0_v48 : Ref sig .tc := ⟨.hbm, 110, rfl⟩
abbrev main_call0_call0_v49 : Ref sig .tc := ⟨.hbm, 111, rfl⟩
abbrev main_call0_call0_c_12 : Ref sig .tc := ⟨.hbm, 112, rfl⟩
abbrev main_call0_call0_v50 : Ref sig .tc := ⟨.hbm, 113, rfl⟩
abbrev main_call0_call0_v51 : Ref sig .tc := ⟨.hbm, 114, rfl⟩
abbrev main_call0_call0_v52 : Ref sig .tc := ⟨.hbm, 115, rfl⟩
abbrev main_call0_call0_v53 : Ref sig .tc := ⟨.hbm, 116, rfl⟩
abbrev main_call0_call0_v54 : Ref sig .tc := ⟨.hbm, 117, rfl⟩
abbrev main_call0_call0_c_13 : Ref sig .tc := ⟨.hbm, 118, rfl⟩
abbrev main_call0_call0_v55 : Ref sig .tc := ⟨.hbm, 119, rfl⟩
abbrev main_call0_call0_v56 : Ref sig .tc := ⟨.hbm, 120, rfl⟩
abbrev main_call0_call0_c_14 : Ref sig .tc := ⟨.hbm, 121, rfl⟩
abbrev main_call0_call0_v57 : Ref sig .tc := ⟨.hbm, 122, rfl⟩
abbrev main_call0_call0_v58 : Ref sig .tc := ⟨.hbm, 123, rfl⟩
abbrev main_call0_call0_v59 : Ref sig .tc := ⟨.hbm, 124, rfl⟩
abbrev main_call0_call0_v60 : Ref sig .tc := ⟨.hbm, 125, rfl⟩
abbrev main_call0_call0_v61 : Ref sig .tc := ⟨.hbm, 126, rfl⟩
abbrev main_call0_call0_c_15 : Ref sig .tc := ⟨.hbm, 127, rfl⟩
abbrev main_call0_call0_v62 : Ref sig .tc := ⟨.hbm, 128, rfl⟩
abbrev main_call0_call0_v63 : Ref sig .tc := ⟨.hbm, 129, rfl⟩
abbrev main_call0_call0_c_16 : Ref sig .tc := ⟨.hbm, 130, rfl⟩
abbrev main_call0_call0_v64 : Ref sig .tc := ⟨.hbm, 131, rfl⟩
abbrev main_call0_call0_v65 : Ref sig .tc := ⟨.hbm, 132, rfl⟩
abbrev main_call0_call0_v66 : Ref sig .tc := ⟨.hbm, 133, rfl⟩
abbrev main_call0_call0_v67 : Ref sig .tc := ⟨.hbm, 134, rfl⟩
abbrev main_call0_call0_v68 : Ref sig .tc := ⟨.hbm, 135, rfl⟩
abbrev main_call0_call0_v69 : Ref sig .tc := ⟨.hbm, 136, rfl⟩
abbrev main_call0_call0_v70 : Ref sig .tc := ⟨.hbm, 137, rfl⟩
abbrev main_call0_call0_v71 : Ref sig .tc := ⟨.hbm, 138, rfl⟩
abbrev main_call0_call0_c_17 : Ref sig .tc := ⟨.hbm, 139, rfl⟩
abbrev main_call0_call0_v72 : Ref sig .tc := ⟨.hbm, 140, rfl⟩
abbrev main_call0_call0_v73 : Ref sig .tc := ⟨.hbm, 141, rfl⟩
abbrev main_call0_call0_v74 : Ref sig .tc := ⟨.hbm, 142, rfl⟩
abbrev main_call0_call0_c_18 : Ref sig .tc := ⟨.hbm, 143, rfl⟩
abbrev main_call0_call0_v75 : Ref sig .tc := ⟨.hbm, 144, rfl⟩
abbrev main_call0_call0_v76 : Ref sig .tc := ⟨.hbm, 145, rfl⟩
abbrev main_call0_call0_c_19 : Ref sig .tc := ⟨.hbm, 146, rfl⟩
abbrev main_call0_call0_v77 : Ref sig .tc := ⟨.hbm, 147, rfl⟩
abbrev main_call0_call0_v78 : Ref sig .tc := ⟨.hbm, 148, rfl⟩
abbrev main_call0_call0_v79 : Ref sig .tc := ⟨.hbm, 149, rfl⟩
abbrev main_call0_call0_v80 : Ref sig .tc := ⟨.hbm, 150, rfl⟩
abbrev main_call0_call0_v81 : Ref sig .tc := ⟨.hbm, 151, rfl⟩
abbrev main_call0_call0_c_20 : Ref sig .tc := ⟨.hbm, 152, rfl⟩
abbrev main_call0_call0_v82 : Ref sig .tc := ⟨.hbm, 153, rfl⟩
abbrev main_call0_call0_v83 : Ref sig .tc := ⟨.hbm, 154, rfl⟩
abbrev main_call0_call0_c_21 : Ref sig .tc := ⟨.hbm, 155, rfl⟩
abbrev main_call0_call0_v84 : Ref sig .tc := ⟨.hbm, 156, rfl⟩
abbrev main_call0_call0_v85 : Ref sig .tc := ⟨.hbm, 157, rfl⟩
abbrev main_call0_call0_v86 : Ref sig .tc := ⟨.hbm, 158, rfl⟩
abbrev main_call0_call0_v87 : Ref sig .tc := ⟨.hbm, 159, rfl⟩
abbrev main_call0_call0_v88 : Ref sig .tc := ⟨.hbm, 160, rfl⟩
abbrev main_call0_call0_c_22 : Ref sig .tc := ⟨.hbm, 161, rfl⟩
abbrev main_call0_call0_v89 : Ref sig .tc := ⟨.hbm, 162, rfl⟩
abbrev main_call0_call0_v90 : Ref sig .tc := ⟨.hbm, 163, rfl⟩
abbrev main_call0_call0_c_23 : Ref sig .tc := ⟨.hbm, 164, rfl⟩
abbrev main_call0_call0_v91 : Ref sig .tc := ⟨.hbm, 165, rfl⟩
abbrev main_call0_call0_v92 : Ref sig .tc := ⟨.hbm, 166, rfl⟩
abbrev main_call0_call0_v93 : Ref sig .tc := ⟨.hbm, 167, rfl⟩
abbrev main_call0_call0_v94 : Ref sig .tc := ⟨.hbm, 168, rfl⟩
abbrev main_call0_call0_v95 : Ref sig .tc := ⟨.hbm, 169, rfl⟩
abbrev main_call0_call0_c_24 : Ref sig .tc := ⟨.hbm, 170, rfl⟩
abbrev main_call0_call0_v96 : Ref sig .tc := ⟨.hbm, 171, rfl⟩
abbrev main_call0_call0_v97 : Ref sig .tc := ⟨.hbm, 172, rfl⟩
abbrev main_call0_call0_c_25 : Ref sig .tc := ⟨.hbm, 173, rfl⟩
abbrev main_call0_call0_v98 : Ref sig .tc := ⟨.hbm, 174, rfl⟩
abbrev main_call0_call0_v99 : Ref sig .tc := ⟨.hbm, 175, rfl⟩
abbrev main_call0_call0_v100 : Ref sig .tc := ⟨.hbm, 176, rfl⟩
abbrev main_call0_call0_v101 : Ref sig .tc := ⟨.hbm, 177, rfl⟩
abbrev main_call0_call0_v102 : Ref sig .tc := ⟨.hbm, 178, rfl⟩
abbrev main_call0_call0_v103 : Ref sig .tc := ⟨.hbm, 179, rfl⟩
abbrev main_call0_call0_v104 : Ref sig .tc := ⟨.hbm, 180, rfl⟩
abbrev main_call0_call0_v105 : Ref sig .tc := ⟨.hbm, 181, rfl⟩
abbrev main_call0_call0_c_26 : Ref sig .tc := ⟨.hbm, 182, rfl⟩
abbrev main_call0_call0_v106 : Ref sig .tc := ⟨.hbm, 183, rfl⟩
abbrev main_call0_call0_v107 : Ref sig .tc := ⟨.hbm, 184, rfl⟩
abbrev main_call0_call0_v108 : Ref sig .tc := ⟨.hbm, 185, rfl⟩
abbrev main_call0_call0_c_27 : Ref sig .tc := ⟨.hbm, 186, rfl⟩
abbrev main_call0_call0_v109 : Ref sig .tc := ⟨.hbm, 187, rfl⟩
abbrev main_call0_call0_v110 : Ref sig .tc := ⟨.hbm, 188, rfl⟩
abbrev main_call0_call0_c_28 : Ref sig .tc := ⟨.hbm, 189, rfl⟩
abbrev main_call0_call0_v111 : Ref sig .tc := ⟨.hbm, 190, rfl⟩
abbrev main_call0_call0_v112 : Ref sig .tc := ⟨.hbm, 191, rfl⟩
abbrev main_call0_call0_v113 : Ref sig .tc := ⟨.hbm, 192, rfl⟩
abbrev main_call0_call0_v114 : Ref sig .tc := ⟨.hbm, 193, rfl⟩
abbrev main_call0_call0_v115 : Ref sig .tc := ⟨.hbm, 194, rfl⟩
abbrev main_call0_call0_c_29 : Ref sig .tc := ⟨.hbm, 195, rfl⟩
abbrev main_call0_call0_v116 : Ref sig .tc := ⟨.hbm, 196, rfl⟩
abbrev main_call0_call0_v117 : Ref sig .tc := ⟨.hbm, 197, rfl⟩
abbrev main_call0_call0_c_30 : Ref sig .tc := ⟨.hbm, 198, rfl⟩
abbrev main_call0_call0_v118 : Ref sig .tc := ⟨.hbm, 199, rfl⟩
abbrev main_call0_call0_v119 : Ref sig .tc := ⟨.hbm, 200, rfl⟩
abbrev main_call0_call0_v120 : Ref sig .tc := ⟨.hbm, 201, rfl⟩
abbrev main_call0_call0_v121 : Ref sig .tc := ⟨.hbm, 202, rfl⟩
abbrev main_call0_call0_v122 : Ref sig .tc := ⟨.hbm, 203, rfl⟩
abbrev main_call0_call0_c_31 : Ref sig .tc := ⟨.hbm, 204, rfl⟩
abbrev main_call0_call0_v123 : Ref sig .tc := ⟨.hbm, 205, rfl⟩
abbrev main_call0_call0_v124 : Ref sig .tc := ⟨.hbm, 206, rfl⟩
abbrev main_call0_call0_c_32 : Ref sig .tc := ⟨.hbm, 207, rfl⟩
abbrev main_call0_call0_v125 : Ref sig .tc := ⟨.hbm, 208, rfl⟩
abbrev main_call0_call0_v126 : Ref sig .tc := ⟨.hbm, 209, rfl⟩
abbrev main_call0_call0_v127 : Ref sig .tc := ⟨.hbm, 210, rfl⟩
abbrev main_call0_call0_v128 : Ref sig .tc := ⟨.hbm, 211, rfl⟩
abbrev main_call0_call0_v129 : Ref sig .tc := ⟨.hbm, 212, rfl⟩
abbrev main_call0_call0_c_33 : Ref sig .tc := ⟨.hbm, 213, rfl⟩
abbrev main_call0_call0_v130 : Ref sig .tc := ⟨.hbm, 214, rfl⟩
abbrev main_call0_call0_v131 : Ref sig .tc := ⟨.hbm, 215, rfl⟩
abbrev main_call0_call0_c_34 : Ref sig .tc := ⟨.hbm, 216, rfl⟩
abbrev main_call0_call0_v132 : Ref sig .tc := ⟨.hbm, 217, rfl⟩
abbrev main_call0_call0_v133 : Ref sig .tc := ⟨.hbm, 218, rfl⟩
abbrev main_call0_call0_v134 : Ref sig .tc := ⟨.hbm, 219, rfl⟩
abbrev main_call0_call0_v135 : Ref sig .tc := ⟨.hbm, 220, rfl⟩
abbrev main_call0_call0_v136 : Ref sig .tc := ⟨.hbm, 221, rfl⟩
abbrev main_call0_call0_v137 : Ref sig .tc := ⟨.hbm, 222, rfl⟩
abbrev main_call0_call0_v138 : Ref sig .tc := ⟨.hbm, 223, rfl⟩
abbrev main_call0_call0_v139 : Ref sig .tc := ⟨.hbm, 224, rfl⟩
abbrev main_call0_call0_c_35 : Ref sig .tc := ⟨.hbm, 225, rfl⟩
abbrev main_call0_call0_v140 : Ref sig .tc := ⟨.hbm, 226, rfl⟩
abbrev main_call0_call0_v141 : Ref sig .tc := ⟨.hbm, 227, rfl⟩
abbrev main_call0_call0_v142 : Ref sig .tc := ⟨.hbm, 228, rfl⟩
abbrev main_call0_call0_c_36 : Ref sig .tc := ⟨.hbm, 229, rfl⟩
abbrev main_call0_call0_v143 : Ref sig .tc := ⟨.hbm, 230, rfl⟩
abbrev main_call0_call0_v144 : Ref sig .tc := ⟨.hbm, 231, rfl⟩
abbrev main_call0_call0_c_37 : Ref sig .tc := ⟨.hbm, 232, rfl⟩
abbrev main_call0_call0_v145 : Ref sig .tc := ⟨.hbm, 233, rfl⟩
abbrev main_call0_call0_v146 : Ref sig .tc := ⟨.hbm, 234, rfl⟩
abbrev main_call0_call0_v147 : Ref sig .tc := ⟨.hbm, 235, rfl⟩
abbrev main_call0_call0_v148 : Ref sig .tc := ⟨.hbm, 236, rfl⟩
abbrev main_call0_call0_v149 : Ref sig .tc := ⟨.hbm, 237, rfl⟩
abbrev main_call0_call0_c_38 : Ref sig .tc := ⟨.hbm, 238, rfl⟩
abbrev main_call0_call0_v150 : Ref sig .tc := ⟨.hbm, 239, rfl⟩
abbrev main_call0_call0_v151 : Ref sig .tc := ⟨.hbm, 240, rfl⟩
abbrev main_call0_call0_c_39 : Ref sig .tc := ⟨.hbm, 241, rfl⟩
abbrev main_call0_call0_v152 : Ref sig .tc := ⟨.hbm, 242, rfl⟩
abbrev main_call0_call0_v153 : Ref sig .tc := ⟨.hbm, 243, rfl⟩
abbrev main_call0_call0_v154 : Ref sig .tc := ⟨.hbm, 244, rfl⟩
abbrev main_call0_call0_v155 : Ref sig .tc := ⟨.hbm, 245, rfl⟩
abbrev main_call0_call0_v156 : Ref sig .tc := ⟨.hbm, 246, rfl⟩
abbrev main_call0_call0_c_40 : Ref sig .tc := ⟨.hbm, 247, rfl⟩
abbrev main_call0_call0_v157 : Ref sig .tc := ⟨.hbm, 248, rfl⟩
abbrev main_call0_call0_v158 : Ref sig .tc := ⟨.hbm, 249, rfl⟩
abbrev main_call0_call0_c_41 : Ref sig .tc := ⟨.hbm, 250, rfl⟩
abbrev main_call0_call0_v159 : Ref sig .tc := ⟨.hbm, 251, rfl⟩
abbrev main_call0_call0_v160 : Ref sig .tc := ⟨.hbm, 252, rfl⟩
abbrev main_call0_call0_v161 : Ref sig .tc := ⟨.hbm, 253, rfl⟩
abbrev main_call0_call0_v162 : Ref sig .tc := ⟨.hbm, 254, rfl⟩
abbrev main_call0_call0_v163 : Ref sig .tc := ⟨.hbm, 255, rfl⟩
abbrev main_call0_call0_c_42 : Ref sig .tc := ⟨.hbm, 256, rfl⟩
abbrev main_call0_call0_v164 : Ref sig .tc := ⟨.hbm, 257, rfl⟩
abbrev main_call0_call0_v165 : Ref sig .tc := ⟨.hbm, 258, rfl⟩
abbrev main_call0_call0_c_43 : Ref sig .tc := ⟨.hbm, 259, rfl⟩
abbrev main_call0_call0_v166 : Ref sig .tc := ⟨.hbm, 260, rfl⟩
abbrev main_call0_call0_v167 : Ref sig .tc := ⟨.hbm, 261, rfl⟩
abbrev main_call0_call0_v168 : Ref sig .tc := ⟨.hbm, 262, rfl⟩
abbrev main_call0_call0_v169 : Ref sig .tc := ⟨.hbm, 263, rfl⟩
abbrev main_call0_call0_v170 : Ref sig .tc := ⟨.hbm, 264, rfl⟩
abbrev main_call0_v11_0 : Ref sig .tc := ⟨.hbm, 265, rfl⟩
abbrev main_call0_call0_v172 : Ref sig .tc := ⟨.hbm, 266, rfl⟩
abbrev main_call0_call0_v173 : Ref sig .tc := ⟨.hbm, 267, rfl⟩
abbrev main_call0_call0_c_44 : Ref sig .tc := ⟨.hbm, 268, rfl⟩
abbrev main_call0_call0_v174 : Ref sig .tc := ⟨.hbm, 269, rfl⟩
abbrev main_call0_v11_1 : Ref sig .tc := ⟨.hbm, 270, rfl⟩
abbrev main_call0_v12 : Ref sig .tc := ⟨.hbm, 271, rfl⟩
abbrev main_call0_v13 : Ref sig .tc := ⟨.hbm, 272, rfl⟩
abbrev main_v25 : Ref sig .tc := ⟨.hbm, 273, rfl⟩
abbrev main_v26 : Ref sig .tc := ⟨.hbm, 274, rfl⟩
abbrev main_v27 : Ref sig .tc := ⟨.hbm, 275, rfl⟩
abbrev main_v28 : Ref sig .tc := ⟨.hbm, 276, rfl⟩
abbrev main_v29 : Ref sig .tc := ⟨.hbm, 277, rfl⟩
abbrev main_call1_cst : Ref sig .tc := ⟨.hbm, 278, rfl⟩
abbrev main_call1_cst_0 : Ref sig .tc := ⟨.hbm, 279, rfl⟩
abbrev main_call1_call0_v0 : Ref sig .tc := ⟨.hbm, 280, rfl⟩
abbrev main_call1_call0_v1 : Ref sig .tc := ⟨.hbm, 281, rfl⟩
abbrev main_call1_call0_v2 : Ref sig .tc := ⟨.hbm, 282, rfl⟩
abbrev main_call1_call0_v3 : Ref sig .tc := ⟨.hbm, 283, rfl⟩
abbrev main_call1_call0_v4 : Ref sig .tc := ⟨.hbm, 284, rfl⟩
abbrev main_call1_call0_v5 : Ref sig .tc := ⟨.hbm, 285, rfl⟩
abbrev main_call1_call0_v6 : Ref sig .tc := ⟨.hbm, 286, rfl⟩
abbrev main_call1_call0_v7 : Ref sig .tc := ⟨.hbm, 287, rfl⟩
abbrev main_call1_call0_v8 : Ref sig .tc := ⟨.hbm, 288, rfl⟩
abbrev main_call1_call0_c : Ref sig .tc := ⟨.hbm, 289, rfl⟩
abbrev main_call1_call0_v9 : Ref sig .tc := ⟨.hbm, 290, rfl⟩
abbrev main_call1_call0_v10 : Ref sig .tc := ⟨.hbm, 291, rfl⟩
abbrev main_call1_call0_c_0 : Ref sig .tc := ⟨.hbm, 292, rfl⟩
abbrev main_call1_call0_v11 : Ref sig .tc := ⟨.hbm, 293, rfl⟩
abbrev main_call1_call0_v12 : Ref sig .tc := ⟨.hbm, 294, rfl⟩
abbrev main_call1_call0_v13 : Ref sig .tc := ⟨.hbm, 295, rfl⟩
abbrev main_call1_call0_c_1 : Ref sig .tc := ⟨.hbm, 296, rfl⟩
abbrev main_call1_call0_v14 : Ref sig .tc := ⟨.hbm, 297, rfl⟩
abbrev main_call1_call0_v15 : Ref sig .tc := ⟨.hbm, 298, rfl⟩
abbrev main_call1_call0_v16 : Ref sig .tc := ⟨.hbm, 299, rfl⟩
abbrev main_call1_call0_v17 : Ref sig .tc := ⟨.hbm, 300, rfl⟩
abbrev main_call1_call0_call0_v0 : Ref sig .tc := ⟨.hbm, 301, rfl⟩
abbrev main_call1_call0_call0_c : Ref sig .tc := ⟨.hbm, 302, rfl⟩
abbrev main_call1_call0_call0_v1 : Ref sig .tc := ⟨.hbm, 303, rfl⟩
abbrev main_call1_call0_call0_v2 : Ref sig .tc := ⟨.hbm, 304, rfl⟩
abbrev main_call1_call0_call0_v3 : Ref sig .tc := ⟨.hbm, 305, rfl⟩
abbrev main_call1_call0_call0_v4 : Ref sig .tc := ⟨.hbm, 306, rfl⟩
abbrev main_call1_call0_call0_v5 : Ref sig .tc := ⟨.hbm, 307, rfl⟩
abbrev main_call1_call0_call0_v6 : Ref sig .tc := ⟨.hbm, 308, rfl⟩
abbrev main_call1_call0_call0_c_0 : Ref sig .tc := ⟨.hbm, 309, rfl⟩
abbrev main_call1_call0_call0_v7 : Ref sig .tc := ⟨.hbm, 310, rfl⟩
abbrev main_call1_call0_call0_v8 : Ref sig .tc := ⟨.hbm, 311, rfl⟩
abbrev main_call1_call0_call0_c_1 : Ref sig .tc := ⟨.hbm, 312, rfl⟩
abbrev main_call1_call0_call0_v9 : Ref sig .tc := ⟨.hbm, 313, rfl⟩
abbrev main_call1_call0_call0_v10 : Ref sig .tc := ⟨.hbm, 314, rfl⟩
abbrev main_call1_call0_call0_v11 : Ref sig .tc := ⟨.hbm, 315, rfl⟩
abbrev main_call1_call0_call0_v12 : Ref sig .tc := ⟨.hbm, 316, rfl⟩
abbrev main_call1_call0_call0_v13 : Ref sig .tc := ⟨.hbm, 317, rfl⟩
abbrev main_call1_call0_call0_c_2 : Ref sig .tc := ⟨.hbm, 318, rfl⟩
abbrev main_call1_call0_call0_v14 : Ref sig .tc := ⟨.hbm, 319, rfl⟩
abbrev main_call1_call0_call0_v15 : Ref sig .tc := ⟨.hbm, 320, rfl⟩
abbrev main_call1_call0_call0_c_3 : Ref sig .tc := ⟨.hbm, 321, rfl⟩
abbrev main_call1_call0_call0_v16 : Ref sig .tc := ⟨.hbm, 322, rfl⟩
abbrev main_call1_call0_call0_v17 : Ref sig .tc := ⟨.hbm, 323, rfl⟩
abbrev main_call1_call0_call0_v18 : Ref sig .tc := ⟨.hbm, 324, rfl⟩
abbrev main_call1_call0_call0_v19 : Ref sig .tc := ⟨.hbm, 325, rfl⟩
abbrev main_call1_call0_call0_v20 : Ref sig .tc := ⟨.hbm, 326, rfl⟩
abbrev main_call1_call0_call0_c_4 : Ref sig .tc := ⟨.hbm, 327, rfl⟩
abbrev main_call1_call0_call0_v21 : Ref sig .tc := ⟨.hbm, 328, rfl⟩
abbrev main_call1_call0_call0_v22 : Ref sig .tc := ⟨.hbm, 329, rfl⟩
abbrev main_call1_call0_call0_c_5 : Ref sig .tc := ⟨.hbm, 330, rfl⟩
abbrev main_call1_call0_call0_v23 : Ref sig .tc := ⟨.hbm, 331, rfl⟩
abbrev main_call1_call0_call0_v24 : Ref sig .tc := ⟨.hbm, 332, rfl⟩
abbrev main_call1_call0_call0_v25 : Ref sig .tc := ⟨.hbm, 333, rfl⟩
abbrev main_call1_call0_call0_v26 : Ref sig .tc := ⟨.hbm, 334, rfl⟩
abbrev main_call1_call0_call0_v27 : Ref sig .tc := ⟨.hbm, 335, rfl⟩
abbrev main_call1_call0_call0_c_6 : Ref sig .tc := ⟨.hbm, 336, rfl⟩
abbrev main_call1_call0_call0_v28 : Ref sig .tc := ⟨.hbm, 337, rfl⟩
abbrev main_call1_call0_call0_v29 : Ref sig .tc := ⟨.hbm, 338, rfl⟩
abbrev main_call1_call0_call0_c_7 : Ref sig .tc := ⟨.hbm, 339, rfl⟩
abbrev main_call1_call0_call0_v30 : Ref sig .tc := ⟨.hbm, 340, rfl⟩
abbrev main_call1_call0_call0_v31 : Ref sig .tc := ⟨.hbm, 341, rfl⟩
abbrev main_call1_call0_call0_v32 : Ref sig .tc := ⟨.hbm, 342, rfl⟩
abbrev main_call1_call0_call0_v33 : Ref sig .tc := ⟨.hbm, 343, rfl⟩
abbrev main_call1_call0_call0_v34 : Ref sig .tc := ⟨.hbm, 344, rfl⟩
abbrev main_call1_call0_call0_v35 : Ref sig .tc := ⟨.hbm, 345, rfl⟩
abbrev main_call1_call0_call0_v36 : Ref sig .tc := ⟨.hbm, 346, rfl⟩
abbrev main_call1_call0_call0_v37 : Ref sig .tc := ⟨.hbm, 347, rfl⟩
abbrev main_call1_call0_call0_c_8 : Ref sig .tc := ⟨.hbm, 348, rfl⟩
abbrev main_call1_call0_call0_v38 : Ref sig .tc := ⟨.hbm, 349, rfl⟩
abbrev main_call1_call0_call0_v39 : Ref sig .tc := ⟨.hbm, 350, rfl⟩
abbrev main_call1_call0_call0_v40 : Ref sig .tc := ⟨.hbm, 351, rfl⟩
abbrev main_call1_call0_call0_c_9 : Ref sig .tc := ⟨.hbm, 352, rfl⟩
abbrev main_call1_call0_call0_v41 : Ref sig .tc := ⟨.hbm, 353, rfl⟩
abbrev main_call1_call0_call0_v42 : Ref sig .tc := ⟨.hbm, 354, rfl⟩
abbrev main_call1_call0_call0_c_10 : Ref sig .tc := ⟨.hbm, 355, rfl⟩
abbrev main_call1_call0_call0_v43 : Ref sig .tc := ⟨.hbm, 356, rfl⟩
abbrev main_call1_call0_call0_v44 : Ref sig .tc := ⟨.hbm, 357, rfl⟩
abbrev main_call1_call0_call0_v45 : Ref sig .tc := ⟨.hbm, 358, rfl⟩
abbrev main_call1_call0_call0_v46 : Ref sig .tc := ⟨.hbm, 359, rfl⟩
abbrev main_call1_call0_call0_v47 : Ref sig .tc := ⟨.hbm, 360, rfl⟩
abbrev main_call1_call0_call0_c_11 : Ref sig .tc := ⟨.hbm, 361, rfl⟩
abbrev main_call1_call0_call0_v48 : Ref sig .tc := ⟨.hbm, 362, rfl⟩
abbrev main_call1_call0_call0_v49 : Ref sig .tc := ⟨.hbm, 363, rfl⟩
abbrev main_call1_call0_call0_c_12 : Ref sig .tc := ⟨.hbm, 364, rfl⟩
abbrev main_call1_call0_call0_v50 : Ref sig .tc := ⟨.hbm, 365, rfl⟩
abbrev main_call1_call0_call0_v51 : Ref sig .tc := ⟨.hbm, 366, rfl⟩
abbrev main_call1_call0_call0_v52 : Ref sig .tc := ⟨.hbm, 367, rfl⟩
abbrev main_call1_call0_call0_v53 : Ref sig .tc := ⟨.hbm, 368, rfl⟩
abbrev main_call1_call0_call0_v54 : Ref sig .tc := ⟨.hbm, 369, rfl⟩
abbrev main_call1_call0_call0_c_13 : Ref sig .tc := ⟨.hbm, 370, rfl⟩
abbrev main_call1_call0_call0_v55 : Ref sig .tc := ⟨.hbm, 371, rfl⟩
abbrev main_call1_call0_call0_v56 : Ref sig .tc := ⟨.hbm, 372, rfl⟩
abbrev main_call1_call0_call0_c_14 : Ref sig .tc := ⟨.hbm, 373, rfl⟩
abbrev main_call1_call0_call0_v57 : Ref sig .tc := ⟨.hbm, 374, rfl⟩
abbrev main_call1_call0_call0_v58 : Ref sig .tc := ⟨.hbm, 375, rfl⟩
abbrev main_call1_call0_call0_v59 : Ref sig .tc := ⟨.hbm, 376, rfl⟩
abbrev main_call1_call0_call0_v60 : Ref sig .tc := ⟨.hbm, 377, rfl⟩
abbrev main_call1_call0_call0_v61 : Ref sig .tc := ⟨.hbm, 378, rfl⟩
abbrev main_call1_call0_call0_c_15 : Ref sig .tc := ⟨.hbm, 379, rfl⟩
abbrev main_call1_call0_call0_v62 : Ref sig .tc := ⟨.hbm, 380, rfl⟩
abbrev main_call1_call0_call0_v63 : Ref sig .tc := ⟨.hbm, 381, rfl⟩
abbrev main_call1_call0_call0_c_16 : Ref sig .tc := ⟨.hbm, 382, rfl⟩
abbrev main_call1_call0_call0_v64 : Ref sig .tc := ⟨.hbm, 383, rfl⟩
abbrev main_call1_call0_call0_v65 : Ref sig .tc := ⟨.hbm, 384, rfl⟩
abbrev main_call1_call0_call0_v66 : Ref sig .tc := ⟨.hbm, 385, rfl⟩
abbrev main_call1_call0_call0_v67 : Ref sig .tc := ⟨.hbm, 386, rfl⟩
abbrev main_call1_call0_call0_v68 : Ref sig .tc := ⟨.hbm, 387, rfl⟩
abbrev main_call1_call0_call0_v69 : Ref sig .tc := ⟨.hbm, 388, rfl⟩
abbrev main_call1_call0_call0_v70 : Ref sig .tc := ⟨.hbm, 389, rfl⟩
abbrev main_call1_call0_call0_v71 : Ref sig .tc := ⟨.hbm, 390, rfl⟩
abbrev main_call1_call0_call0_c_17 : Ref sig .tc := ⟨.hbm, 391, rfl⟩
abbrev main_call1_call0_call0_v72 : Ref sig .tc := ⟨.hbm, 392, rfl⟩
abbrev main_call1_call0_call0_v73 : Ref sig .tc := ⟨.hbm, 393, rfl⟩
abbrev main_call1_call0_call0_v74 : Ref sig .tc := ⟨.hbm, 394, rfl⟩
abbrev main_call1_call0_call0_c_18 : Ref sig .tc := ⟨.hbm, 395, rfl⟩
abbrev main_call1_call0_call0_v75 : Ref sig .tc := ⟨.hbm, 396, rfl⟩
abbrev main_call1_call0_call0_v76 : Ref sig .tc := ⟨.hbm, 397, rfl⟩
abbrev main_call1_call0_call0_c_19 : Ref sig .tc := ⟨.hbm, 398, rfl⟩
abbrev main_call1_call0_call0_v77 : Ref sig .tc := ⟨.hbm, 399, rfl⟩
abbrev main_call1_call0_call0_v78 : Ref sig .tc := ⟨.hbm, 400, rfl⟩
abbrev main_call1_call0_call0_v79 : Ref sig .tc := ⟨.hbm, 401, rfl⟩
abbrev main_call1_call0_call0_v80 : Ref sig .tc := ⟨.hbm, 402, rfl⟩
abbrev main_call1_call0_call0_v81 : Ref sig .tc := ⟨.hbm, 403, rfl⟩
abbrev main_call1_call0_call0_c_20 : Ref sig .tc := ⟨.hbm, 404, rfl⟩
abbrev main_call1_call0_call0_v82 : Ref sig .tc := ⟨.hbm, 405, rfl⟩
abbrev main_call1_call0_call0_v83 : Ref sig .tc := ⟨.hbm, 406, rfl⟩
abbrev main_call1_call0_call0_c_21 : Ref sig .tc := ⟨.hbm, 407, rfl⟩
abbrev main_call1_call0_call0_v84 : Ref sig .tc := ⟨.hbm, 408, rfl⟩
abbrev main_call1_call0_call0_v85 : Ref sig .tc := ⟨.hbm, 409, rfl⟩
abbrev main_call1_call0_call0_v86 : Ref sig .tc := ⟨.hbm, 410, rfl⟩
abbrev main_call1_call0_call0_v87 : Ref sig .tc := ⟨.hbm, 411, rfl⟩
abbrev main_call1_call0_call0_v88 : Ref sig .tc := ⟨.hbm, 412, rfl⟩
abbrev main_call1_call0_call0_c_22 : Ref sig .tc := ⟨.hbm, 413, rfl⟩
abbrev main_call1_call0_call0_v89 : Ref sig .tc := ⟨.hbm, 414, rfl⟩
abbrev main_call1_call0_call0_v90 : Ref sig .tc := ⟨.hbm, 415, rfl⟩
abbrev main_call1_call0_call0_c_23 : Ref sig .tc := ⟨.hbm, 416, rfl⟩
abbrev main_call1_call0_call0_v91 : Ref sig .tc := ⟨.hbm, 417, rfl⟩
abbrev main_call1_call0_call0_v92 : Ref sig .tc := ⟨.hbm, 418, rfl⟩
abbrev main_call1_call0_call0_v93 : Ref sig .tc := ⟨.hbm, 419, rfl⟩
abbrev main_call1_call0_call0_v94 : Ref sig .tc := ⟨.hbm, 420, rfl⟩
abbrev main_call1_call0_call0_v95 : Ref sig .tc := ⟨.hbm, 421, rfl⟩
abbrev main_call1_call0_call0_c_24 : Ref sig .tc := ⟨.hbm, 422, rfl⟩
abbrev main_call1_call0_call0_v96 : Ref sig .tc := ⟨.hbm, 423, rfl⟩
abbrev main_call1_call0_call0_v97 : Ref sig .tc := ⟨.hbm, 424, rfl⟩
abbrev main_call1_call0_call0_c_25 : Ref sig .tc := ⟨.hbm, 425, rfl⟩
abbrev main_call1_call0_call0_v98 : Ref sig .tc := ⟨.hbm, 426, rfl⟩
abbrev main_call1_call0_call0_v99 : Ref sig .tc := ⟨.hbm, 427, rfl⟩
abbrev main_call1_call0_call0_v100 : Ref sig .tc := ⟨.hbm, 428, rfl⟩
abbrev main_call1_call0_call0_v101 : Ref sig .tc := ⟨.hbm, 429, rfl⟩
abbrev main_call1_call0_call0_v102 : Ref sig .tc := ⟨.hbm, 430, rfl⟩
abbrev main_call1_call0_call0_v103 : Ref sig .tc := ⟨.hbm, 431, rfl⟩
abbrev main_call1_call0_call0_v104 : Ref sig .tc := ⟨.hbm, 432, rfl⟩
abbrev main_call1_call0_call0_v105 : Ref sig .tc := ⟨.hbm, 433, rfl⟩
abbrev main_call1_call0_call0_c_26 : Ref sig .tc := ⟨.hbm, 434, rfl⟩
abbrev main_call1_call0_call0_v106 : Ref sig .tc := ⟨.hbm, 435, rfl⟩
abbrev main_call1_call0_call0_v107 : Ref sig .tc := ⟨.hbm, 436, rfl⟩
abbrev main_call1_call0_call0_v108 : Ref sig .tc := ⟨.hbm, 437, rfl⟩
abbrev main_call1_call0_call0_c_27 : Ref sig .tc := ⟨.hbm, 438, rfl⟩
abbrev main_call1_call0_call0_v109 : Ref sig .tc := ⟨.hbm, 439, rfl⟩
abbrev main_call1_call0_call0_v110 : Ref sig .tc := ⟨.hbm, 440, rfl⟩
abbrev main_call1_call0_call0_c_28 : Ref sig .tc := ⟨.hbm, 441, rfl⟩
abbrev main_call1_call0_call0_v111 : Ref sig .tc := ⟨.hbm, 442, rfl⟩
abbrev main_call1_call0_call0_v112 : Ref sig .tc := ⟨.hbm, 443, rfl⟩
abbrev main_call1_call0_call0_v113 : Ref sig .tc := ⟨.hbm, 444, rfl⟩
abbrev main_call1_call0_call0_v114 : Ref sig .tc := ⟨.hbm, 445, rfl⟩
abbrev main_call1_call0_call0_v115 : Ref sig .tc := ⟨.hbm, 446, rfl⟩
abbrev main_call1_call0_call0_c_29 : Ref sig .tc := ⟨.hbm, 447, rfl⟩
abbrev main_call1_call0_call0_v116 : Ref sig .tc := ⟨.hbm, 448, rfl⟩
abbrev main_call1_call0_call0_v117 : Ref sig .tc := ⟨.hbm, 449, rfl⟩
abbrev main_call1_call0_call0_c_30 : Ref sig .tc := ⟨.hbm, 450, rfl⟩
abbrev main_call1_call0_call0_v118 : Ref sig .tc := ⟨.hbm, 451, rfl⟩
abbrev main_call1_call0_call0_v119 : Ref sig .tc := ⟨.hbm, 452, rfl⟩
abbrev main_call1_call0_call0_v120 : Ref sig .tc := ⟨.hbm, 453, rfl⟩
abbrev main_call1_call0_call0_v121 : Ref sig .tc := ⟨.hbm, 454, rfl⟩
abbrev main_call1_call0_call0_v122 : Ref sig .tc := ⟨.hbm, 455, rfl⟩
abbrev main_call1_call0_call0_c_31 : Ref sig .tc := ⟨.hbm, 456, rfl⟩
abbrev main_call1_call0_call0_v123 : Ref sig .tc := ⟨.hbm, 457, rfl⟩
abbrev main_call1_call0_call0_v124 : Ref sig .tc := ⟨.hbm, 458, rfl⟩
abbrev main_call1_call0_call0_c_32 : Ref sig .tc := ⟨.hbm, 459, rfl⟩
abbrev main_call1_call0_call0_v125 : Ref sig .tc := ⟨.hbm, 460, rfl⟩
abbrev main_call1_call0_call0_v126 : Ref sig .tc := ⟨.hbm, 461, rfl⟩
abbrev main_call1_call0_call0_v127 : Ref sig .tc := ⟨.hbm, 462, rfl⟩
abbrev main_call1_call0_call0_v128 : Ref sig .tc := ⟨.hbm, 463, rfl⟩
abbrev main_call1_call0_call0_v129 : Ref sig .tc := ⟨.hbm, 464, rfl⟩
abbrev main_call1_call0_call0_c_33 : Ref sig .tc := ⟨.hbm, 465, rfl⟩
abbrev main_call1_call0_call0_v130 : Ref sig .tc := ⟨.hbm, 466, rfl⟩
abbrev main_call1_call0_call0_v131 : Ref sig .tc := ⟨.hbm, 467, rfl⟩
abbrev main_call1_call0_call0_c_34 : Ref sig .tc := ⟨.hbm, 468, rfl⟩
abbrev main_call1_call0_call0_v132 : Ref sig .tc := ⟨.hbm, 469, rfl⟩
abbrev main_call1_call0_call0_v133 : Ref sig .tc := ⟨.hbm, 470, rfl⟩
abbrev main_call1_call0_call0_v134 : Ref sig .tc := ⟨.hbm, 471, rfl⟩
abbrev main_call1_call0_call0_v135 : Ref sig .tc := ⟨.hbm, 472, rfl⟩
abbrev main_call1_call0_call0_v136 : Ref sig .tc := ⟨.hbm, 473, rfl⟩
abbrev main_call1_call0_call0_v137 : Ref sig .tc := ⟨.hbm, 474, rfl⟩
abbrev main_call1_call0_call0_v138 : Ref sig .tc := ⟨.hbm, 475, rfl⟩
abbrev main_call1_call0_call0_v139 : Ref sig .tc := ⟨.hbm, 476, rfl⟩
abbrev main_call1_call0_call0_c_35 : Ref sig .tc := ⟨.hbm, 477, rfl⟩
abbrev main_call1_call0_call0_v140 : Ref sig .tc := ⟨.hbm, 478, rfl⟩
abbrev main_call1_call0_call0_v141 : Ref sig .tc := ⟨.hbm, 479, rfl⟩
abbrev main_call1_call0_call0_v142 : Ref sig .tc := ⟨.hbm, 480, rfl⟩
abbrev main_call1_call0_call0_c_36 : Ref sig .tc := ⟨.hbm, 481, rfl⟩
abbrev main_call1_call0_call0_v143 : Ref sig .tc := ⟨.hbm, 482, rfl⟩
abbrev main_call1_call0_call0_v144 : Ref sig .tc := ⟨.hbm, 483, rfl⟩
abbrev main_call1_call0_call0_c_37 : Ref sig .tc := ⟨.hbm, 484, rfl⟩
abbrev main_call1_call0_call0_v145 : Ref sig .tc := ⟨.hbm, 485, rfl⟩
abbrev main_call1_call0_call0_v146 : Ref sig .tc := ⟨.hbm, 486, rfl⟩
abbrev main_call1_call0_call0_v147 : Ref sig .tc := ⟨.hbm, 487, rfl⟩
abbrev main_call1_call0_call0_v148 : Ref sig .tc := ⟨.hbm, 488, rfl⟩
abbrev main_call1_call0_call0_v149 : Ref sig .tc := ⟨.hbm, 489, rfl⟩
abbrev main_call1_call0_call0_c_38 : Ref sig .tc := ⟨.hbm, 490, rfl⟩
abbrev main_call1_call0_call0_v150 : Ref sig .tc := ⟨.hbm, 491, rfl⟩
abbrev main_call1_call0_call0_v151 : Ref sig .tc := ⟨.hbm, 492, rfl⟩
abbrev main_call1_call0_call0_c_39 : Ref sig .tc := ⟨.hbm, 493, rfl⟩
abbrev main_call1_call0_call0_v152 : Ref sig .tc := ⟨.hbm, 494, rfl⟩
abbrev main_call1_call0_call0_v153 : Ref sig .tc := ⟨.hbm, 495, rfl⟩
abbrev main_call1_call0_call0_v154 : Ref sig .tc := ⟨.hbm, 496, rfl⟩
abbrev main_call1_call0_call0_v155 : Ref sig .tc := ⟨.hbm, 497, rfl⟩
abbrev main_call1_call0_call0_v156 : Ref sig .tc := ⟨.hbm, 498, rfl⟩
abbrev main_call1_call0_call0_c_40 : Ref sig .tc := ⟨.hbm, 499, rfl⟩
abbrev main_call1_call0_call0_v157 : Ref sig .tc := ⟨.hbm, 500, rfl⟩
abbrev main_call1_call0_call0_v158 : Ref sig .tc := ⟨.hbm, 501, rfl⟩
abbrev main_call1_call0_call0_c_41 : Ref sig .tc := ⟨.hbm, 502, rfl⟩
abbrev main_call1_call0_call0_v159 : Ref sig .tc := ⟨.hbm, 503, rfl⟩
abbrev main_call1_call0_call0_v160 : Ref sig .tc := ⟨.hbm, 504, rfl⟩
abbrev main_call1_call0_call0_v161 : Ref sig .tc := ⟨.hbm, 505, rfl⟩
abbrev main_call1_call0_call0_v162 : Ref sig .tc := ⟨.hbm, 506, rfl⟩
abbrev main_call1_call0_call0_v163 : Ref sig .tc := ⟨.hbm, 507, rfl⟩
abbrev main_call1_call0_call0_c_42 : Ref sig .tc := ⟨.hbm, 508, rfl⟩
abbrev main_call1_call0_call0_v164 : Ref sig .tc := ⟨.hbm, 509, rfl⟩
abbrev main_call1_call0_call0_v165 : Ref sig .tc := ⟨.hbm, 510, rfl⟩
abbrev main_call1_call0_call0_c_43 : Ref sig .tc := ⟨.hbm, 511, rfl⟩
abbrev main_call1_call0_call0_v166 : Ref sig .tc := ⟨.hbm, 512, rfl⟩
abbrev main_call1_call0_call0_v167 : Ref sig .tc := ⟨.hbm, 513, rfl⟩
abbrev main_call1_call0_call0_v168 : Ref sig .tc := ⟨.hbm, 514, rfl⟩
abbrev main_call1_call0_call0_v169 : Ref sig .tc := ⟨.hbm, 515, rfl⟩
abbrev main_call1_call0_call0_v170 : Ref sig .tc := ⟨.hbm, 516, rfl⟩
abbrev main_call1_call0_v18_0 : Ref sig .tc := ⟨.hbm, 517, rfl⟩
abbrev main_call1_call0_call0_v172 : Ref sig .tc := ⟨.hbm, 518, rfl⟩
abbrev main_call1_call0_call0_v173 : Ref sig .tc := ⟨.hbm, 519, rfl⟩
abbrev main_call1_call0_call0_c_44 : Ref sig .tc := ⟨.hbm, 520, rfl⟩
abbrev main_call1_call0_call0_v174 : Ref sig .tc := ⟨.hbm, 521, rfl⟩
abbrev main_call1_call0_v18_1 : Ref sig .tc := ⟨.hbm, 522, rfl⟩
abbrev main_call1_call0_v19 : Ref sig .tc := ⟨.hbm, 523, rfl⟩
abbrev main_call1_call0_c_2 : Ref sig .tc := ⟨.hbm, 524, rfl⟩
abbrev main_call1_call0_v20 : Ref sig .tc := ⟨.hbm, 525, rfl⟩
abbrev main_call1_call0_v21 : Ref sig .tc := ⟨.hbm, 526, rfl⟩
abbrev main_call1_call0_c_3 : Ref sig .tc := ⟨.hbm, 527, rfl⟩
abbrev main_call1_call0_v22 : Ref sig .tc := ⟨.hbm, 528, rfl⟩
abbrev main_call1_call0_v23 : Ref sig .tc := ⟨.hbm, 529, rfl⟩
abbrev main_call1_call0_v24 : Ref sig .tc := ⟨.hbm, 530, rfl⟩
abbrev main_call1_call0_cst : Ref sig .tc := ⟨.hbm, 531, rfl⟩
abbrev main_call1_call0_v25 : Ref sig .tc := ⟨.hbm, 532, rfl⟩
abbrev main_call1_call0_v26 : Ref sig .tc := ⟨.hbm, 533, rfl⟩
abbrev main_call1_call0_v27 : Ref sig .tc := ⟨.hbm, 534, rfl⟩
abbrev main_call1_call0_v28 : Ref sig .tc := ⟨.hbm, 535, rfl⟩
abbrev main_call1_call0_v29 : Ref sig .tc := ⟨.hbm, 536, rfl⟩
abbrev main_call1_call0_v30 : Ref sig .tc := ⟨.hbm, 537, rfl⟩
abbrev main_call1_call0_v31 : Ref sig .tc := ⟨.hbm, 538, rfl⟩
abbrev main_call1_call0_v32 : Ref sig .tc := ⟨.hbm, 539, rfl⟩
abbrev main_call1_v0 : Ref sig .tc := ⟨.hbm, 540, rfl⟩
abbrev main_call1_v1 : Ref sig .tc := ⟨.hbm, 541, rfl⟩
abbrev main_call1_v2 : Ref sig .tc := ⟨.hbm, 542, rfl⟩
abbrev main_call1_v3 : Ref sig .tc := ⟨.hbm, 543, rfl⟩
abbrev main_v30 : Ref sig .tc := ⟨.hbm, 544, rfl⟩
abbrev main_v31 : Ref sig .tc := ⟨.hbm, 545, rfl⟩
abbrev main_call2_v0 : Ref sig .tc := ⟨.hbm, 546, rfl⟩
abbrev main_call2_cst : Ref sig .tc := ⟨.hbm, 547, rfl⟩
abbrev main_call2_c : Ref sig .tc := ⟨.hbm, 548, rfl⟩
abbrev main_call2_v1_0 : Ref sig .tc := ⟨.hbm, 549, rfl⟩
abbrev main_v32 : Ref sig .tc := ⟨.hbm, 550, rfl⟩
abbrev main_call3_v0 : Ref sig .tc := ⟨.hbm, 551, rfl⟩
abbrev main_call3_v1 : Ref sig .tc := ⟨.hbm, 552, rfl⟩
abbrev main_call3_v2 : Ref sig .tc := ⟨.hbm, 553, rfl⟩
abbrev main_call3_v3 : Ref sig .tc := ⟨.hbm, 554, rfl⟩
abbrev main_call3_v4 : Ref sig .tc := ⟨.hbm, 555, rfl⟩
abbrev main_v33 : Ref sig .tc := ⟨.hbm, 556, rfl⟩

abbrev nD : Nat := 1
abbrev τ : Topo := Topo.v7x

variable {F : FTy → Type} [FloatOps F]
-- ==== Proof.Common.lean ====
/-
  Facts the three kernels share and no program owns: what a load or a store over a whole buffer reads and leaves,
  and what the column mask of a ragged last block says.
-/
module

public import Idealize.ShloMosaic.Lib.Pipeline.RegionArraysS
public import Idealize.ShloMosaic.Lib.Pipeline.Value
public import Idealize.ShloMosaic.Lib.Pipeline.TableIdle
public import Idealize.ShloMosaic.Lib.Tactic

@[expose] public section

noncomputable section

namespace Cert.Proof.Common

open Idealize.ShloMosaic

/-- The offsets every access of these kernels is made at. -/
theorem zero2 : (![0, 0] : Fin 2 → Nat) = fun _ => 0 := funext fun a => by fin_cases a <;> rfl

/-- A store over the whole of a buffer leaves its payload, whatever the buffer held. -/
theorem read_store {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ fun y => ⟨_, List.mem_singleton_self _, by
    subst h; exact View.mem_set_unit_zero rfl inb y⟩, View.canon_unit_zero h]

/-- A load over the whole of a buffer reads what it holds. -/
theorem read_load {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb _

/-- The column a lane of block `n` stands for, as the 32-bit word the kernels compute. -/
theorem toNat_col (n m : ℕ) (hn : n < 16) (hm : m < 65536) :
    (BitVec.ofNat 32 m + BitVec.ofNat 32 n * 65536#32).toNat = n * 65536 + m := by
  have e1 : (BitVec.ofNat 32 m).toNat = m := by rw [BitVec.toNat_ofNat]; omega
  have e2 : (BitVec.ofNat 32 n).toNat = n := by rw [BitVec.toNat_ofNat]; omega
  rw [BitVec.toNat_add, BitVec.toNat_mul, e1, e2]
  simp only [BitVec.toNat_ofNat]
  omega

/-- Signed comparison of two small words is comparison of the numbers. -/
theorem slt_small (x y : BitVec 32) (hx : x.toNat < 2147483648) (hy : y.toNat < 2147483648) :
    x.slt y = decide (x.toNat < y.toNat) := by
  rw [BitVec.slt, BitVec.toInt_eq_toNat_of_lt (by omega), BitVec.toInt_eq_toNat_of_lt (by omega)]
  simp

/-- The mask bit of a lane: its column lies inside the array. -/
theorem mask_iff (n m : ℕ) (hn : n < 16) (hm : m < 65536) :
    Scalar.cmpi (w := 32) .slt (BitVec.ofNat 32 m + BitVec.ofNat 32 n * 65536#32) 1000000#32 = 1#1 ↔ n * 65536 + m < 1000000 := by
  have h := toNat_col n m hn hm
  have h2 : (1000000#32 : BitVec 32).toNat = 1000000 := rfl
  show BitVec.ofBool (BitVec.slt _ _) = 1#1 ↔ _
  rw [slt_small _ _ (by omega) (by omega), h, h2]
  by_cases hlt : n * 65536 + m < 1000000 <;> simp [hlt]

end Cert.Proof.Common

end
-- ==== Proof.Stats.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Common

@[expose] public section

set_option maxRecDepth 16384

noncomputable section

namespace Cert.Proof.Stats

open Cert.KernelIdeal Cert.KernelIdeal.Gen Cert.Proof.Common

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first point's body stores the block's sum and sum of squares. -/
theorem stats_first (c : Dev nD) (i : grid0.Coords) (M1 : Memref sig .tc .vmem S32x65536 .f32) (h1 : M1.IsWhole)
    (M2 : Memref sig .tc .smem S1x1 .f32) (h2 : M2.IsWhole) (M3 : Memref sig .tc .smem S1x1 .f32) (h3 : M3.IsWhole)
    (hc1 : k0_cond1 i = 1#1) (hc2 : ¬ k0_cond2 i = 1#1)
    (X : S32x65536.Idx → Elt F .f32) (Y Z : S1x1.Idx → Elt F .f32) (E : Set ℕ) (K : PUnit → sProp 𝕄) :
    iprop(owns (c : Thread nD τ) M1 fullShare X ∗ owns (c : Thread nD τ) M2 fullShare Y ∗ owns (c : Thread nD τ) M3 fullShare Z
        ∗ (iprop(owns (c : Thread nD τ) M1 fullShare X ∗ owns (c : Thread nD τ) M2 fullShare (fun _ => k0_pay2 i X)
            ∗ owns (c : Thread nD τ) M3 fullShare (fun _ => k0_pay3 i X)) -∗ K ⟨⟩))
      ⊢ wp frame (wpE (defs₀ (F := F)) Variants.none c none) E (cc0__stats_body i M1 h1 M2 h2 M3 h3) K := by
  simp only [cc0__stats_body_eq_skeleton]; unfold cc0__stats_body_skel
  unfold owns
  iintro ⟨⟨%f1, %hf1, H1⟩, ⟨%f2, %hf2, H2⟩, ⟨%f3, %hf3, H3⟩, Hk⟩
  sl_exec (disch := first | sl_exact hc1 | sl_exact hc2)
  sl_step
  iapply Hk
  isplitl [H1]
  · iexists f1; isplitr; · ipureintro; exact hf1
    iexact H1
  isplitl [H2]
  · iexists _; isplitr; swap; · iexact H2
    ipureintro
    rw [read_store _ _ zero2, read_load _ _ zero2, hf1]; rfl
  · iexists _; isplitr; swap; · iexact H3
    ipureintro
    rw [read_store _ _ zero2, read_load _ _ zero2, hf1]; rfl

/-- The body at a later point adds the block's sum, and its sum of squares, to what the two accumulators hold. -/
theorem stats_later (c : Dev nD) (i : grid0.Coords) (M1 : Memref sig .tc .vmem S32x65536 .f32) (h1 : M1.IsWhole)
    (M2 : Memref sig .tc .smem S1x1 .f32) (h2 : M2.IsWhole) (M3 : Memref sig .tc .smem S1x1 .f32) (h3 : M3.IsWhole)
    (hc1 : ¬ k0_cond1 i = 1#1) (hc2 : k0_cond2 i = 1#1)
    (X : S32x65536.Idx → Elt F .f32) (y z : Elt F .f32) (E : Set ℕ) (K : PUnit → sProp 𝕄) :
    iprop(owns (c : Thread nD τ) M1 fullShare X ∗ owns (c : Thread nD τ) M2 fullShare (fun _ => y) ∗ owns (c : Thread nD τ) M3 fullShare (fun _ => z)
        ∗ (iprop(owns (c : Thread nD τ) M1 fullShare X ∗ owns (c : Thread nD τ) M2 fullShare (fun _ => k0_pay4 i X y)
            ∗ owns (c : Thread nD τ) M3 fullShare (fun _ => k0_pay5 i X z)) -∗ K ⟨⟩))
      ⊢ wp frame (wpE (defs₀ (F := F)) Variants.none c none) E (cc0__stats_body i M1 h1 M2 h2 M3 h3) K := by
  simp only [cc0__stats_body_eq_skeleton]; unfold cc0__stats_body_skel
  unfold owns
  iintro ⟨⟨%f1, %hf1, H1⟩, ⟨%f2, %hf2, H2⟩, ⟨%f3, %hf3, H3⟩, Hk⟩
  sl_exec (disch := first | sl_exact hc1 | sl_exact hc2)
  sl_step
  iapply Hk
  isplitl [H1]
  · iexists f1; isplitr; · ipureintro; exact hf1
    iexact H1
  isplitl [H2]
  · iexists _; isplitr; swap; · iexact H2
    ipureintro
    rw [read_store _ _ zero2]
    unfold stats_later.sl.r
    rw [read_load _ _ zero2, hf1, read_load _ _ zero2, hf2]; rfl
  · iexists _; isplitr; swap; · iexact H3
    ipureintro
    rw [read_store _ _ zero2]
    unfold stats_later.sl.r_1
    rw [read_load _ _ zero2, hf1, read_load _ _ zero2, hf3]; rfl

/-! ## The grid's points -/

/-- The point's one coordinate is its number. -/
theorem coord0 : ∀ t : Fin cfg0.N, (grid0.coords t 0).val = t.val := by decide +kernel

/-- The first conditional runs at the first point only. -/
theorem cond1_iff : ∀ t : Fin cfg0.N, k0_cond1 (grid0.coords t) = 1#1 ↔ t.val = 0 := by decide +kernel

/-- The second runs at every other point. -/
theorem cond2_iff : ∀ t : Fin cfg0.N, k0_cond2 (grid0.coords t) = 1#1 ↔ t.val ≠ 0 := by decide +kernel

/-- At every point one of the two stores to the accumulators runs. -/
theorem live1 : ∀ i : grid0.Coords, idle0 1 i = false := by decide +kernel
/-- And so for the sum of the squares. -/
theorem live2 : ∀ i : grid0.Coords, idle0 2 i = false := by decide +kernel

/-- How much of the block lies inside the array. -/
theorem xsize0 : ∀ i : grid0.Coords, win0_0.xsize i 0 = 32 ∧ win0_0.xsize i 1 = min 65536 (1000000 - (i 0).val * 65536) := by
  decide +kernel

/-- A point's coordinate is below sixteen. -/
theorem coord_lt (i : grid0.Coords) : (i 0).val < 16 := (i 0).isLt

/-- The lanes the fetch fills are those whose column lies inside the array. -/
theorem moved0 (i : grid0.Coords) (j : S32x65536.Idx) : win0_0.moved i j = true ↔ (i 0).val * 65536 + (j 1).val < 1000000 := by
  have h1 : (j 1).val < 65536 := (j 1).isLt
  have h0 : (j 0).val < 32 := (j 0).isLt
  have hx := xsize0 i
  have hi := coord_lt i
  rw [win0_0.moved_iff]
  constructor
  · intro h
    have := h 1
    rw [hx.2] at this
    have := lt_min_iff.mp this
    omega
  · intro h a
    fin_cases a
    · show (j 0).val < _; rw [show win0_0.xsize i ⟨0, by decide⟩ = win0_0.xsize i 0 from rfl, hx.1]; exact h0
    · show (j 1).val < _; rw [show win0_0.xsize i ⟨1, by decide⟩ = win0_0.xsize i 1 from rfl, hx.2, lt_min_iff]; omega

/-- The masked block, lane by lane: the array's entry inside it, zero past its end. -/
theorem pay1_apply (i : grid0.Coords) (X : S32x65536.Idx → Elt F .f32) (j : S32x65536.Idx) :
    k0_pay1 i X j = if (i 0).val * 65536 + (j 1).val < 1000000 then X j else Scalar.ofBits .f32 0#32 := by
  have h1 : (j 1).val < 65536 := (j 1).isLt
  have hm := mask_iff (i 0).val (j 1).val (coord_lt i) h1
  have e : k0_pay1 i X j = if Scalar.cmpi (w := 32) .slt (BitVec.ofNat 32 (0 * 65536 + (j 1).val) + BitVec.ofNat 32 (i 0).val * 65536#32) 1000000#32 = 1#1 then X j else Scalar.ofBits .f32 0#32 := rfl
  rw [e, Nat.zero_mul, Nat.zero_add]
  exact if_congr hm rfl rfl

/-- What lies past the array's end in the staging buffer does not enter the masked block. -/
theorem pay1_fill (i : grid0.Coords) (d d' : S32x65536.Idx → Elt F .f32) (g : (win0_0.xblock i).Idx → Elt F .f32) :
    k0_pay1 i (win0_0.fill i d g) = k0_pay1 i (win0_0.fill i d' g) := by
  funext j
  rw [pay1_apply, pay1_apply]
  by_cases h : (i 0).val * 65536 + (j 1).val < 1000000
  · have hm := (moved0 i j).mpr h
    rw [if_pos h, if_pos h]; unfold Window.fill; rw [dif_pos hm, dif_pos hm]
  · rw [if_neg h, if_neg h]

/-- So the block's sum does not depend on the lanes past the array's end, -/
theorem pay2_fill (i : grid0.Coords) (d d' : S32x65536.Idx → Elt F .f32) (g : (win0_0.xblock i).Idx → Elt F .f32) :
    k0_pay2 i (win0_0.fill i d g) = k0_pay2 i (win0_0.fill i d' g) := by
  unfold k0_pay2; rw [pay1_fill i d d' g]

/-- nor does the sum of the squares. -/
theorem pay3_fill (i : grid0.Coords) (d d' : S32x65536.Idx → Elt F .f32) (g : (win0_0.xblock i).Idx → Elt F .f32) :
    k0_pay3 i (win0_0.fill i d g) = k0_pay3 i (win0_0.fill i d' g) := by
  unfold k0_pay3; rw [pay1_fill i d d' g]

/-! ## The proof data -/

variable (W : Dev nD → Valuation τ sig (Elt F))

/-- The array's block at a point, zero past the array's end. -/
def tile (c : Dev nD) (t : Fin cfg0.N) : S32x65536.Idx → Elt F .f32 :=
  win0_0.fill (grid0.coords t) (fun _ => Scalar.ofBits .f32 0#32) ((win0_0.blk t).view.read (Elt F) (W c main_arg0))

/-- The first accumulator after a point: the sum of the blocks so far. -/
def sumAt (c : Dev nD) : (n : ℕ) → n < cfg0.N → Elt F .f32
  | 0, h => k0_pay2 (grid0.coords ⟨0, h⟩) (tile W c ⟨0, h⟩)
  | n + 1, h => k0_pay4 (grid0.coords ⟨n + 1, h⟩) (tile W c ⟨n + 1, h⟩) (sumAt c n (Nat.lt_of_succ_lt h))

/-- The second accumulator after a point: the sum of the blocks' squares so far. -/
def sqAt (c : Dev nD) : (n : ℕ) → n < cfg0.N → Elt F .f32
  | 0, h => k0_pay3 (grid0.coords ⟨0, h⟩) (tile W c ⟨0, h⟩)
  | n + 1, h => k0_pay5 (grid0.coords ⟨n + 1, h⟩) (tile W c ⟨n + 1, h⟩) (sqAt c n (Nat.lt_of_succ_lt h))

/-- The pipeline's proof data, entered with the arrays at `W`. -/
def dat (c : Dev nD) : Dat τ (Elt F) Unit ℕ (UR sig nD τ) ℕ cfg0 c where
  A w := W c (Pipeline.arrRef spec0 w)
  after w t := match w with
    | ⟨0, _⟩ => tile W c t
    | ⟨1, _⟩ => fun _ => sumAt W c t.val t.isLt
    | ⟨2, _⟩ => fun _ => sqAt W c t.val t.isLt
  Φ _ := Pipeline.scopedRest (Ix := Unit) (Name := ℕ) (U := UR sig nD τ) (Lvl := ℕ) (Val := Elt F) spec0 c
  q _ := fullShare
  owed _ := 0

/-- What the body finds in the input's buffer: the block where the fetch filled it. -/
theorem before_in (c : Dev nD) (t : Fin cfg0.N) (d) :
    (dat W c).before 0 t d = win0_0.fill (grid0.coords t) d ((win0_0.blk t).view.read (Elt F) (W c main_arg0)) := by
  rw [Dat.before_fetched _ 0 t (fetch0_0 t)]; rfl

/-- What the body finds in the accumulators after the first point: what it left at the point before. -/
theorem before_sum (c : Dev nD) (n : ℕ) (h : n + 1 < cfg0.N) (d) :
    (dat W c).before 1 ⟨n + 1, h⟩ d = fun _ => sumAt W c n (Nat.lt_of_succ_lt h) := by
  rw [Dat.before_out_kept _ 1 rfl _ (Nat.succ_ne_zero n) ?_ live1 (fun _ _ => rfl)]; · rfl
  have hN : cfg0.N = 16 := N_0
  refine Bool.eq_false_iff.mpr fun hf => ?_
  have := (flush0_1 _).mp hf
  simp only [Nat.add_sub_cancel] at this
  omega

/-- A later point finds the sum of the squares that the point before left. -/
theorem before_sq (c : Dev nD) (n : ℕ) (h : n + 1 < cfg0.N) (d) :
    (dat W c).before 2 ⟨n + 1, h⟩ d = fun _ => sqAt W c n (Nat.lt_of_succ_lt h) := by
  rw [Dat.before_out_kept _ 2 rfl _ (Nat.succ_ne_zero n) ?_ live2 (fun _ _ => rfl)]; · rfl
  have hN : cfg0.N = 16 := N_0
  refine Bool.eq_false_iff.mpr fun hf => ?_
  have := (flush0_2 _).mp hf
  simp only [Nat.add_sub_cancel] at this
  omega

/-- The body keeps what the proof data say. -/
theorem body_obligation (c : Dev nD) : BodyObligationLoose (dat W c) (defs₀ (F := F)) Variants.none () Set.univ := fun t => by
  rw [bigSep_W0, bigSep_W0]
  simp only
  rw [live1 (grid0.coords t)]
  dsimp only
  rw [show (dat W c).Φ t.succ = (dat W c).Φ t.castSucc from rfl,
    show (dat W c).owesAt () t.succ = (dat W c).owesAt () t.castSucc from rfl]
  iintro ⟨HΦ, Ho, ⟨%d0, H0⟩, ⟨%d1, H1⟩, ⟨%d2, H2⟩⟩
  rw [before_in W c t d0]
  have hcut : (win0 0).cut (grid0.coords t) ((dat W c).after 0 t) = (win0_0.blk t).view.read (Elt F) (W c main_arg0) :=
    win0_0.cut_fill _ _ _
  rw [hcut]
  obtain ⟨n, hn⟩ := t
  cases n with
  | zero =>
    iapply (stats_first (F := F) c (grid0.coords ⟨0, hn⟩) _ (hstage0_0 ((cfg0.slots ⟨0, hn⟩ 0).cast nbuf0_0)) _ (hstage0_1 ((cfg0.slots ⟨0, hn⟩ 1).cast nbuf0_1))
      _ (hstage0_2 ((cfg0.slots ⟨0, hn⟩ 2).cast nbuf0_2)) ((cond1_iff _).mpr rfl) (fun h => (cond2_iff _).mp h rfl))
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    rw [pay2_fill _ _ (fun _ => Scalar.ofBits .f32 0#32), pay3_fill _ _ (fun _ => Scalar.ofBits .f32 0#32)]
    isplitl [H1]; · iexact H1
    iexact H2
  | succ n =>
    rw [before_sum, before_sq]
    iapply (stats_later (F := F) c (grid0.coords ⟨n + 1, hn⟩) _ (hstage0_0 ((cfg0.slots ⟨n + 1, hn⟩ 0).cast nbuf0_0)) _ (hstage0_1 ((cfg0.slots ⟨n + 1, hn⟩ 1).cast nbuf0_1))
      _ (hstage0_2 ((cfg0.slots ⟨n + 1, hn⟩ 2).cast nbuf0_2)) (fun h => Nat.succ_ne_zero n ((cond1_iff _).mp h)) ((cond2_iff _).mpr (Nat.succ_ne_zero n)))
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexists d0; iexact H0
    unfold k0_pay4 k0_pay5
    rw [pay2_fill _ _ (fun _ => Scalar.ofBits .f32 0#32), pay3_fill _ _ (fun _ => Scalar.ofBits .f32 0#32)]
    isplitl [H1]; · iexact H1
    iexact H2

end Cert.Proof.Stats

end
-- ==== Proof.Argmax.lean ====
/-
  The second kernel: at each grid point it normalises the block of logits by the statistics the first kernel left, adds
  the block of the random table, and keeps per row the greatest entry so far with the least column that attains it.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Stats

@[expose] public section

set_option maxRecDepth 16384

noncomputable section

namespace Cert.Proof.Argmax

open Cert.KernelIdeal Cert.KernelIdeal.Gen Cert.Proof.Common

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body, run by the executor -/

/-- The body at the first point: it leaves the block's row maxima and the least columns that attain them. -/
theorem argmax_first (c : Dev nD) (i : grid1.Coords)
    (M1 : Memref sig .tc .smem S1x1 .f32) (h1 : M1.IsWhole) (M2 : Memref sig .tc .smem S1x1 .f32) (h2 : M2.IsWhole)
    (M3 : Memref sig .tc .smem S1x1 .f32) (h3 : M3.IsWhole) (M4 : Memref sig .tc .smem S1x1 .f32) (h4 : M4.IsWhole)
    (M5 : Memref sig .tc .vmem S32x65536 .f32) (h5 : M5.IsWhole) (M6 : Memref sig .tc .vmem S32x65536 .f32) (h6 : M6.IsWhole)
    (M7 : Memref sig .tc .vmem S32x1 .i32) (h7 : M7.IsWhole) (M8 : Memref sig .tc .vmem S32x1 .f32) (h8 : M8.IsWhole)
    (hc1 : k1_cond1 i = 1#1) (hc2 : ¬ k1_cond2 i = 1#1)
    (x1 x2 x3 x4 : Elt F .f32) (X5 X6 : S32x65536.Idx → Elt F .f32) (Y : S32x1.Idx → Elt F .i32) (Z : S32x1.Idx → Elt F .f32)
    (E : Set ℕ) (K : PUnit → sProp 𝕄) :
    iprop(owns (c : Thread nD τ) M1 fullShare (fun _ => x1) ∗ owns (c : Thread nD τ) M2 fullShare (fun _ => x2)
        ∗ owns (c : Thread nD τ) M3 fullShare (fun _ => x3) ∗ owns (c : Thread nD τ) M4 fullShare (fun _ => x4)
        ∗ owns (c : Thread nD τ) M5 fullShare X5 ∗ owns (c : Thread nD τ) M6 fullShare X6
        ∗ owns (c : Thread nD τ) M7 fullShare Y ∗ owns (c : Thread nD τ) M8 fullShare Z
        ∗ (iprop(owns (c : Thread nD τ) M1 fullShare (fun _ => x1) ∗ owns (c : Thread nD τ) M2 fullShare (fun _ => x2)
            ∗ owns (c : Thread nD τ) M3 fullShare (fun _ => x3) ∗ owns (c : Thread nD τ) M4 fullShare (fun _ => x4)
            ∗ owns (c : Thread nD τ) M5 fullShare X5 ∗ owns (c : Thread nD τ) M6 fullShare X6
            ∗ owns (c : Thread nD τ) M7 fullShare (k1_pay1 (k1_pay8 i x1 x2 x3 x4 X5 X6))
            ∗ owns (c : Thread nD τ) M8 fullShare (k1_pay7 i x1 x2 x3 x4 X5 X6)) -∗ K ⟨⟩))
      ⊢ wp frame (wpE (defs₀ (F := F)) Variants.none c none) E (cc1__argmax_body i M1 h1 M2 h2 M3 h3 M4 h4 M5 h5 M6 h6 M7 h7 M8 h8) K := by
  simp only [cc1__argmax_body_eq_skeleton]; unfold cc1__argmax_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | sl_exact hc1 | sl_exact hc2)
  have e5 := read_load (Val := Elt F) M5.view f5 zero2 inb_S32x65536_S32x65536_0_0
  have e6 := read_load (Val := Elt F) M6.view f6 zero2 inb_S32x65536_S32x65536_0_0
  rw [hf5] at e5
  rw [hf6] at e6
  have e1 : argmax_first.sl.r c M1 f1 = x1 := by unfold argmax_first.sl.r; rw [read_load _ _ zero2, hf1]
  have e2 : argmax_first.sl.r_1 c M2 f2 = x2 := by unfold argmax_first.sl.r_1; rw [read_load _ _ zero2, hf2]
  have e3 : argmax_first.sl.r_2 c M3 f3 = x3 := by unfold argmax_first.sl.r_2; rw [read_load _ _ zero2, hf3]
  have e4 : argmax_first.sl.r_3 c M4 f4 = x4 := by unfold argmax_first.sl.r_3; rw [read_load _ _ zero2, hf4]
  rw [e1, e2, e3, e4, e5, e6]
  dsimp only
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    exact read_store (Val := Elt F) M7.view f7 zero2 inb_S32x1_S32x1_0_0 _
  · iexists _; isplitr; swap; · iexact H8
    ipureintro
    exact read_store (Val := Elt F) M8.view f8 zero2 inb_S32x1_S32x1_0_0 _

/-- The body at a later point: a row takes the block's maximum and its least column where the maximum exceeds the best
    so far, and keeps the earlier ones elsewhere. -/
theorem argmax_later (c : Dev nD) (i : grid1.Coords)
    (M1 : Memref sig .tc .smem S1x1 .f32) (h1 : M1.IsWhole) (M2 : Memref sig .tc .smem S1x1 .f32) (h2 : M2.IsWhole)
    (M3 : Memref sig .tc .smem S1x1 .f32) (h3 : M3.IsWhole) (M4 : Memref sig .tc .smem S1x1 .f32) (h4 : M4.IsWhole)
    (M5 : Memref sig .tc .vmem S32x65536 .f32) (h5 : M5.IsWhole) (M6 : Memref sig .tc .vmem S32x65536 .f32) (h6 : M6.IsWhole)
    (M7 : Memref sig .tc .vmem S32x1 .i32) (h7 : M7.IsWhole) (M8 : Memref sig .tc .vmem S32x1 .f32) (h8 : M8.IsWhole)
    (hc1 : ¬ k1_cond1 i = 1#1) (hc2 : k1_cond2 i = 1#1)
    (x1 x2 x3 x4 : Elt F .f32) (X5 X6 : S32x65536.Idx → Elt F .f32) (Y : S32x1.Idx → Elt F .i32) (Z : S32x1.Idx → Elt F .f32)
    (E : Set ℕ) (K : PUnit → sProp 𝕄) :
    iprop(owns (c : Thread nD τ) M1 fullShare (fun _ => x1) ∗ owns (c : Thread nD τ) M2 fullShare (fun _ => x2)
        ∗ owns (c : Thread nD τ) M3 fullShare (fun _ => x3) ∗ owns (c : Thread nD τ) M4 fullShare (fun _ => x4)
        ∗ owns (c : Thread nD τ) M5 fullShare X5 ∗ owns (c : Thread nD τ) M6 fullShare X6
        ∗ owns (c : Thread nD τ) M7 fullShare Y ∗ owns (c : Thread nD τ) M8 fullShare Z
        ∗ (iprop(owns (c : Thread nD τ) M1 fullShare (fun _ => x1) ∗ owns (c : Thread nD τ) M2 fullShare (fun _ => x2)
            ∗ owns (c : Thread nD τ) M3 fullShare (fun _ => x3) ∗ owns (c : Thread nD τ) M4 fullShare (fun _ => x4)
            ∗ owns (c : Thread nD τ) M5 fullShare X5 ∗ owns (c : Thread nD τ) M6 fullShare X6
            ∗ owns (c : Thread nD τ) M7 fullShare (k1_pay3 (k1_pay7 i x1 x2 x3 x4 X5 X6) (k1_pay8 i x1 x2 x3 x4 X5 X6) Z Y)
            ∗ owns (c : Thread nD τ) M8 fullShare (k1_pay4 (k1_pay7 i x1 x2 x3 x4 X5 X6) Z Z)) -∗ K ⟨⟩))
      ⊢ wp frame (wpE (defs₀ (F := F)) Variants.none c none) E (cc1__argmax_body i M1 h1 M2 h2 M3 h3 M4 h4 M5 h5 M6 h6 M7 h7 M8 h8) K := by
  simp only [cc1__argmax_body_eq_skeleton]; unfold cc1__argmax_body_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec (disch := first | sl_exact hc1 | sl_exact hc2)
  have e5 := read_load (Val := Elt F) M5.view f5 zero2 inb_S32x65536_S32x65536_0_0
  have e6 := read_load (Val := Elt F) M6.view f6 zero2 inb_S32x65536_S32x65536_0_0
  rw [hf5] at e5
  rw [hf6] at e6
  have e1 : argmax_later.sl.r c M1 f1 = x1 := by unfold argmax_later.sl.r; rw [read_load _ _ zero2, hf1]
  have e2 : argmax_later.sl.r_1 c M2 f2 = x2 := by unfold argmax_later.sl.r_1; rw [read_load _ _ zero2, hf2]
  have e3 : argmax_later.sl.r_2 c M3 f3 = x3 := by unfold argmax_later.sl.r_2; rw [read_load _ _ zero2, hf3]
  have e4 : argmax_later.sl.r_3 c M4 f4 = x4 := by unfold argmax_later.sl.r_3; rw [read_load _ _ zero2, hf4]
  rw [e1, e2, e3, e4, e5, e6]
  have e7 := read_load (Val := Elt F) M7.view f7 zero2 inb_S32x1_S32x1_0_0
  have e8 := read_load (Val := Elt F) M8.view f8 zero2 inb_S32x1_S32x1_0_0
  rw [hf7] at e7
  rw [hf8] at e8
  rw [e7, e8]
  dsimp only
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    exact read_store (Val := Elt F) M7.view f7 zero2 inb_S32x1_S32x1_0_0 _
  · iexists _; isplitr; swap; · iexact H8
    ipureintro
    exact read_store (Val := Elt F) M8.view f8 zero2 inb_S32x1_S32x1_0_0 _

end Cert.Proof.Argmax

end
-- ==== Proof.ArgmaxData.lean ====
/-
  The second kernel's proof data: the blocks it reads, the running best it keeps, and its body's obligation.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Argmax

@[expose] public section

set_option maxRecDepth 16384

noncomputable section

namespace Cert.Proof.Argmax

open Cert.KernelIdeal Cert.KernelIdeal.Gen Cert.Proof.Common

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid's points -/

/-- The point's one coordinate is its number. -/
theorem coord1 : ∀ t : Fin cfg1.N, (grid1.coords t 0).val = t.val := by decide +kernel

/-- The first conditional runs at the first point only. -/
theorem cond1_iff : ∀ t : Fin cfg1.N, k1_cond1 (grid1.coords t) = 1#1 ↔ t.val = 0 := by decide +kernel

/-- The second runs at every other point. -/
theorem cond2_iff : ∀ t : Fin cfg1.N, k1_cond2 (grid1.coords t) = 1#1 ↔ t.val ≠ 0 := by decide +kernel

/-- At every point one of the two stores to the running best runs. -/
theorem live6 : ∀ i : grid1.Coords, idle1 6 i = false := by decide +kernel
/-- And so for the store to the running best's values. -/
theorem live7 : ∀ i : grid1.Coords, idle1 7 i = false := by decide +kernel

/-- How much of the blocks lies inside the arrays. -/
theorem xsize4 : ∀ i : grid1.Coords, win1_4.xsize i 0 = 32 ∧ win1_4.xsize i 1 = min 65536 (1000000 - (i 0).val * 65536) := by
  decide +kernel

/-- A point's coordinate is below sixteen. -/
theorem coord_lt (i : grid1.Coords) : (i 0).val < 16 := (i 0).isLt

/-- The lanes the fetches fill are those whose column lies inside the arrays. -/
theorem moved4 (i : grid1.Coords) (j : S32x65536.Idx) : win1_4.moved i j = true ↔ (i 0).val * 65536 + (j 1).val < 1000000 := by
  have h1 : (j 1).val < 65536 := (j 1).isLt
  have h0 : (j 0).val < 32 := (j 0).isLt
  have hx := xsize4 i
  have hi := coord_lt i
  rw [win1_4.moved_iff]
  constructor
  · intro h
    have := h 1
    rw [hx.2] at this
    have := lt_min_iff.mp this
    omega
  · intro h a
    fin_cases a
    · show (j 0).val < _; rw [show win1_4.xsize i ⟨0, by decide⟩ = win1_4.xsize i 0 from rfl, hx.1]; exact h0
    · show (j 1).val < _; rw [show win1_4.xsize i ⟨1, by decide⟩ = win1_4.xsize i 1 from rfl, hx.2, lt_min_iff]; omega

/-- The table's blocks are filled on the same lanes. -/
theorem moved5 (i : grid1.Coords) (j : S32x65536.Idx) : win1_5.moved i j = true ↔ (i 0).val * 65536 + (j 1).val < 1000000 :=
  moved4 i j

/-- The count of entries as the kernel computes it. -/
def count : Elt F .f32 := Scalar.mulf (Scalar.ofBits .f32 0x42000000#32) (Scalar.ofBits .f32 0x49742400#32)

/-- The square root of the variance, from the two sums. -/
def sdev (x1 x2 : Elt F .f32) : Elt F .f32 :=
  Scalar.sqrt (Scalar.subf (Scalar.divf x2 count) (Scalar.mulf (Scalar.divf x1 count) (Scalar.divf x1 count)))

/-- One lane's score before the mask: the logit normalised, scaled and shifted, plus the table's entry. -/
def score (x1 x2 x3 x4 u v : Elt F .f32) : Elt F .f32 :=
  FloatOps.addf (FloatOps.addf (FloatOps.mulf (FloatOps.divf (FloatOps.subf u (Scalar.divf x1 count))
    (Scalar.addf (Scalar.mulf (sdev x1 x2) (sdev x1 x2)) (Scalar.ofBits .f32 0x3727C5AC#32))) x3) x4) v

/-- The masked scores, lane by lane: the score inside the array, the least value past its end. -/
theorem pay6_apply (i : grid1.Coords) (x1 x2 x3 x4 : Elt F .f32) (X Z : S32x65536.Idx → Elt F .f32) (j : S32x65536.Idx) :
    k1_pay6 i x1 x2 x3 x4 X Z j
      = if (i 0).val * 65536 + (j 1).val < 1000000 then score x1 x2 x3 x4 (X j) (Z j) else Scalar.ofBits .f32 0xFF800000#32 := by
  have h1 : (j 1).val < 65536 := (j 1).isLt
  have hm := mask_iff (i 0).val (j 1).val (coord_lt i) h1
  have e : k1_pay6 i x1 x2 x3 x4 X Z j
      = if Scalar.cmpi (w := 32) .slt (BitVec.ofNat 32 (0 * 65536 + (j 1).val) + BitVec.ofNat 32 (i 0).val * 65536#32) 1000000#32 = 1#1
        then score x1 x2 x3 x4 (X j) (shapeCast S32x65536 Z shapeCasts_S32x65536_S32x65536 j) else Scalar.ofBits .f32 0xFF800000#32 := rfl
  rw [e, Nat.zero_mul, Nat.zero_add, shapeCast_self]
  exact if_congr hm rfl rfl

/-- What lies past the arrays' ends in the staging buffers does not enter the masked scores. -/
theorem pay6_fill (i : grid1.Coords) (x1 x2 x3 x4 : Elt F .f32) (d d' e e' : S32x65536.Idx → Elt F .f32)
    (g : (win1_4.xblock i).Idx → Elt F .f32) (h : (win1_5.xblock i).Idx → Elt F .f32) :
    k1_pay6 i x1 x2 x3 x4 (win1_4.fill i d g) (win1_5.fill i e h) = k1_pay6 i x1 x2 x3 x4 (win1_4.fill i d' g) (win1_5.fill i e' h) := by
  funext j
  rw [pay6_apply, pay6_apply]
  by_cases hj : (i 0).val * 65536 + (j 1).val < 1000000
  · have h4 := (moved4 i j).mpr hj
    have h5 := (moved5 i j).mpr hj
    rw [if_pos hj, if_pos hj]; unfold Window.fill; rw [dif_pos h4, dif_pos h4, dif_pos h5, dif_pos h5]
  · rw [if_neg hj, if_neg hj]

/-- Nor the block's row maxima, nor the columns that attain them. -/
theorem pay78_fill (i : grid1.Coords) (x1 x2 x3 x4 : Elt F .f32) (d d' e e' : S32x65536.Idx → Elt F .f32)
    (g : (win1_4.xblock i).Idx → Elt F .f32) (h : (win1_5.xblock i).Idx → Elt F .f32) :
    k1_pay7 i x1 x2 x3 x4 (win1_4.fill i d g) (win1_5.fill i e h) = k1_pay7 i x1 x2 x3 x4 (win1_4.fill i d' g) (win1_5.fill i e' h)
    ∧ k1_pay8 i x1 x2 x3 x4 (win1_4.fill i d g) (win1_5.fill i e h) = k1_pay8 i x1 x2 x3 x4 (win1_4.fill i d' g) (win1_5.fill i e' h) := by
  have h6 := pay6_fill i x1 x2 x3 x4 d d' e e' g h
  unfold k1_pay8 k1_pay7
  rw [h6]
  exact ⟨rfl, rfl⟩

/-! ## The proof data -/

variable (W : Dev nD → Valuation τ sig (Elt F))

/-- The one entry of a one-entry array. -/
def one (f : S1x1.Idx → Elt F .f32) : Elt F .f32 := f fun a => ⟨0, by fin_cases a <;> decide⟩

/-- A one-entry array is its entry everywhere. -/
theorem one_eq (f : S1x1.Idx → Elt F .f32) : f = fun _ => one f :=
  funext fun j => congrArg f (funext fun a => by fin_cases a <;> exact Subsingleton.elim (α := Fin 1) _ _)

/-- The logits' block at a point, zero past the array's end. -/
def tile (c : Dev nD) (t : Fin cfg1.N) : S32x65536.Idx → Elt F .f32 :=
  win1_4.fill (grid1.coords t) (fun _ => Scalar.ofBits .f32 0#32) ((win1_4.blk t).view.read (Elt F) (W c main_arg0))

/-- The table's block at a point, zero past the array's end. -/
def gtile (c : Dev nD) (t : Fin cfg1.N) : S32x65536.Idx → Elt F .f32 :=
  win1_5.fill (grid1.coords t) (fun _ => Scalar.ofBits .f32 0#32) ((win1_5.blk t).view.read (Elt F) (W c main_v12))

/-- A point's row maxima, and the columns that attain them. -/
def rowMax (c : Dev nD) (t : Fin cfg1.N) : S32x1.Idx → Elt F .f32 :=
  k1_pay7 (grid1.coords t) (one (W c main_v13_0)) (one (W c main_v13_1)) (one (W c main_v14)) (one (W c main_v15)) (tile W c t) (gtile W c t)
/-- The columns that attain it, and a large number elsewhere. -/
def rowCols (c : Dev nD) (t : Fin cfg1.N) : S32x65536.Idx → Elt F .i32 :=
  k1_pay8 (grid1.coords t) (one (W c main_v13_0)) (one (W c main_v13_1)) (one (W c main_v14)) (one (W c main_v15)) (tile W c t) (gtile W c t)

/-- The running column and best after a point. -/
def runAt (c : Dev nD) : (n : ℕ) → n < cfg1.N → (S32x1.Idx → Elt F .i32) × (S32x1.Idx → Elt F .f32)
  | 0, h => (k1_pay1 (rowCols W c ⟨0, h⟩), rowMax W c ⟨0, h⟩)
  | n + 1, h =>
    (k1_pay3 (rowMax W c ⟨n + 1, h⟩) (rowCols W c ⟨n + 1, h⟩) (runAt c n (Nat.lt_of_succ_lt h)).2 (runAt c n (Nat.lt_of_succ_lt h)).1,
     k1_pay4 (rowMax W c ⟨n + 1, h⟩) (runAt c n (Nat.lt_of_succ_lt h)).2 (runAt c n (Nat.lt_of_succ_lt h)).2)

/-- The pipeline's proof data, entered with the arrays at `W`. -/
def dat (c : Dev nD) : Dat τ (Elt F) Unit ℕ (UR sig nD τ) ℕ cfg1 c where
  A w := W c (Pipeline.arrRef spec1 w)
  after w t := match w with
    | ⟨0, _⟩ => fun _ => one (W c main_v13_0)
    | ⟨1, _⟩ => fun _ => one (W c main_v13_1)
    | ⟨2, _⟩ => fun _ => one (W c main_v14)
    | ⟨3, _⟩ => fun _ => one (W c main_v15)
    | ⟨4, _⟩ => tile W c t
    | ⟨5, _⟩ => gtile W c t
    | ⟨6, _⟩ => (runAt W c t.val t.isLt).1
    | ⟨7, _⟩ => (runAt W c t.val t.isLt).2
  Φ _ := Pipeline.scopedRest (Ix := Unit) (Name := ℕ) (U := UR sig nD τ) (Lvl := ℕ) (Val := Elt F) spec1 c
  q _ := fullShare
  owed _ := 0

/-- The rows' maxima, with the blocks written out. -/
theorem rowMax_eq (c : Dev nD) (t : Fin cfg1.N) :
    rowMax W c t = k1_pay7 (grid1.coords t) (one (W c main_v13_0)) (one (W c main_v13_1)) (one (W c main_v14)) (one (W c main_v15))
      (win1_4.fill (grid1.coords t) (fun _ => Scalar.ofBits .f32 0#32) ((win1_4.blk t).view.read (Elt F) (W c main_arg0)))
      (win1_5.fill (grid1.coords t) (fun _ => Scalar.ofBits .f32 0#32) ((win1_5.blk t).view.read (Elt F) (W c main_v12))) := by
  unfold rowMax tile gtile; rfl
/-- The columns that attain them, with the blocks written out. -/
theorem rowCols_eq (c : Dev nD) (t : Fin cfg1.N) :
    rowCols W c t = k1_pay8 (grid1.coords t) (one (W c main_v13_0)) (one (W c main_v13_1)) (one (W c main_v14)) (one (W c main_v15))
      (win1_4.fill (grid1.coords t) (fun _ => Scalar.ofBits .f32 0#32) ((win1_4.blk t).view.read (Elt F) (W c main_arg0)))
      (win1_5.fill (grid1.coords t) (fun _ => Scalar.ofBits .f32 0#32) ((win1_5.blk t).view.read (Elt F) (W c main_v12))) := by
  unfold rowCols tile gtile; rfl

/-- The first point leaves its own rows' columns, -/
theorem after_6_zero (c : Dev nD) (h : 0 < cfg1.N) : (dat W c).after 6 ⟨0, h⟩ = k1_pay1 (rowCols W c ⟨0, h⟩) := by
  dsimp only [dat, runAt]
/-- and its own rows' maxima. -/
theorem after_7_zero (c : Dev nD) (h : 0 < cfg1.N) : (dat W c).after 7 ⟨0, h⟩ = rowMax W c ⟨0, h⟩ := by
  dsimp only [dat, runAt]
/-- A later point leaves its own column where its maximum is greater, -/
theorem after_6_succ (c : Dev nD) (n : ℕ) (h : n + 1 < cfg1.N) : (dat W c).after 6 ⟨n + 1, h⟩
    = k1_pay3 (rowMax W c ⟨n + 1, h⟩) (rowCols W c ⟨n + 1, h⟩) (runAt W c n (Nat.lt_of_succ_lt h)).2 (runAt W c n (Nat.lt_of_succ_lt h)).1 := by
  dsimp only [dat, runAt]
/-- and the greater of the two maxima. -/
theorem after_7_succ (c : Dev nD) (n : ℕ) (h : n + 1 < cfg1.N) : (dat W c).after 7 ⟨n + 1, h⟩
    = k1_pay4 (rowMax W c ⟨n + 1, h⟩) (runAt W c n (Nat.lt_of_succ_lt h)).2 (runAt W c n (Nat.lt_of_succ_lt h)).2 := by
  dsimp only [dat, runAt]

/-- A one-entry array's block is its one entry, at every point. -/
theorem blk_one (f : S1x1.Idx → Elt F .f32) (g : S1x1.Idx → S1x1.Idx) : (fun j => f (g j)) = fun _ => one f :=
  funext fun j => congrFun (one_eq f) (g j)

/-- What the body finds in the one-entry inputs' buffers, fetched at the point or earlier: their entries. -/
theorem before_0 (c : Dev nD) (t : Fin cfg1.N) (d) : (dat W c).before 0 t d = fun _ => one (W c main_v13_0) := by
  rw [Dat.before_in_eq_fetched _ 0 rfl (fun _ => rfl) (fun _ _ _ => rfl) (fun t => (blk_one (W c main_v13_0) _).symm)]; exact blk_one (W c main_v13_0) _
/-- The second one-entry input's buffer holds its entry, -/
theorem before_1 (c : Dev nD) (t : Fin cfg1.N) (d) : (dat W c).before 1 t d = fun _ => one (W c main_v13_1) := by
  rw [Dat.before_in_eq_fetched _ 1 rfl (fun _ => rfl) (fun _ _ _ => rfl) (fun t => (blk_one (W c main_v13_1) _).symm)]; exact blk_one (W c main_v13_1) _
/-- so does the third's, -/
theorem before_2 (c : Dev nD) (t : Fin cfg1.N) (d) : (dat W c).before 2 t d = fun _ => one (W c main_v14) := by
  rw [Dat.before_in_eq_fetched _ 2 rfl (fun _ => rfl) (fun _ _ _ => rfl) (fun t => (blk_one (W c main_v14) _).symm)]; exact blk_one (W c main_v14) _
/-- and the fourth's. -/
theorem before_3 (c : Dev nD) (t : Fin cfg1.N) (d) : (dat W c).before 3 t d = fun _ => one (W c main_v15) := by
  rw [Dat.before_in_eq_fetched _ 3 rfl (fun _ => rfl) (fun _ _ _ => rfl) (fun t => (blk_one (W c main_v15) _).symm)]; exact blk_one (W c main_v15) _

/-- What it finds in the two blocks' buffers: the blocks where the fetches filled them. -/
theorem before_4 (c : Dev nD) (t : Fin cfg1.N) (d) :
    (dat W c).before 4 t d = win1_4.fill (grid1.coords t) d ((win1_4.blk t).view.read (Elt F) (W c main_arg0)) := by
  rw [Dat.before_fetched _ 4 t (fetch1_4 t)]; rfl
/-- The same for the table's block. -/
theorem before_5 (c : Dev nD) (t : Fin cfg1.N) (d) :
    (dat W c).before 5 t d = win1_5.fill (grid1.coords t) d ((win1_5.blk t).view.read (Elt F) (W c main_v12)) := by
  rw [Dat.before_fetched _ 5 t (fetch1_5 t)]; rfl

/-- What it finds in the results' buffers after the first point: what it left at the point before. -/
theorem before_6 (c : Dev nD) (n : ℕ) (h : n + 1 < cfg1.N) (d) :
    (dat W c).before 6 ⟨n + 1, h⟩ d = (runAt W c n (Nat.lt_of_succ_lt h)).1 := by
  rw [Dat.before_out_kept _ 6 rfl _ (Nat.succ_ne_zero n) ?_ live6 (fun _ _ => rfl)]; · rfl
  have hN : cfg1.N = 16 := N_1
  refine Bool.eq_false_iff.mpr fun hf => ?_
  have := (flush1_6 _).mp hf
  simp only [Nat.add_sub_cancel] at this
  omega
/-- And the running maxima, left by the point before. -/
theorem before_7 (c : Dev nD) (n : ℕ) (h : n + 1 < cfg1.N) (d) :
    (dat W c).before 7 ⟨n + 1, h⟩ d = (runAt W c n (Nat.lt_of_succ_lt h)).2 := by
  rw [Dat.before_out_kept _ 7 rfl _ (Nat.succ_ne_zero n) ?_ live7 (fun _ _ => rfl)]; · rfl
  have hN : cfg1.N = 16 := N_1
  refine Bool.eq_false_iff.mpr fun hf => ?_
  have := (flush1_7 _).mp hf
  simp only [Nat.add_sub_cancel] at this
  omega

/-- The body keeps what the proof data say. -/
theorem body_obligation (c : Dev nD) : BodyObligationLoose (dat W c) (defs₀ (F := F)) Variants.none () Set.univ := fun t => by
  rw [bigSep_W1, bigSep_W1]
  simp only
  rw [live6 (grid1.coords t)]
  dsimp only
  rw [show (dat W c).Φ t.succ = (dat W c).Φ t.castSucc from rfl,
    show (dat W c).owesAt () t.succ = (dat W c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before_0, before_1, before_2, before_3, before_4 W c t d4, before_5 W c t d5]
  have hcut4 : (win1 4).cut (grid1.coords t) ((dat W c).after 4 t) = (win1_4.blk t).view.read (Elt F) (W c main_arg0) :=
    win1_4.cut_fill _ _ _
  have hcut5 : (win1 5).cut (grid1.coords t) ((dat W c).after 5 t) = (win1_5.blk t).view.read (Elt F) (W c main_v12) :=
    win1_5.cut_fill _ _ _
  rw [hcut4, hcut5]
  obtain ⟨hf7, hf8⟩ := pay78_fill (grid1.coords t) (one (W c main_v13_0)) (one (W c main_v13_1)) (one (W c main_v14)) (one (W c main_v15))
    d4 (fun _ => Scalar.ofBits .f32 0#32) d5 (fun _ => Scalar.ofBits .f32 0#32) ((win1_4.blk t).view.read (Elt F) (W c main_arg0))
    ((win1_5.blk t).view.read (Elt F) (W c main_v12))
  replace hf7 := hf7.trans (rowMax_eq W c t).symm
  replace hf8 := hf8.trans (rowCols_eq W c t).symm
  obtain ⟨n, hn⟩ := t
  cases n with
  | zero =>
    iapply (argmax_first (F := F) c (grid1.coords ⟨0, hn⟩) _ (hstage1_0 ((cfg1.slots ⟨0, hn⟩ 0).cast nbuf1_0)) _ (hstage1_1 ((cfg1.slots ⟨0, hn⟩ 1).cast nbuf1_1))
      _ (hstage1_2 ((cfg1.slots ⟨0, hn⟩ 2).cast nbuf1_2)) _ (hstage1_3 ((cfg1.slots ⟨0, hn⟩ 3).cast nbuf1_3)) _ (hstage1_4 ((cfg1.slots ⟨0, hn⟩ 4).cast nbuf1_4))
      _ (hstage1_5 ((cfg1.slots ⟨0, hn⟩ 5).cast nbuf1_5)) _ (hstage1_6 ((cfg1.slots ⟨0, hn⟩ 6).cast nbuf1_6)) _ (hstage1_7 ((cfg1.slots ⟨0, hn⟩ 7).cast nbuf1_7))
      ((cond1_iff _).mpr rfl) (fun h => (cond2_iff _).mp h rfl))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    rw [hf7, hf8, after_6_zero, after_7_zero]
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexact H6
    iexact H7
  | succ n =>
    rw [before_6, before_7]
    iapply (argmax_later (F := F) c (grid1.coords ⟨n + 1, hn⟩) _ (hstage1_0 ((cfg1.slots ⟨n + 1, hn⟩ 0).cast nbuf1_0)) _ (hstage1_1 ((cfg1.slots ⟨n + 1, hn⟩ 1).cast nbuf1_1))
      _ (hstage1_2 ((cfg1.slots ⟨n + 1, hn⟩ 2).cast nbuf1_2)) _ (hstage1_3 ((cfg1.slots ⟨n + 1, hn⟩ 3).cast nbuf1_3)) _ (hstage1_4 ((cfg1.slots ⟨n + 1, hn⟩ 4).cast nbuf1_4))
      _ (hstage1_5 ((cfg1.slots ⟨n + 1, hn⟩ 5).cast nbuf1_5)) _ (hstage1_6 ((cfg1.slots ⟨n + 1, hn⟩ 6).cast nbuf1_6)) _ (hstage1_7 ((cfg1.slots ⟨n + 1, hn⟩ 7).cast nbuf1_7))
      (fun h => Nat.succ_ne_zero n ((cond1_iff _).mp h)) ((cond2_iff _).mpr (Nat.succ_ne_zero n)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    rw [hf7, hf8, after_6_succ, after_7_succ]
    isplitl [HΦ]; · iexact HΦ
    isplitl [Ho]; · iexact Ho
    isplitl [H0]; · iexact H0
    isplitl [H1]; · iexact H1
    isplitl [H2]; · iexact H2
    isplitl [H3]; · iexact H3
    isplitl [H4]; · iexists d4; iexact H4
    isplitl [H5]; · iexists d5; iexact H5
    isplitl [H6]; · iexact H6
    iexact H7

end Cert.Proof.Argmax

end
-- ==== Proof.Onehot.lean ====
/-
  The third kernel: at each grid point it writes one where a column is its row's chosen one, zero elsewhere.
-/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.ArgmaxData
public import Idealize.ShloMosaic.Lib.Pipeline.ValueKit.Geometry

@[expose] public section

set_option maxRecDepth 16384

noncomputable section

namespace Cert.Proof.Onehot

open Cert.KernelIdeal Cert.KernelIdeal.Gen Cert.Proof.Common

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body: it leaves the block of the one-hot rows. -/
theorem onehot_body (c : Dev nD) (i : grid2.Coords)
    (M1 : Memref sig .tc .vmem S32x1 .i32) (h1 : M1.IsWhole) (M2 : Memref sig .tc .vmem S32x65536 .f32) (h2 : M2.IsWhole)
    (X : S32x1.Idx → Elt F .i32) (Y : S32x65536.Idx → Elt F .f32) (E : Set ℕ) (K : PUnit → sProp 𝕄) :
    iprop(owns (c : Thread nD τ) M1 fullShare X ∗ owns (c : Thread nD τ) M2 fullShare Y
        ∗ (iprop(owns (c : Thread nD τ) M1 fullShare X ∗ owns (c : Thread nD τ) M2 fullShare (k2_pay1 (F := F) i X)) -∗ K ⟨⟩))
      ⊢ wp frame (wpE (defs₀ (F := F)) Variants.none c none) E (cc2__onehot_body i M1 h1 M2 h2) K := by
  simp only [cc2__onehot_body_eq_skeleton]; unfold cc2__onehot_body_skel
  unfold owns
  iintro ⟨⟨%f1, %hf1, H1⟩, ⟨%f2, %hf2, H2⟩, Hk⟩
  sl_exec
  have e1 := read_load (Val := Elt F) M1.view f1 zero2 inb_S32x1_S32x1_0_0
  rw [hf1] at e1
  rw [e1]
  sl_step
  iapply Hk
  isplitl [H1]
  · iexists f1; isplitr; · ipureintro; exact hf1
    iexact H1
  · iexists _; isplitr; swap; · iexact H2
    ipureintro
    exact read_store (Val := Elt F) M2.view f2 zero2 inb_S32x65536_S32x65536_0_0 _

variable (W : Dev nD → Valuation τ sig (Elt F))

/-- The pipeline's proof data, entered with the arrays at `W`. -/
def dat (c : Dev nD) : Dat τ (Elt F) Unit ℕ (UR sig nD τ) ℕ cfg2 c where
  A w := W c (Pipeline.arrRef spec2 w)
  after w t := match w with
    | ⟨0, _⟩ => (W c main_v16_0 : S32x1.Idx → Elt F .i32)
    | ⟨1, _⟩ => k2_pay1 (F := F) (grid2.coords t) (W c main_v16_0)
  Φ _ := Pipeline.scopedRest (Ix := Unit) (Name := ℕ) (U := UR sig nD τ) (Lvl := ℕ) (Val := Elt F) spec2 c
  q _ := fullShare
  owed _ := 0

/-- The chosen columns' one block is all of them. -/
theorem blk_whole (c : Dev nD) (t : Fin cfg2.N) (j : S32x1.Idx) :
    (win2_0.blk t).view.read (Elt F) (W c main_v16_0) j = (W c main_v16_0 : S32x1.Idx → Elt F .i32) j := by
  show (W c main_v16_0 : S32x1.Idx → Elt F .i32) ((win2_0.blk t).view.emb j) = _
  refine congrArg (W c main_v16_0 : S32x1.Idx → Elt F .i32) (funext fun a => Fin.ext ?_)
  blk_simp [show ∀ t : Fin cfg2.N, win2_0.index t = ![0, 0] from fun _ => rfl]
  fin_cases a <;> simp

/-- What the body finds in the chosen columns' buffer. -/
theorem before_0 (c : Dev nD) (t : Fin cfg2.N) (d) : (dat W c).before 0 t d = (W c main_v16_0 : S32x1.Idx → Elt F .i32) := by
  rw [Dat.before_in_eq_fetched (dat W c) 0 rfl (fun _ => rfl) (fun _ _ _ => rfl) (fun t => (funext (blk_whole W c t)).symm)]
  exact funext (blk_whole W c t)

/-- The body keeps what the proof data say. -/
theorem body_obligation (c : Dev nD) : BodyObligationLoose (dat W c) (defs₀ (F := F)) Variants.none () Set.univ := fun t => by
  rw [bigSep_W2, bigSep_W2]
  simp only
  rw [show (dat W c).Φ t.succ = (dat W c).Φ t.castSucc from rfl,
    show (dat W c).owesAt () t.succ = (dat W c).owesAt () t.castSucc from rfl]
  iintro ⟨HΦ, Ho, ⟨%d0, H0⟩, ⟨%d1, H1⟩⟩
  rw [before_0]
  iapply (onehot_body (F := F) c (grid2.coords t) _ (hstage2_0 ((cfg2.slots t 0).cast nbuf2_0)) _ (hstage2_1 ((cfg2.slots t 1).cast nbuf2_1)))
  isplitl [H0]; · iexact H0
  isplitl [H1]; · iexact H1
  iintro ⟨H0, H1⟩
  isplitl [HΦ]; · iexact HΦ
  isplitl [Ho]; · iexact Ho
  isplitl [H0]; · iexact H0
  iexists (dat W c).after 1 t
  rw [Window.fill_cut]
  iexact H1

end Cert.Proof.Onehot

end
-- ==== Proof.Run.lean ====
/-
  The launch of the whole program: the host operations and the three kernel regions in sequence, each region by its proof data.
-/
module

public import proofs.«01_k».proof.Proof.Gen.KernelIdeal.Regions
public import proofs.«01_k».proof.Proof.Stats
public import proofs.«01_k».proof.Proof.ArgmaxData
public import proofs.«01_k».proof.Proof.Onehot
public import Idealize.ShloMosaic.Lib.Pipeline.RegionArraysS

@[expose] public section

set_option maxRecDepth 16384

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

local notation "𝕄" => MT nD τ sig Unit (Elt F) ℕ (UR sig nD τ) ℕ

/-! ## The buffers between the regions -/

/-- Core `c`'s buffers when the first kernel has run; -/
def U5 (c : Dev nD) : Valuation τ sig (Elt F) := Pipeline.afterRegion (Stats.dat (V4 m) c) (V4 m c)
/-- when the two scalars have been reshaped; -/
def U6 (c : Dev nD) : Valuation τ sig (Elt F) := StableHlo.after hostOps1 (U5 m c)
/-- when the second kernel has run; -/
def U7 (c : Dev nD) : Valuation τ sig (Elt F) := Pipeline.afterRegion (Argmax.dat (U6 m) c) (U6 m c)
/-- and when the third has. -/
def U8 (c : Dev nD) : Valuation τ sig (Elt F) := Pipeline.afterRegion (Onehot.dat (U7 m) c) (U7 m c)

/-- The first kernel changes its two outputs alone. -/
theorem U5_of (c : Dev nD) (r : Ref sig .tc) (h : r ≠ main_v13_0 ∧ r ≠ main_v13_1) : U5 m c r = V4 m c r :=
  Pipeline.afterRegion_keeps (Stats.dat (V4 m) c) (V4 m c) launch0.win.arr_inj (fun _ => rfl) r fun w e => by
    fin_cases w
    · rfl
    · exact absurd e.symm h.1
    · exact absurd e.symm h.2

/-- The reshapes change their two results alone. -/
theorem U6_of (c : Dev nD) (r : Ref sig .tc) (h : r ∉ hostOps1_W) : U6 m c r = U5 m c r :=
  StableHlo.after_of_writes_sub hostOps1 _ hostOps1_writes h

/-- The second kernel changes its two outputs alone. -/
theorem U7_of (c : Dev nD) (r : Ref sig .tc) (h : r ≠ main_v16_0 ∧ r ≠ main_v16_1) : U7 m c r = U6 m c r :=
  Pipeline.afterRegion_keeps (Argmax.dat (U6 m) c) (U6 m c) launch1.win.arr_inj (fun _ => rfl) r fun w e => by
    fin_cases w
    · rfl
    · rfl
    · rfl
    · rfl
    · rfl
    · rfl
    · exact absurd e.symm h.1
    · exact absurd e.symm h.2

/-- The third kernel changes its output alone. -/
theorem U8_of (c : Dev nD) (r : Ref sig .tc) (h : r ≠ main_v17) : U8 m c r = U7 m c r :=
  Pipeline.afterRegion_keeps (Onehot.dat (U7 m) c) (U7 m c) launch2.win.arr_inj (fun _ => rfl) r fun w e => by
    fin_cases w
    · rfl
    · exact absurd e.symm h

/-- A buffer nothing writes ends as launched. -/
theorem U8_launched (c : Dev nD) (r : Ref sig .tc) (h0 : r ∉ hostOps0_W) (h1 : r ∉ hostOps0_1_W) (h2 : r ∉ hostOps0_2_W) (h3 : r ∉ hostOps0_3_W)
    (h4 : r ≠ main_v13_0 ∧ r ≠ main_v13_1) (h5 : r ∉ hostOps1_W) (h6 : r ≠ main_v16_0 ∧ r ≠ main_v16_1) (h7 : r ≠ main_v17) :
    U8 m c r = m ((c : Thread nD τ).loc r) :=
  (U8_of m c r h7).trans <| (U7_of m c r h6).trans <| (U6_of m c r h5).trans <| (U5_of m c r h4).trans <|
    (V4_of m c r h3).trans <| (V3_of m c r h2).trans <| (V2_of m c r h1).trans <| (V1_of m c r h0).trans rfl

/-! ## The segments -/

/-- The proof data of the three pipelines. -/
def pdats (p : Fin 3) (c : Dev nD) : Dat τ (Elt F) Unit ℕ (UR sig nD τ) ℕ (cfgs p) c :=
  match p with
  | 0 => Stats.dat (V4 m) c
  | 1 => Argmax.dat (U6 m) c
  | 2 => Onehot.dat (U7 m) c

/-- Nothing recorded against the processors' own cells but the one index. -/
def L (g : GSem nD τ sig) : Finset Unit := if g.1.2 = .tc then {()} else ∅

/-- No core owes anything. -/
theorem level_cut (p : Fin 3) : Pipeline.LevelCut (pcfgs (F := F)) adm () L (fun _ _ => 0) p (fun _ : Dev nD => 0) (fun _ => (0 : ℕ)) where
  hι _ _ _ := by unfold L; rw [if_pos rfl]; exact Finset.mem_singleton_self _
  hιb _ _ _ := le_rfl
  hD _ _ _ h := absurd h (Nat.lt_irrefl 0)

/-- What a core owes between two segments: nothing. -/
def owesNone (c : Dev nD) : sProp 𝕄 := iprop(∃ W, owes (c : Thread nD τ) (0 : CellTallies nD τ sig Unit) W)

/-- Nothing beside a pair of assertions may be added -/
theorem with_emp (P Q : sProp 𝕄) : iprop(P ∗ Q) ⊢ iprop(P ∗ Q ∗ emp ∗ emp) := by
  iintro ⟨H, HO⟩
  isplitl [H]; · iexact H
  isplitl [HO]; · iexact HO
  isplitl []
  · iempintro
  · iempintro

/-- and taken away. -/
theorem without_emp (P Q : sProp 𝕄) : iprop(P ∗ Q ∗ emp ∗ emp) ⊢ iprop(P ∗ Q) := by
  iintro ⟨H, HO, -⟩
  isplitl [H]; · iexact H
  iexact HO

/-- The first kernel's region, over the unscoped buffers. -/
def reg0 : RegionSeg (pcfgs (F := F)) adm (pdats m) () defs₀ Variants.none L (fun _ _ => 0) 0 :=
  RegionSeg.ofHeldIn (pcfgs (F := F)) adm (pdats m) () defs₀ Variants.none L (fun _ _ => 0) 0 (fun _ => 0) (Pipeline.ucRefs τ sig)
    (fun _ => iprop(emp)) (fun _ => iprop(emp)) launch0.toP rfl (fun c => Stats.body_obligation (V4 m) c) (fun _ _ => rfl) (fun _ => rfl)
    (fun _ _ => by unfold Dat.share; split <;> rfl)
    (fun c => (sep_emp_elim : iprop(Pipeline.scopedRest spec0 c ∗ emp) ⊢ (Pipeline.scopedRest spec0 c : sProp 𝕄)))
    (fun c => (sep_emp_intro : (Pipeline.scopedRest spec0 c : sProp 𝕄) ⊢ iprop(Pipeline.scopedRest spec0 c ∗ emp)))
    (fun _ => 0) (level_cut 0) (fun _ => iprop(emp)) (V4 m) (fun _ _ => rfl)

/-- The second kernel's region, over the unscoped buffers. -/
def reg1 : RegionSeg (pcfgs (F := F)) adm (pdats m) () defs₀ Variants.none L (fun _ _ => 0) 1 :=
  RegionSeg.ofHeldIn (pcfgs (F := F)) adm (pdats m) () defs₀ Variants.none L (fun _ _ => 0) 1 (fun _ => 0) (Pipeline.ucRefs τ sig)
    (fun _ => iprop(emp)) (fun _ => iprop(emp)) launch1.toP rfl (fun c => Argmax.body_obligation (U6 m) c) (fun _ _ => rfl) (fun _ => rfl)
    (fun _ _ => by unfold Dat.share; split <;> rfl)
    (fun c => (sep_emp_elim : iprop(Pipeline.scopedRest spec1 c ∗ emp) ⊢ (Pipeline.scopedRest spec1 c : sProp 𝕄)))
    (fun c => (sep_emp_intro : (Pipeline.scopedRest spec1 c : sProp 𝕄) ⊢ iprop(Pipeline.scopedRest spec1 c ∗ emp)))
    (fun _ => 0) (level_cut 1) (fun _ => iprop(emp)) (U6 m) (fun _ _ => rfl)

/-- The third kernel's region, over the unscoped buffers. -/
def reg2 : RegionSeg (pcfgs (F := F)) adm (pdats m) () defs₀ Variants.none L (fun _ _ => 0) 2 :=
  RegionSeg.ofHeldIn (pcfgs (F := F)) adm (pdats m) () defs₀ Variants.none L (fun _ _ => 0) 2 (fun _ => 0) (Pipeline.ucRefs τ sig)
    (fun _ => iprop(emp)) (fun _ => iprop(emp)) launch2.toP rfl (fun c => Onehot.body_obligation (U7 m) c) (fun _ _ => rfl) (fun _ => rfl)
    (fun _ _ => by unfold Dat.share; split <;> rfl)
    (fun c => (sep_emp_elim : iprop(Pipeline.scopedRest spec2 c ∗ emp) ⊢ (Pipeline.scopedRest spec2 c : sProp 𝕄)))
    (fun c => (sep_emp_intro : (Pipeline.scopedRest spec2 c : sProp 𝕄) ⊢ iprop(Pipeline.scopedRest spec2 c ∗ emp)))
    (fun _ => 0) (level_cut 2) (fun _ => iprop(emp)) (U7 m) (fun _ _ => rfl)

/-- Its arrays are unscoped buffers. -/
theorem arrs0 : Pipeline.arrRefs ((pcfgs (F := F)) 0).spec ⊆ Pipeline.ucRefs τ sig :=
  Pipeline.arrRefs_sub_ucRefs spec0 (by decide)

/-- It is entered from the buffers at `V4` -/
theorem reg0_pre (c : Dev nD) :
    iprop(StableHlo.held (c : Thread nD τ) (Pipeline.ucRefs τ sig) (V4 m c) ∗ owesNone c) ⊢ (reg0 m).pre c := by
  unfold reg0
  refine BI.Entails.trans ?_ (RegionSeg.ofHeldIn_pre arrs0 c)
  exact with_emp _ _

/-- and left with them at `U5`. -/
theorem reg0_post (c : Dev nD) :
    (reg0 m).post c ⊢ iprop(StableHlo.held (c : Thread nD τ) (Pipeline.ucRefs τ sig) (U5 m c) ∗ owesNone c) := by
  unfold reg0
  exact (RegionSeg.ofHeldIn_post arrs0 c).trans (without_emp _ _)

/-- Its arrays are unscoped buffers. -/
theorem arrs1 : Pipeline.arrRefs ((pcfgs (F := F)) 1).spec ⊆ Pipeline.ucRefs τ sig :=
  Pipeline.arrRefs_sub_ucRefs spec1 (by decide)

/-- It is entered from the buffers at `U6` -/
theorem reg1_pre (c : Dev nD) :
    iprop(StableHlo.held (c : Thread nD τ) (Pipeline.ucRefs τ sig) (U6 m c) ∗ owesNone c) ⊢ (reg1 m).pre c := by
  unfold reg1
  refine BI.Entails.trans ?_ (RegionSeg.ofHeldIn_pre arrs1 c)
  exact with_emp _ _

/-- and left with them at `U7`. -/
theorem reg1_post (c : Dev nD) :
    (reg1 m).post c ⊢ iprop(StableHlo.held (c : Thread nD τ) (Pipeline.ucRefs τ sig) (U7 m c) ∗ owesNone c) := by
  unfold reg1
  exact (RegionSeg.ofHeldIn_post arrs1 c).trans (without_emp _ _)

/-- Its arrays are unscoped buffers. -/
theorem arrs2 : Pipeline.arrRefs ((pcfgs (F := F)) 2).spec ⊆ Pipeline.ucRefs τ sig :=
  Pipeline.arrRefs_sub_ucRefs spec2 (by decide)

/-- It is entered from the buffers at `U7` -/
theorem reg2_pre (c : Dev nD) :
    iprop(StableHlo.held (c : Thread nD τ) (Pipeline.ucRefs τ sig) (U7 m c) ∗ owesNone c) ⊢ (reg2 m).pre c := by
  unfold reg2
  refine BI.Entails.trans ?_ (RegionSeg.ofHeldIn_pre arrs2 c)
  exact with_emp _ _

/-- and left with them at `U8`. -/
theorem reg2_post (c : Dev nD) :
    (reg2 m).post c ⊢ iprop(StableHlo.held (c : Thread nD τ) (Pipeline.ucRefs τ sig) (U8 m c) ∗ owesNone c) := by
  unfold reg2
  exact (RegionSeg.ofHeldIn_post arrs2 c).trans (without_emp _ _)

/-! ## The launch -/

/-- The reshapes' segment, over the unscoped buffers. -/
def seg5 : HostSeg (Ix := Unit) (Name := ℕ) (U := UR sig nD τ) (Lvl := ℕ) (pcfgs (F := F)) defs₀ Variants.none L (fun _ _ => 0) :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U5 m) owesNone

/-- The program's items in order. -/
abbrev segs (_ : Dev nD) : List (Seg (pcfgs (F := F)) adm (pdats m) () defs₀ Variants.none L (fun _ _ => 0)) :=
  [.host (Gen.seg0 m Variants.none L (fun _ _ => 0) fun _ => owesNone), .host (Gen.seg1 m Variants.none L (fun _ _ => 0) fun _ => owesNone),
    .host (Gen.seg2 m Variants.none L (fun _ _ => 0) fun _ => owesNone), .host (Gen.seg3 m Variants.none L (fun _ _ => 0) fun _ => owesNone),
    .region (reg0 m), .host (seg5 m), .region (reg1 m), .region (reg2 m)]

variable (ρ : Dev nD → PrngReg)

set_option backward.isDefEq.respectTransparency.types false in
/-- From any memory with zero counters every fair execution ends; the arguments are as launched, the result is what the third kernel
    left, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v17) = U8 m c main_v17)
      ∧ r.2.sem = fun _ => 0) := by
  refine Pipeline.θ_run_regions_kit_dev_sems (pcfgs (F := F)) adm (pdats m) () cellOf_inj emb₁ defs₀ Variants.none L (fun _ _ => 0) m ρ main
    (segs m)
    (fun c Q => by
      rewrite [main_chain c, Seg.run_eq_chain,
        show (segs m c).map Seg.prog = [
          StableHlo.seq hostOps0,
          StableHlo.seq hostOps0_1,
          StableHlo.seq hostOps0_2,
          StableHlo.seq hostOps0_3,
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ owesNone c))
    (Tₙ := fun c => StableHlo.held (c : Thread nD τ) (Pipeline.ucRefs τ sig) (U8 m c))
    (hch := fun c => ⟨.rfl, .rfl, .rfl, .rfl, reg0_pre m c, reg0_post m c, reg1_pre m c, (reg1_post m c).trans (reg2_pre m c), reg2_post m c⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_v17) = U8 m c main_v17)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    rw [show (bigSep Finset.univ fun _ : Dev nD => (iprop(emp) : sProp 𝕄)) = iprop(emp) from BI.bigSep_emp_const _]
    iempintro
  · have hcore : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ owesNone c) : sProp 𝕄) := fun c => by
      rw [← Pipeline.unscopedBufs_held (Ix := Unit) (Name := ℕ) (U := UR sig nD τ) (Lvl := ℕ) c (V0 m c)]
      unfold owesNone
      iintro ⟨Hb, -, HO, -⟩
      isplitl [Hb]; · iexact Hb
      iexists ∅
      iexact HO
    have hall := bigSep_mono (s := (Finset.univ : Finset (Dev nD))) fun c _ => hcore c
    iintro ⟨H, -⟩
    ihave H' := (show _ ⊢ _ from hall) $$ H
    imodintro
    iexact H'
  · unfold StableHlo.held
    iintro ⟨Hh, HSI⟩
    ihave Hr := (pointsTo_read_all (Pipeline.ucRefs τ sig) (fun b => ((c : Thread nD τ).1, b)) (U8 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans
          (U8_launched m c main_arg0 (by decide) (by decide) (by decide) (by decide) (by decide) (by decide) (by decide) (by decide)),
        (h (Proc.devRef .tc main_arg1) (Finset.mem_filter.mpr ⟨StableHlo.devRef_mem_tcRefs main_arg1, by decide⟩)).trans
          (U8_launched m c main_arg1 (by decide) (by decide) (by decide) (by decide) (by decide) (by decide) (by decide) (by decide)),
        (h (Proc.devRef .tc main_arg2) (Finset.mem_filter.mpr ⟨StableHlo.devRef_mem_tcRefs main_arg2, by decide⟩)).trans
          (U8_launched m c main_arg2 (by decide) (by decide) (by decide) (by decide) (by decide) (by decide) (by decide) (by decide)),
        h (Proc.devRef .tc main_v17) (Finset.mem_filter.mpr ⟨StableHlo.devRef_mem_tcRefs main_v17, by decide⟩)⟩
    · iexact HSI

end Cert.Proof.Run

end
-- ==== Proof.RefOps.lean ====
module

public import proofs.«01_k».proof.ReferenceIdeal
public import proofs.«01_k».proof.Proof.Gen.ReferenceIdeal
public import Idealize.ShloMosaic.Lib.Pipeline.Kit
public import Idealize.ShloMosaic.Lib.Pipeline.Regions

/-! The reference program as lists of host operations, one list per stretch, in the order they run. -/

@[expose] public section

set_option maxRecDepth 4832

noncomputable section

namespace Cert.Proof.Ref

open Idealize.ShloMosaic Idealize.ShloMosaic.TcCoe
open Idealize.SL Idealize.SL.RA Idealize.SL.BI
open Idealize.SL.Sem
open Cert.ReferenceIdeal Cert.ReferenceIdeal.Gen

variable {F : FTy → Type} [FloatOps F]

/-- The score without its noise: the two statistics of the logits, the normalised logits, scaled and shifted. -/
abbrev refScore : List (HloOp τ sig (Elt F)) :=
  [ StableHlo.nullary main_cst (constant S_ .f32 0x00000000#32),
    StableHlo.binary main_arg0 main_cst main_v0 ((fun x v => Host.reduceAdd x v reducesTo_S32x1000000_S_d0_1 h_S_) : (⟨S32x1000000, .f32⟩ : BufTy).Contents (Elt F) → (⟨S_, .f32⟩ : BufTy).Contents (Elt F) → (⟨S_, .f32⟩ : BufTy).Contents (Elt F)),
    StableHlo.nullary main_cst_0 (constant S_ .f32 0x4BF42400#32),
    StableHlo.binary main_v0 main_cst_0 main_v1 (Host.divf : (⟨S_, .f32⟩ : BufTy).Contents (Elt F) → (⟨S_, .f32⟩ : BufTy).Contents (Elt F) → (⟨S_, .f32⟩ : BufTy).Contents (Elt F)),
    StableHlo.unary main_v1 main_v2 (broadcastInDim S32x1000000 ![] bcast_S_S32x1000000 : (⟨S_, .f32⟩ : BufTy).Contents (Elt F) → (⟨S32x1000000, .f32⟩ : BufTy).Contents (Elt F)),
    StableHlo.binary main_arg0 main_v2 main_v3 (subf : (⟨S32x1000000, .f32⟩ : BufTy).Contents (Elt F) → (⟨S32x1000000, .f32⟩ : BufTy).Contents (Elt F) → (⟨S32x1000000, .f32⟩ : BufTy).Contents (Elt F)),
    StableHlo.binary main_v3 main_v3 main_v4 (mulf : (⟨S32x1000000, .f32⟩ : BufTy).Contents (Elt F) → (⟨S32x1000000, .f32⟩ : BufTy).Contents (Elt F) → (⟨S32x1000000, .f32⟩ : BufTy).Contents (Elt F)),
    StableHlo.nullary main_cst_1 (constant S_ .f32 0x00000000#32),
    StableHlo.binary main_v4 main_cst_1 main_v5 ((fun x v => Host.reduceAdd x v reducesTo_S32x1000000_S_d0_1 h_S_) : (⟨S32x1000000, .f32⟩ : BufTy).Contents (Elt F) → (⟨S_, .f32⟩ : BufTy).Contents (Elt F) → (⟨S_, .f32⟩ : BufTy).Contents (Elt F)),
    StableHlo.nullary main_cst_2 (constant S_ .f32 0x4BF42400#32),
    StableHlo.binary main_v5 main_cst_2 main_v6 (Host.divf : (⟨S_, .f32⟩ : BufTy).Contents (Elt F) → (⟨S_, .f32⟩ : BufTy).Contents (Elt F) → (⟨S_, .f32⟩ : BufTy).Contents (Elt F)),
    StableHlo.unary main_v6 main_v7 (Host.sqrt : (⟨S_, .f32⟩ : BufTy).Contents (Elt F) → (⟨S_, .f32⟩ : BufTy).Contents (Elt F)),
    StableHlo.unary main_v1 main_v8 (broadcastInDim S32x1000000 ![] bcast_S_S32x1000000 : (⟨S_, .f32⟩ : BufTy).Contents (Elt F) → (⟨S32x1000000, .f32⟩ : BufTy).Contents (Elt F)),
    StableHlo.binary main_arg0 main_v8 main_v9 (subf : (⟨S32x1000000, .f32⟩ : BufTy).Contents (Elt F) → (⟨S32x1000000, .f32⟩ : BufTy).Contents (Elt F) → (⟨S32x1000000, .f32⟩ : BufTy).Contents (Elt F)),
    StableHlo.binary main_v7 main_v7 main_v10 (mulf : (⟨S_, .f32⟩ : BufTy).Contents (Elt F) → (⟨S_, .f32⟩ : BufTy).Contents (Elt F) → (⟨S_, .f32⟩ : BufTy).Contents (Elt F)),
    StableHlo.nullary main_cst_3 (constant S_ .f32 0x3727C5AC#32),
    StableHlo.binary main_v10 main_cst_3 main_v11 (addf : (⟨S_, .f32⟩ : BufTy).Contents (Elt F) → (⟨S_, .f32⟩ : BufTy).Contents (Elt F) → (⟨S_, .f32⟩ : BufTy).Contents (Elt F)),
    StableHlo.unary main_v11 main_v12 (broadcastInDim S32x1000000 ![] bcast_S_S32x1000000 : (⟨S_, .f32⟩ : BufTy).Contents (Elt F) → (⟨S32x1000000, .f32⟩ : BufTy).Contents (Elt F)),
    StableHlo.binary main_v9 main_v12 main_v13 (Host.divf : (⟨S32x1000000, .f32⟩ : BufTy).Contents (Elt F) → (⟨S32x1000000, .f32⟩ : BufTy).Contents (Elt F) → (⟨S32x1000000, .f32⟩ : BufTy).Contents (Elt F)),
    StableHlo.unary main_arg1 main_v14 (broadcastInDim S32x1000000 ![] bcast_S_S32x1000000 : (⟨S_, .f32⟩ : BufTy).Contents (Elt F) → (⟨S32x1000000, .f32⟩ : BufTy).Contents (Elt F)),
    StableHlo.binary main_v13 main_v14 main_v15 (mulf : (⟨S32x1000000, .f32⟩ : BufTy).Contents (Elt F) → (⟨S32x1000000, .f32⟩ : BufTy).Contents (Elt F) → (⟨S32x1000000, .f32⟩ : BufTy).Contents (Elt F)),
    StableHlo.unary main_arg2 main_v16 (broadcastInDim S32x1000000 ![] bcast_S_S32x1000000 : (⟨S_, .f32⟩ : BufTy).Contents (Elt F) → (⟨S32x1000000, .f32⟩ : BufTy).Contents (Elt F)),
    StableHlo.binary main_v15 main_v16 main_v17 (addf : (⟨S32x1000000, .f32⟩ : BufTy).Contents (Elt F) → (⟨S32x1000000, .f32⟩ : BufTy).Contents (Elt F) → (⟨S32x1000000, .f32⟩ : BufTy).Contents (Elt F)) ]
/-- Each operation of the stretch touches buffers of the TensorCore only. -/
theorem refScore_sub : (refScore : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

/-- The key words of the noise. -/
abbrev refKey : List (HloOp τ sig (Elt F)) :=
  [ StableHlo.nullary main_c (constantI S_ 32 42#32),
    StableHlo.nullary main_c_4 (constantI S_ 32 32#32),
    StableHlo.binary main_c main_c_4 main_v18 (Host.shrui : (⟨S_, .i32⟩ : BufTy).Contents (Elt F) → (⟨S_, .i32⟩ : BufTy).Contents (Elt F) → (⟨S_, .i32⟩ : BufTy).Contents (Elt F)),
    StableHlo.unary main_v18 main_v19 (id : (⟨S_, .i32⟩ : BufTy).Contents (Elt F) → (⟨S_, .i32⟩ : BufTy).Contents (Elt F)),
    StableHlo.unary main_v19 main_v20 (broadcastInDim S1 ![] bcast_S_S1 : (⟨S_, .i32⟩ : BufTy).Contents (Elt F) → (⟨S1, .i32⟩ : BufTy).Contents (Elt F)),
    StableHlo.nullary main_c_5 (constantI S_ 32 4294967295#32),
    StableHlo.binary main_c main_c_5 main_v21 (andi : (⟨S_, .i32⟩ : BufTy).Contents (Elt F) → (⟨S_, .i32⟩ : BufTy).Contents (Elt F) → (⟨S_, .i32⟩ : BufTy).Contents (Elt F)),
    StableHlo.unary main_v21 main_v22 (id : (⟨S_, .i32⟩ : BufTy).Contents (Elt F) → (⟨S_, .i32⟩ : BufTy).Contents (Elt F)),
    StableHlo.unary main_v22 main_v23 (broadcastInDim S1 ![] bcast_S_S1 : (⟨S_, .i32⟩ : BufTy).Contents (Elt F) → (⟨S1, .i32⟩ : BufTy).Contents (Elt F)),
    StableHlo.binary main_v20 main_v23 main_v24 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]
/-- Each operation of the stretch touches buffers of the TensorCore only. -/
theorem refKey_sub : (refKey : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub ..⟩

set_option maxHeartbeats 40000000 in
/-- The split of the key. -/
abbrev refSplit : List (HloOp τ sig (Elt F)) :=
  ( StableHlo.TRef.unary (.of main_v24 : StableHlo.TRef sig ⟨S2, .i32⟩) (.of main_call0_v0 : StableHlo.TRef sig ⟨S1, .i32⟩) (extractStridedSlice S1 ![0] · slices_S2_S1_0)
  :: StableHlo.TRef.reshape (.of main_call0_v0 : StableHlo.TRef sig ⟨S1, .i32⟩) (.of main_call0_v1 : StableHlo.TRef sig ⟨S_, .i32⟩) (rfl : (.i32 : EltTy) = .i32) shapeCasts_S1_S_
  :: StableHlo.TRef.unary (.of main_v24 : StableHlo.TRef sig ⟨S2, .i32⟩) (.of main_call0_v2 : StableHlo.TRef sig ⟨S1, .i32⟩) (extractStridedSlice S1 ![1] · slices_S2_S1_1)
  :: StableHlo.TRef.reshape (.of main_call0_v2 : StableHlo.TRef sig ⟨S1, .i32⟩) (.of main_call0_v3 : StableHlo.TRef sig ⟨S_, .i32⟩) (rfl : (.i32 : EltTy) = .i32) shapeCasts_S1_S_
  :: StableHlo.TRef.nullary (.of main_call0_v4 : StableHlo.TRef sig ⟨S2, .i64⟩) (iotaInDim S2 64 0)
  :: StableHlo.TRef.nullary (.of main_call0_c : StableHlo.TRef sig ⟨S_, .i64⟩) (constantI S_ 64 1#64)
  :: StableHlo.TRef.unary (.of main_call0_c : StableHlo.TRef sig ⟨S_, .i64⟩) (.of main_call0_v5 : StableHlo.TRef sig ⟨S2, .i64⟩) (broadcastInDim S2 ![] bcast_S_S2)
  :: StableHlo.TRef.binary (.of main_call0_v5 : StableHlo.TRef sig ⟨S2, .i64⟩) (.of main_call0_v4 : StableHlo.TRef sig ⟨S2, .i64⟩) (.of main_call0_v6 : StableHlo.TRef sig ⟨S2, .i64⟩) muli
  :: StableHlo.TRef.nullary (.of main_call0_c_0 : StableHlo.TRef sig ⟨S_, .i64⟩) (constantI S_ 64 32#64)
  :: StableHlo.TRef.unary (.of main_call0_c_0 : StableHlo.TRef sig ⟨S_, .i64⟩) (.of main_call0_v7 : StableHlo.TRef sig ⟨S2, .i64⟩) (broadcastInDim S2 ![] bcast_S_S2)
  :: StableHlo.TRef.binary (.of main_call0_v6 : StableHlo.TRef sig ⟨S2, .i64⟩) (.of main_call0_v7 : StableHlo.TRef sig ⟨S2, .i64⟩) (.of main_call0_v8 : StableHlo.TRef sig ⟨S2, .i64⟩) Host.shrui
  :: StableHlo.TRef.unary (.of main_call0_v6 : StableHlo.TRef sig ⟨S2, .i64⟩) (.of main_call0_v9 : StableHlo.TRef sig ⟨S2, .i32⟩) (trunci 32 · natLt_32_64)
  :: StableHlo.TRef.unary (.of main_call0_v8 : StableHlo.TRef sig ⟨S2, .i64⟩) (.of main_call0_v10 : StableHlo.TRef sig ⟨S2, .i32⟩) (trunci 32 · natLt_32_64)
  :: StableHlo.TRef.binary (.of main_call0_v1 : StableHlo.TRef sig ⟨S_, .i32⟩) (.of main_call0_v3 : StableHlo.TRef sig ⟨S_, .i32⟩) (.of main_call0_call0_v0 : StableHlo.TRef sig ⟨S_, .i32⟩) xori
  :: StableHlo.TRef.nullary (.of main_call0_call0_c : StableHlo.TRef sig ⟨S_, .i32⟩) (constantI S_ 32 466688986#32)
  :: StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i32⟩) xori
  :: StableHlo.TRef.unary (.of main_call0_v1 : StableHlo.TRef sig ⟨S_, .i32⟩) (.of main_call0_call0_v2 : StableHlo.TRef sig ⟨S2, .i32⟩) (broadcastInDim S2 ![] bcast_S_S2)
  :: StableHlo.TRef.binary (.of main_call0_v10 : StableHlo.TRef sig ⟨S2, .i32⟩) (.of main_call0_call0_v2 : StableHlo.TRef sig ⟨S2, .i32⟩) (.of main_call0_call0_v3 : StableHlo.TRef sig ⟨S2, .i32⟩) addi
  :: StableHlo.TRef.unary (.of main_call0_v3 : StableHlo.TRef sig ⟨S_, .i32⟩) (.of main_call0_call0_v4 : StableHlo.TRef sig ⟨S2, .i32⟩) (broadcastInDim S2 ![] bcast_S_S2)
  :: StableHlo.TRef.binary (.of main_call0_v9 : StableHlo.TRef sig ⟨S2, .i32⟩) (.of main_call0_call0_v4 : StableHlo.TRef sig ⟨S2, .i32⟩) (.of main_call0_call0_v5 : StableHlo.TRef sig ⟨S2, .i32⟩) addi
  :: StableHlo.TRef.binary (.of main_call0_call0_v3 : StableHlo.TRef sig ⟨S2, .i32⟩) (.of main_call0_call0_v5 : StableHlo.TRef sig ⟨S2, .i32⟩) (.of main_call0_call0_v6 : StableHlo.TRef sig ⟨S2, .i32⟩) addi
  :: StableHlo.TRef.nullary (.of main_call0_call0_c_0 : StableHlo.TRef sig ⟨S_, .i32⟩) (constantI S_ 32 13#32)
  :: StableHlo.TRef.unary (.of main_call0_call0_c_0 : StableHlo.TRef sig ⟨S_, .i32⟩) (.of main_call0_call0_v7 : StableHlo.TRef sig ⟨S2, .i32⟩) (broadcastInDim S2 ![] bcast_S_S2)
  :: StableHlo.TRef.binary (.of main_call0_call0_v5 : StableHlo.TRef sig ⟨S2, .i32⟩) (.of main_call0_call0_v7 : StableHlo.TRef sig ⟨S2, .i32⟩) (.of main_call0_call0_v8 : StableHlo.TRef sig ⟨S2, .i32⟩) Host.shli
  :: StableHlo.TRef.nullary (.of main_call0_call0_c_1 : StableHlo.TRef sig ⟨S_, .i32⟩) (constantI S_ 32 19#32)
  :: StableHlo.TRef.unary (.of main_call0_call0_c_1 : StableHlo.TRef sig ⟨S_, .i32⟩) (.of main_call0_call0_v9 : StableHlo.TRef sig ⟨S2, .i32⟩) (broadcastInDim S2 ![] bcast_S_S2)
  :: StableHlo.TRef.binary (.of main_call0_call0_v5 : StableHlo.TRef sig ⟨S2, .i32⟩) (.of main_call0_call0_v9 : StableHlo.TRef sig ⟨S2, .i32⟩) (.of main_call0_call0_v10 : StableHlo.TRef sig ⟨S2, .i32⟩) Host.shrui
  :: StableHlo.TRef.binary (.of main_call0_call0_v8 : StableHlo.TRef sig ⟨S2, .i32⟩) (.of main_call0_call0_v10 : StableHlo.TRef sig ⟨S2, .i32⟩) (.of main_call0_call0_v11 : StableHlo.TRef sig ⟨S2, .i32⟩) ori
  :: StableHlo.TRef.binary (.of main_call0_call0_v6 : StableHlo.TRef sig ⟨S2, .i32⟩) (.of main_call0_call0_v11 : StableHlo.TRef sig ⟨S2, .i32⟩) (.of main_call0_call0_v12 : StableHlo.TRef sig ⟨S2, .i32⟩) xori
  :: StableHlo.TRef.binary (.of main_call0_call0_v6 : StableHlo.TRef sig ⟨S2, .i32⟩) (.of main_call0_call0_v12 : StableHlo.TRef sig ⟨S2, .i32⟩) (.of main_call0_call0_v13 : StableHlo.TRef sig ⟨S2, .i32⟩) addi
  :: StableHlo.TRef.nullary (.of main_call0_call0_c_2 : StableHlo.TRef sig ⟨S_, .i32⟩) (constantI S_ 32 15#32)
  :: StableHlo.TRef.unary (.of main_call0_call0_c_2 : StableHlo.TRef sig ⟨S_, .i32⟩) (.of main_call0_call0_v14 : StableHlo.TRef sig ⟨S2, .i32⟩) (broadcastInDim S2 ![] bcast_S_S2)
  :: StableHlo.TRef.binary (.of main_call0_call0_v12 : StableHlo.TRef sig ⟨S2, .i32⟩) (.of main_call0_call0_v14 : StableHlo.TRef sig ⟨S2, .i32⟩) (.of main_call0_call0_v15 : StableHlo.TRef sig ⟨S2, .i32⟩) Host.shli
  :: StableHlo.TRef.nullary (.of main_call0_call0_c_3 : StableHlo.TRef sig ⟨S_, .i32⟩) (constantI S_ 32 17#32)
  :: StableHlo.TRef.unary (.of main_call0_call0_c_3 : StableHlo.TRef sig ⟨S_, .i32⟩) (.of main_call0_call0_v16 : StableHlo.TRef sig ⟨S2, .i32⟩) (broadcastInDim S2 ![] bcast_S_S2)
  :: StableHlo.TRef.binary (.of main_call0_call0_v12 : StableHlo.TRef sig ⟨S2, .i32⟩) (.of main_call0_call0_v16 : StableHlo.TRef sig ⟨S2, .i32⟩) (.of main_call0_call0_v17 : StableHlo.TRef sig ⟨S2, .i32⟩) Host.shrui
  :: StableHlo.TRef.binary (.of main_call0_call0_v15 : StableHlo.TRef sig ⟨S2, .i32⟩) (.of main_call0_call0_v17 : StableHlo.TRef sig ⟨S2, .i32⟩) (.of main_call0_call0_v18 : StableHlo.TRef sig ⟨S2, .i32⟩) ori
  :: StableHlo.TRef.binary (.of main_call0_call0_v13 : StableHlo.TRef sig ⟨S2, .i32⟩) (.of main_call0_call0_v18 : StableHlo.TRef sig ⟨S2, .i32⟩) (.of main_call0_call0_v19 : StableHlo.TRef sig ⟨S2, .i32⟩) xori
  :: StableHlo.TRef.binary (.of main_call0_call0_v13 : StableHlo.TRef sig ⟨S2, .i32⟩) (.of main_call0_call0_v19 : StableHlo.TRef sig ⟨S2, .i32⟩) (.of main_call0_call0_v20 : StableHlo.TRef sig ⟨S2, .i32⟩) addi
  :: StableHlo.TRef.nullary (.of main_call0_call0_c_4 : StableHlo.TRef sig ⟨S_, .i32⟩) (constantI S_ 32 26#32)
  :: StableHlo.TRef.unary (.of main_call0_call0_c_4 : StableHlo.TRef sig ⟨S_, .i32⟩) (.of main_call0_call0_v21 : StableHlo.TRef sig ⟨S2, .i32⟩) (broadcastInDim S2 ![] bcast_S_S2)
  :: StableHlo.TRef.binary (.of main_call0_call0_v19 : StableHlo.TRef sig ⟨S2, .i32⟩) (.of main_call0_call0_v21 : StableHlo.TRef sig ⟨S2, .i32⟩) (.of main_call0_call0_v22 : StableHlo.TRef sig ⟨S2, .i32⟩) Host.shli
  :: StableHlo.TRef.nullary (.of main_call0_call0_c_5 : StableHlo.TRef sig ⟨S_, .i32⟩) (constantI S_ 32 6#32)
  :: StableHlo.TRef.unary (.of main_call0_call0_c_5 : StableHlo.TRef sig ⟨S_, .i32⟩) (.of main_call0_call0_v23 : StableHlo.TRef sig ⟨S2, .i32⟩) (broadcastInDim S2 ![] bcast_S_S2)
  :: StableHlo.TRef.binary (.of main_call0_call0_v19 : StableHlo.TRef sig ⟨S2, .i32⟩) (.of main_call0_call0_v23 : StableHlo.TRef sig ⟨S2, .i32⟩) (.of main_call0_call0_v24 : StableHlo.TRef sig ⟨S2, .i32⟩) Host.shrui
  :: StableHlo.TRef.binary (.of main_call0_call0_v22 : StableHlo.TRef sig ⟨S2, .i32⟩) (.of main_call0_call0_v24 : StableHlo.TRef sig ⟨S2, .i32⟩) (.of main_call0_call0_v25 : StableHlo.TRef sig ⟨S2, .i32⟩) ori
  :: StableHlo.TRef.binary (.of main_call0_call0_v20 : StableHlo.TRef sig ⟨S2, .i32⟩) (.of main_call0_call0_v25 : StableHlo.TRef sig ⟨S2, .i32⟩) (.of main_call0_call0_v26 : StableHlo.TRef sig ⟨S2, .i32⟩) xori
  :: StableHlo.TRef.binary (.of main_call0_call0_v20 : StableHlo.TRef sig ⟨S2, .i32⟩) (.of main_call0_call0_v26 : StableHlo.TRef sig ⟨S2, .i32⟩) (.of main_call0_call0_v27 : StableHlo.TRef sig ⟨S2, .i32⟩) addi
  :: StableHlo.TRef.nullary (.of main_call0_call0_c_6 : StableHlo.TRef sig ⟨S_, .i32⟩) (constantI S_ 32 6#32)
  :: StableHlo.TRef.unary (.of main_call0_call0_c_6 : StableHlo.TRef sig ⟨S_, .i32⟩) (.of main_call0_call0_v28 : StableHlo.TRef sig ⟨S2, .i32⟩) (broadcastInDim S2 ![] bcast_S_S2)
  :: StableHlo.TRef.binary (.of main_call0_call0_v26 : StableHlo.TRef sig ⟨S2, .i32⟩) (.of main_call0_call0_v28 : StableHlo.TRef sig ⟨S2, .i32⟩) (.of main_call0_call0_v29 : StableHlo.TRef sig ⟨S2, .i32⟩) Host.shli
  :: StableHlo.TRef.nullary (.of main_call0_call0_c_7 : StableHlo.TRef sig ⟨S_, .i32⟩) (constantI S_ 32 26#32)
  :: StableHlo.TRef.unary (.of main_call0_call0_c_7 : StableHlo.TRef sig ⟨S_, .i32⟩) (.of main_call0_call0_v30 : StableHlo.TRef sig ⟨S2, .i32⟩) (broadcastInDim S2 ![] bcast_S_S2)
  :: StableHlo.TRef.binary (.of main_call0_call0_v26 : StableHlo.TRef sig ⟨S2, .i32⟩) (.of main_call0_call0_v30 : StableHlo.TRef sig ⟨S2, .i32⟩) (.of main_call0_call0_v31 : StableHlo.TRef sig ⟨S2, .i32⟩) Host.shrui
  :: StableHlo.TRef.binary (.of main_call0_call0_v29 : StableHlo.TRef sig ⟨S2, .i32⟩) (.of main_call0_call0_v31 : StableHlo.TRef sig ⟨S2, .i32⟩) (.of main_call0_call0_v32 : StableHlo.TRef sig ⟨S2, .i32⟩) ori
  :: StableHlo.TRef.binary (.of main_call0_call0_v27 : StableHlo.TRef sig ⟨S2, .i32⟩) (.of main_call0_call0_v32 : StableHlo.TRef sig ⟨S2, .i32⟩) (.of main_call0_call0_v33 : StableHlo.TRef sig ⟨S2, .i32⟩) xori
  :: StableHlo.TRef.unary (.of main_call0_v3 : StableHlo.TRef sig ⟨S_, .i32⟩) (.of main_call0_call0_v34 : StableHlo.TRef sig ⟨S2, .i32⟩) (broadcastInDim S2 ![] bcast_S_S2)
  :: StableHlo.TRef.binary (.of main_call0_call0_v27 : StableHlo.TRef sig ⟨S2, .i32⟩) (.of main_call0_call0_v34 : StableHlo.TRef sig ⟨S2, .i32⟩) (.of main_call0_call0_v35 : StableHlo.TRef sig ⟨S2, .i32⟩) addi
  :: StableHlo.TRef.unary (.of main_call0_call0_v1 : StableHlo.TRef sig ⟨S_, .i32⟩) (.of main_call0_call0_v36 : StableHlo.TRef sig ⟨S2, .i32⟩) (broadcastInDim S2 ![] bcast_S_S2)
  :: StableHlo.TRef.binary (.of main_call0_call0_v33 : StableHlo.TRef sig ⟨S2, .i32⟩) (.of main_call0_call0_v36 : StableHlo.TRef sig ⟨S2, .i32⟩) (.of main_call0_call0_v37 : StableHlo.TRef sig ⟨S2, .i32⟩) addi
  :: StableHlo.TRef.nullary (.of main_call0_call0_c_8 : StableHlo.TRef sig ⟨S_, .i32⟩) (constantI S_ 32 1#32)
  :: StableHlo.TRef.unary (.of main_call0_call0_c_8 : StableHlo.TRef sig ⟨S_, .i32⟩) (.of main_call0_call0_v38 : StableHlo.TRef sig ⟨S2, .i32⟩) (broadcastInDim S2 ![] bcast_S_S2)
  :: StableHlo.TRef.binary (.of main_call0_call0_v37 : StableHlo.TRef sig ⟨S2, .i32⟩) (.of main_call0_call0_v38 : StableHlo.TRef sig ⟨S2, .i32⟩) (.of main_call0_call0_v39 : StableHlo.TRef sig ⟨S2, .i32⟩) addi
  :: StableHlo.TRef.binary (.of main_call0_call0_v35 : StableHlo.TRef sig ⟨S2, .i32⟩) (.of main_call0_call0_v39 : StableHlo.TRef sig ⟨S2, .i32⟩) (.of main_call0_call0_v40 : StableHlo.TRef sig ⟨S2, .i32⟩) addi
  :: StableHlo.TRef.nullary (.of main_call0_call0_c_9 : StableHlo.TRef sig ⟨S_, .i32⟩) (constantI S_ 32 17#32)
  :: StableHlo.TRef.unary (.of main_call0_call0_c_9 : StableHlo.TRef sig ⟨S_, .i32⟩) (.of main_call0_call0_v41 : StableHlo.TRef sig ⟨S2, .i32⟩) (broadcastInDim S2 ![] bcast_S_S2)
  :: StableHlo.TRef.binary (.of main_call0_call0_v39 : StableHlo.TRef sig ⟨S2, .i32⟩) (.of main_call0_call0_v41 : StableHlo.TRef sig ⟨S2, .i32⟩) (.of main_call0_call0_v42 : StableHlo.TRef sig ⟨S2, .i32⟩) Host.shli
  :: StableHlo.TRef.nullary (.of main_call0_call0_c_10 : StableHlo.TRef sig ⟨S_, .i32⟩) (constantI S_ 32 15#32)
  :: StableHlo.TRef.unary (.of main_call0_call0_c_10 : StableHlo.TRef sig ⟨S_, .i32⟩) (.of main_call0_call0_v43 : StableHlo.TRef sig ⟨S2, .i32⟩) (broadcastInDim S2 ![] bcast_S_S2)
  :: StableHlo.TRef.binary (.of main_call0_call0_v39 : StableHlo.TRef sig ⟨S2, .i32⟩) (.of main_call0_call0_v43 : StableHlo.TRef sig ⟨S2, .i32⟩) (.of main_call0_call0_v44 : StableHlo.TRef sig ⟨S2, .i32⟩) Host.shrui
  :: StableHlo.TRef.binary (.of main_call0_call0_v42 : StableHlo.TRef sig ⟨S2, .i32⟩) (.of main_call0_call0_v44 : StableHlo.TRef sig ⟨S2, .i32⟩) (.of main_call0_call0_v45 : StableHlo.TRef sig ⟨S2, .i32⟩) ori
  :: StableHlo.TRef.binary (.of main_call0_call0_v40 : StableHlo.TRef sig ⟨S2, .i32⟩) (.of main_call0_call0_v45 : StableHlo.TRef sig ⟨S2, .i32⟩) (.of main_call0_call0_v46 : StableHlo.TRef sig ⟨S2, .i32⟩) xori
  :: StableHlo.TRef.binary (.of main_call0_call0_v40 : StableHlo.TRef sig ⟨S2, .i32⟩) (.of main_call0_call0_v46 : StableHlo.TRef sig ⟨S2, .i32⟩) (.of main_call0_call0_v47 : StableHlo.TRef sig ⟨S2, .i32⟩) addi
  :: StableHlo.TRef.nullary (.of main_call0_call0_c_11 : StableHlo.TRef sig ⟨S_, .i32⟩) (constantI S_ 32 29#32)
  :: StableHlo.TRef.unary (.of main_call0_call0_c_11 : StableHlo.TRef sig ⟨S_, .i32⟩) (.of main_call0_call0_v48 : StableHlo.TRef sig ⟨S2, .i32⟩) (broadcastInDim S2 ![] bcast_S_S2)
  :: StableHlo.TRef.binary (.of main_call0_call0_v46 : StableHlo.TRef sig ⟨S2, .i32⟩) (.of main_call0_call0_v48 : StableHlo.TRef sig ⟨S2, .i32⟩) (.of main_call0_call0_v49 : StableHlo.TRef sig ⟨S2, .i32⟩) Host.shli
  :: StableHlo.TRef.nullary (.of main_call0_call0_c_12 : StableHlo.TRef sig ⟨S_, .i32⟩) (constantI S_ 32 3#32)
  :: StableHlo.TRef.unary (.of main_call0_call0_c_12 : StableHlo.TRef sig ⟨S_, .i32⟩) (.of main_call0_call0_v50 : StableHlo.TRef sig ⟨S2, .i32⟩) (broadcastInDim S2 ![] bcast_S_S2)
  :: StableHlo.TRef.binary (.of main_call0_call0_v46 : StableHlo.TRef sig ⟨S2, .i32⟩) (.of main_call0_call0_v50 : StableHlo.TRef sig ⟨S2, .i32⟩) (.of main_call0_call0_v51 : StableHlo.TRef sig ⟨S2, .i32⟩) Host.shrui
  :: StableHlo.TRef.binary (.of main_call0_call0_v49 : StableHlo.TRef sig ⟨S2, .i32⟩) (.of main_call0_call0_v51 : StableHlo.TRef sig ⟨S2, .i32⟩) (.of main_call0_call0_v52 : StableHlo.TRef sig ⟨S2, .i32⟩) ori
  :: StableHlo.TRef.binary (.of main_call0_call0_v47 : StableHlo.TRef sig ⟨S2, .i32⟩) (.of main_call0_call0_v52 : StableHlo.TRef sig ⟨S2, .i32⟩) (.of main_call0_call0_v53 : StableHlo.TRef sig ⟨S2, .i32⟩) xori
  :: StableHlo.TRef.binary (.of main_call0_call0_v47 : StableHlo.TRef sig ⟨S2, .i32⟩) (.of main_call0_call0_v53 : StableHlo.TRef sig ⟨S2, .i32⟩) (.of main_call0_call0_v54 : StableHlo.TRef sig ⟨S2, .i32⟩) addi
  :: StableHlo.TRef.nullary (.of main_call0_call0_c_13 : StableHlo.TRef sig ⟨S_, .i32⟩) (constantI S_ 32 16#32)
  :: StableHlo.TRef.unary (.of main_call0_call0_c_13 : StableHlo.TRef sig ⟨S_, .i32⟩) (.of main_call0_call0_v55 : StableHlo.TRef sig ⟨S2, .i32⟩) (broadcastInDim S2 ![] bcast_S_S2)
  :: StableHlo.TRef.binary (.of main_call0_call0_v53 : StableHlo.TRef sig ⟨S2, .i32⟩) (.of main_call0_call0_v55 : StableHlo.TRef sig ⟨S2, .i32⟩) (.of main_call0_call0_v56 : StableHlo.TRef sig ⟨S2, .i32⟩) Host.shli
  :: StableHlo.TRef.nullary (.of main_call0_call0_c_14 : StableHlo.TRef sig ⟨S_, .i32⟩) (constantI S_ 32 16#32)
  :: StableHlo.TRef.unary (.of main_call0_call0_c_14 : StableHlo.TRef sig ⟨S_, .i32⟩) (.of main_call0_call0_v57 : StableHlo.TRef sig ⟨S2, .i32⟩) (broadcastInDim S2 ![] bcast_S_S2)
  :: StableHlo.TRef.binary (.of main_call0_call0_v53 : StableHlo.TRef sig ⟨S2, .i32⟩) (.of main_call0_call0_v57 : StableHlo.TRef sig ⟨S2, .i32⟩) (.of main_call0_call0_v58 : StableHlo.TRef sig ⟨S2, .i32⟩) Host.shrui
  :: StableHlo.TRef.binary (.of main_call0_call0_v56 : StableHlo.TRef sig ⟨S2, .i32⟩) (.of main_call0_call0_v58 : StableHlo.TRef sig ⟨S2, .i32⟩) (.of main_call0_call0_v59 : StableHlo.TRef sig ⟨S2, .i32⟩) ori
  :: StableHlo.TRef.binary (.of main_call0_call0_v54 : StableHlo.TRef sig ⟨S2, .i32⟩) (.of main_call0_call0_v59 : StableHlo.TRef sig ⟨S2, .i32⟩) (.of main_call0_call0_v60 : StableHlo.TRef sig ⟨S2, .i32⟩) xori
  :: StableHlo.TRef.binary (.of main_call0_call0_v54 : StableHlo.TRef sig ⟨S2, .i32⟩) (.of main_call0_call0_v60 : StableHlo.TRef sig ⟨S2, .i32⟩) (.of main_call0_call0_v61 : StableHlo.TRef sig ⟨S2, .i32⟩) addi
  :: StableHlo.TRef.nullary (.of main_call0_call0_c_15 : StableHlo.TRef sig ⟨S_, .i32⟩) (constantI S_ 32 24#32)
  :: StableHlo.TRef.unary (.of main_call0_call0_c_15 : StableHlo.TRef sig ⟨S_, .i32⟩) (.of main_call0_call0_v62 : StableHlo.TRef sig ⟨S2, .i32⟩) (broadcastInDim S2 ![] bcast_S_S2)
  :: StableHlo.TRef.binary (.of main_call0_call0_v60 : StableHlo.TRef sig ⟨S2, .i32⟩) (.of main_call0_call0_v62 : StableHlo.TRef sig ⟨S2, .i32⟩) (.of main_call0_call0_v63 : StableHlo.TRef sig ⟨S2, .i32⟩) Host.shli
  :: StableHlo.TRef.nullary (.of main_call0_call0_c_16 : StableHlo.TRef sig ⟨S_, .i32⟩) (constantI S_ 32 8#32)
  :: StableHlo.TRef.unary (.of main_call0_call0_c_16 : StableHlo.TRef sig ⟨S_, .i32⟩) (.of main_call0_call0_v64 : StableHlo.TRef sig ⟨S2, .i32⟩) (broadcastInDim S2 ![] bcast_S_S2)
  :: StableHlo.TRef.binary (.of main_call0_call0_v60 : StableHlo.TRef sig ⟨S2, .i32⟩) (.of main_call0_call0_v64 : StableHlo.TRef sig ⟨S2, .i32⟩) (.of main_call0_call0_v65 : StableHlo.TRef sig ⟨S2, .i32⟩) Host.shrui
  :: StableHlo.TRef.binary (.of main_call0_call0_v63 : StableHlo.TRef sig ⟨S2, .i32⟩) (.of main_call0_call0_v65 : StableHlo.TRef sig ⟨S2, .i32⟩) (.of main_call0_call0_v66 : StableHlo.TRef sig ⟨S2, .i32⟩) ori
  :: StableHlo.TRef.binary (.of main_call0_call0_v61 : StableHlo.TRef sig ⟨S2, .i32⟩) (.of main_call0_call0_v66 : StableHlo.TRef sig ⟨S2, .i32⟩) (.of main_call0_call0_v67 : StableHlo.TRef sig ⟨S2, .i32⟩) xori
  :: StableHlo.TRef.unary (.of main_call0_call0_v1 : StableHlo.TRef sig ⟨S_, .i32⟩) (.of main_call0_call0_v68 : StableHlo.TRef sig ⟨S2, .i32⟩) (broadcastInDim S2 ![] bcast_S_S2)
  :: StableHlo.TRef.binary (.of main_call0_call0_v61 : StableHlo.TRef sig ⟨S2, .i32⟩) (.of main_call0_call0_v68 : StableHlo.TRef sig ⟨S2, .i32⟩) (.of main_call0_call0_v69 : StableHlo.TRef sig ⟨S2, .i32⟩) addi
  :: StableHlo.TRef.unary (.of main_call0_v1 : StableHlo.TRef sig ⟨S_, .i32⟩) (.of main_call0_call0_v70 : StableHlo.TRef sig ⟨S2, .i32⟩) (broadcastInDim S2 ![] bcast_S_S2)
  :: StableHlo.TRef.binary (.of main_call0_call0_v67 : StableHlo.TRef sig ⟨S2, .i32⟩) (.of main_call0_call0_v70 : StableHlo.TRef sig ⟨S2, .i32⟩) (.of main_call0_call0_v71 : StableHlo.TRef sig ⟨S2, .i32⟩) addi
  :: StableHlo.TRef.nullary (.of main_call0_call0_c_17 : StableHlo.TRef sig ⟨S_, .i32⟩) (constantI S_ 32 2#32)
  :: StableHlo.TRef.unary (.of main_call0_call0_c_17 : StableHlo.TRef sig ⟨S_, .i32⟩) (.of main_call0_call0_v72 : StableHlo.TRef sig ⟨S2, .i32⟩) (broadcastInDim S2 ![] bcast_S_S2)
  :: StableHlo.TRef.binary (.of main_call0_call0_v71 : StableHlo.TRef sig ⟨S2, .i32⟩) (.of main_call0_call0_v72 : StableHlo.TRef sig ⟨S2, .i32⟩) (.of main_call0_call0_v73 : StableHlo.TRef sig ⟨S2, .i32⟩) addi
  :: StableHlo.TRef.binary (.of main_call0_call0_v69 : StableHlo.TRef sig ⟨S2, .i32⟩) (.of main_call0_call0_v73 : StableHlo.TRef sig ⟨S2, .i32⟩) (.of main_call0_call0_v74 : StableHlo.TRef sig ⟨S2, .i32⟩) addi
  :: StableHlo.TRef.nullary (.of main_call0_call0_c_18 : StableHlo.TRef sig ⟨S_, .i32⟩) (constantI S_ 32 13#32)
  :: StableHlo.TRef.unary (.of main_call0_call0_c_18 : StableHlo.TRef sig ⟨S_, .i32⟩) (.of main_call0_call0_v75 : StableHlo.TRef sig ⟨S2, .i32⟩) (broadcastInDim S2 ![] bcast_S_S2)
  :: StableHlo.TRef.binary (.of main_call0_call0_v73 : StableHlo.TRef sig ⟨S2, .i32⟩) (.of main_call0_call0_v75 : StableHlo.TRef sig ⟨S2, .i32⟩) (.of main_call0_call0_v76 : StableHlo.TRef sig ⟨S2, .i32⟩) Host.shli
  :: StableHlo.TRef.nullary (.of main_call0_call0_c_19 : StableHlo.TRef sig ⟨S_, .i32⟩) (constantI S_ 32 19#32)
  :: StableHlo.TRef.unary (.of main_call0_call0_c_19 : StableHlo.TRef sig ⟨S_, .i32⟩) (.of main_call0_call0_v77 : StableHlo.TRef sig ⟨S2, .i32⟩) (broadcastInDim S2 ![] bcast_S_S2)
  :: StableHlo.TRef.binary (.of main_call0_call0_v73 : StableHlo.TRef sig ⟨S2, .i32⟩) (.of main_call0_call0_v77 : StableHlo.TRef sig ⟨S2, .i32⟩) (.of main_call0_call0_v78 : StableHlo.TRef sig ⟨S2, .i32⟩) Host.shrui
  :: StableHlo.TRef.binary (.of main_call0_call0_v76 : StableHlo.TRef sig ⟨S2, .i32⟩) (.of main_call0_call0_v78 : StableHlo.TRef sig ⟨S2, .i32⟩) (.of main_call0_call0_v79 : StableHlo.TRef sig ⟨S2, .i32⟩) ori
  :: StableHlo.TRef.binary (.of main_call0_call0_v74 : StableHlo.TRef sig ⟨S2, .i32⟩) (.of main_call0_call0_v79 : StableHlo.TRef sig ⟨S2, .i32⟩) (.of main_call0_call0_v80 : StableHlo.TRef sig ⟨S2, .i32⟩) xori
  :: StableHlo.TRef.binary (.of main_call0_call0_v74 : StableHlo.TRef sig ⟨S2, .i32⟩) (.of main_call0_call0_v80 : StableHlo.TRef sig ⟨S2, .i32⟩) (.of main_call0_call0_v81 : StableHlo.TRef sig ⟨S2, .i32⟩) addi
  :: StableHlo.TRef.nullary (.of main_call0_call0_c_20 : StableHlo.TRef sig ⟨S_, .i32⟩) (constantI S_ 32 15#32)
  :: StableHlo.TRef.unary (.of main_call0_call0_c_20 : StableHlo.TRef sig ⟨S_, .i32⟩) (.of main_call0_call0_v82 : StableHlo.TRef sig ⟨S2, .i32⟩) (broadcastInDim S2 ![] bcast_S_S2)
  :: StableHlo.TRef.binary (.of main_call0_call0_v80 : StableHlo.TRef sig ⟨S2, .i32⟩) (.of main_call0_call0_v82 : StableHlo.TRef sig ⟨S2, .i32⟩) (.of main_call0_call0_v83 : StableHlo.TRef sig ⟨S2, .i32⟩) Host.shli
  :: StableHlo.TRef.nullary (.of main_call0_call0_c_21 : StableHlo.TRef sig ⟨S_, .i32⟩) (constantI S_ 32 17#32)
  :: StableHlo.TRef.unary (.of main_call0_call0_c_21 : StableHlo.TRef sig ⟨S_, .i32⟩) (.of main_call0_call0_v84 : StableHlo.TRef sig ⟨S2, .i32⟩) (broadcastInDim S2 ![] bcast_S_S2)
  :: StableHlo.TRef.binary (.of main_call0_call0_v80 : StableHlo.TRef sig ⟨S2, .i32⟩) (.of main_call0_call0_v84 : StableHlo.TRef sig ⟨S2, .i32⟩) (.of main_call0_call0_v85 : StableHlo.TRef sig ⟨S2, .i32⟩) Host.shrui
  :: StableHlo.TRef.binary (.of main_call0_call0_v83 : StableHlo.TRef sig ⟨S2, .i32⟩) (.of main_call0_call0_v85 : StableHlo.TRef sig ⟨S2, .i32⟩) (.of main_call0_call0_v86 : StableHlo.TRef sig ⟨S2, .i32⟩) ori
  :: StableHlo.TRef.binary (.of main_call0_call0_v81 : StableHlo.TRef sig ⟨S2, .i32⟩) (.of main_call0_call0_v86 : StableHlo.TRef sig ⟨S2, .i32⟩) (.of main_call0_call0_v87 : StableHlo.TRef sig ⟨S2, .i32⟩) xori
  :: StableHlo.TRef.binary (.of main_call0_call0_v81 : StableHlo.TRef sig ⟨S2, .i32⟩) (.of main_call0_call0_v87 : StableHlo.TRef sig ⟨S2, .i32⟩) (.of main_call0_call0_v88 : StableHlo.TRef sig ⟨S2, .i32⟩) addi
  :: StableHlo.TRef.nullary (.of main_call0_call0_c_22 : StableHlo.TRef sig ⟨S_, .i32⟩) (constantI S_ 32 26#32)
  :: StableHlo.TRef.unary (.of main_call0_call0_c_22 : StableHlo.TRef sig ⟨S_, .i32⟩) (.of main_call0_call0_v89 : StableHlo.TRef sig ⟨S2, .i32⟩) (broadcastInDim S2 ![] bcast_S_S2)
  :: StableHlo.TRef.binary (.of main_call0_call0_v87 : StableHlo.TRef sig ⟨S2, .i32⟩) (.of main_call0_call0_v89 : StableHlo.TRef sig ⟨S2, .i32⟩) (.of main_call0_call0_v90 : StableHlo.TRef sig ⟨S2, .i32⟩) Host.shli
  :: StableHlo.TRef.nullary (.of main_call0_call0_c_23 : StableHlo.TRef sig ⟨S_, .i32⟩) (constantI S_ 32 6#32)
  :: StableHlo.TRef.unary (.of main_call0_call0_c_23 : StableHlo.TRef sig ⟨S_, .i32⟩) (.of main_call0_call0_v91 : StableHlo.TRef sig ⟨S2, .i32⟩) (broadcastInDim S2 ![] bcast_S_S2)
  :: StableHlo.TRef.binary (.of main_call0_call0_v87 : StableHlo.TRef sig ⟨S2, .i32⟩) (.of main_call0_call0_v91 : StableHlo.TRef sig ⟨S2, .i32⟩) (.of main_call0_call0_v92 : StableHlo.TRef sig ⟨S2, .i32⟩) Host.shrui
  :: StableHlo.TRef.binary (.of main_call0_call0_v90 : StableHlo.TRef sig ⟨S2, .i32⟩) (.of main_call0_call0_v92 : StableHlo.TRef sig ⟨S2, .i32⟩) (.of main_call0_call0_v93 : StableHlo.TRef sig ⟨S2, .i32⟩) ori
  :: StableHlo.TRef.binary (.of main_call0_call0_v88 : StableHlo.TRef sig ⟨S2, .i32⟩) (.of main_call0_call0_v93 : StableHlo.TRef sig ⟨S2, .i32⟩) (.of main_call0_call0_v94 : StableHlo.TRef sig ⟨S2, .i32⟩) xori
  :: StableHlo.TRef.binary (.of main_call0_call0_v88 : StableHlo.TRef sig ⟨S2, .i32⟩) (.of main_call0_call0_v94 : StableHlo.TRef sig ⟨S2, .i32⟩) (.of main_call0_call0_v95 : StableHlo.TRef sig ⟨S2, .i32⟩) addi
  :: StableHlo.TRef.nullary (.of main_call0_call0_c_24 : StableHlo.TRef sig ⟨S_, .i32⟩) (constantI S_ 32 6#32)
  :: StableHlo.TRef.unary (.of main_call0_call0_c_24 : StableHlo.TRef sig ⟨S_, .i32⟩) (.of main_call0_call0_v96 : StableHlo.TRef sig ⟨S2, .i32⟩) (broadcastInDim S2 ![] bcast_S_S2)
  :: StableHlo.TRef.binary (.of main_call0_call0_v94 : StableHlo.TRef sig ⟨S2, .i32⟩) (.of main_call0_call0_v96 : StableHlo.TRef sig ⟨S2, .i32⟩) (.of main_call0_call0_v97 : StableHlo.TRef sig ⟨S2, .i32⟩) Host.shli
  :: StableHlo.TRef.nullary (.of main_call0_call0_c_25 : StableHlo.TRef sig ⟨S_, .i32⟩) (constantI S_ 32 26#32)
  :: StableHlo.TRef.unary (.of main_call0_call0_c_25 : StableHlo.TRef sig ⟨S_, .i32⟩) (.of main_call0_call0_v98 : StableHlo.TRef sig ⟨S2, .i32⟩) (broadcastInDim S2 ![] bcast_S_S2)
  :: StableHlo.TRef.binary (.of main_call0_call0_v94 : StableHlo.TRef sig ⟨S2, .i32⟩) (.of main_call0_call0_v98 : StableHlo.TRef sig ⟨S2, .i32⟩) (.of main_call0_call0_v99 : StableHlo.TRef sig ⟨S2, .i32⟩) Host.shrui
  :: StableHlo.TRef.binary (.of main_call0_call0_v97 : StableHlo.TRef sig ⟨S2, .i32⟩) (.of main_call0_call0_v99 : StableHlo.TRef sig ⟨S2, .i32⟩) (.of main_call0_call0_v100 : StableHlo.TRef sig ⟨S2, .i32⟩) ori
  :: StableHlo.TRef.binary (.of main_call0_call0_v95 : StableHlo.TRef sig ⟨S2, .i32⟩) (.of main_call0_call0_v100 : StableHlo.TRef sig ⟨S2, .i32⟩) (.of main_call0_call0_v101 : StableHlo.TRef sig ⟨S2, .i32⟩) xori
  :: StableHlo.TRef.unary (.of main_call0_v1 : StableHlo.TRef sig ⟨S_, .i32⟩) (.of main_call0_call0_v102 : StableHlo.TRef sig ⟨S2, .i32⟩) (broadcastInDim S2 ![] bcast_S_S2)
  :: StableHlo.TRef.binary (.of main_call0_call0_v95 : StableHlo.TRef sig ⟨S2, .i32⟩) (.of main_call0_call0_v102 : StableHlo.TRef sig ⟨S2, .i32⟩) (.of main_call0_call0_v103 : StableHlo.TRef sig ⟨S2, .i32⟩) addi
  :: StableHlo.TRef.unary (.of main_call0_v3 : StableHlo.TRef sig ⟨S_, .i32⟩) (.of main_call0_call0_v104 : StableHlo.TRef sig ⟨S2, .i32⟩) (broadcastInDim S2 ![] bcast_S_S2)
  :: StableHlo.TRef.binary (.of main_call0_call0_v101 : StableHlo.TRef sig ⟨S2, .i32⟩) (.of main_call0_call0_v104 : StableHlo.TRef sig ⟨S2, .i32⟩) (.of main_call0_call0_v105 : StableHlo.TRef sig ⟨S2, .i32⟩) addi
  :: StableHlo.TRef.nullary (.of main_call0_call0_c_26 : StableHlo.TRef sig ⟨S_, .i32⟩) (constantI S_ 32 3#32)
  :: StableHlo.TRef.unary (.of main_call0_call0_c_26 : StableHlo.TRef sig ⟨S_, .i32⟩) (.of main_call0_call0_v106 : StableHlo.TRef sig ⟨S2, .i32⟩) (broadcastInDim S2 ![] bcast_S_S2)
  :: StableHlo.TRef.binary (.of main_call0_call0_v105 : StableHlo.TRef sig ⟨S2, .i32⟩) (.of main_call0_call0_v106 : StableHlo.TRef sig ⟨S2, .i32⟩) (.of main_call0_call0_v107 : StableHlo.TRef sig ⟨S2, .i32⟩) addi
  :: StableHlo.TRef.binary (.of main_call0_call0_v103 : StableHlo.TRef sig ⟨S2, .i32⟩) (.of main_call0_call0_v107 : StableHlo.TRef sig ⟨S2, .i32⟩) (.of main_call0_call0_v108 : StableHlo.TRef sig ⟨S2, .i32⟩) addi
  :: StableHlo.TRef.nullary (.of main_call0_call0_c_27 : StableHlo.TRef sig ⟨S_, .i32⟩) (constantI S_ 32 17#32)
  :: StableHlo.TRef.unary (.of main_call0_call0_c_27 : StableHlo.TRef sig ⟨S_, .i32⟩) (.of main_call0_call0_v109 : StableHlo.TRef sig ⟨S2, .i32⟩) (broadcastInDim S2 ![] bcast_S_S2)
  :: StableHlo.TRef.binary (.of main_call0_call0_v107 : StableHlo.TRef sig ⟨S2, .i32⟩) (.of main_call0_call0_v109 : StableHlo.TRef sig ⟨S2, .i32⟩) (.of main_call0_call0_v110 : StableHlo.TRef sig ⟨S2, .i32⟩) Host.shli
  :: StableHlo.TRef.nullary (.of main_call0_call0_c_28 : StableHlo.TRef sig ⟨S_, .i32⟩) (constantI S_ 32 15#32)
  :: StableHlo.TRef.unary (.of main_call0_call0_c_28 : StableHlo.TRef sig ⟨S_, .i32⟩) (.of main_call0_call0_v111 : StableHlo.TRef sig ⟨S2, .i32⟩) (broadcastInDim S2 ![] bcast_S_S2)
  :: StableHlo.TRef.binary (.of main_call0_call0_v107 : StableHlo.TRef sig ⟨S2, .i32⟩) (.of main_call0_call0_v111 : StableHlo.TRef sig ⟨S2, .i32⟩) (.of main_call0_call0_v112 : StableHlo.TRef sig ⟨S2, .i32⟩) Host.shrui
  :: StableHlo.TRef.binary (.of main_call0_call0_v110 : StableHlo.TRef sig ⟨S2, .i32⟩) (.of main_call0_call0_v112 : StableHlo.TRef sig ⟨S2, .i32⟩) (.of main_call0_call0_v113 : StableHlo.TRef sig ⟨S2, .i32⟩) ori
  :: StableHlo.TRef.binary (.of main_call0_call0_v108 : StableHlo.TRef sig ⟨S2, .i32⟩) (.of main_call0_call0_v113 : StableHlo.TRef sig ⟨S2, .i32⟩) (.of main_call0_call0_v114 : StableHlo.TRef sig ⟨S2, .i32⟩) xori
  :: StableHlo.TRef.binary (.of main_call0_call0_v108 : StableHlo.TRef sig ⟨S2, .i32⟩) (.of main_call0_call0_v114 : StableHlo.TRef sig ⟨S2, .i32⟩) (.of main_call0_call0_v115 : StableHlo.TRef sig ⟨S2, .i32⟩) addi
  :: StableHlo.TRef.nullary (.of main_call0_call0_c_29 : StableHlo.TRef sig ⟨S_, .i32⟩) (constantI S_ 32 29#32)
  :: StableHlo.TRef.unary (.of main_call0_call0_c_29 : StableHlo.TRef sig ⟨S_, .i32⟩) (.of main_call0_call0_v116 : StableHlo.TRef sig ⟨S2, .i32⟩) (broadcastInDim S2 ![] bcast_S_S2)
  :: StableHlo.TRef.binary (.of main_call0_call0_v114 : StableHlo.TRef sig ⟨S2, .i32⟩) (.of main_call0_call0_v116 : StableHlo.TRef sig ⟨S2, .i32⟩) (.of main_call0_call0_v117 : StableHlo.TRef sig ⟨S2, .i32⟩) Host.shli
  :: StableHlo.TRef.nullary (.of main_call0_call0_c_30 : StableHlo.TRef sig ⟨S_, .i32⟩) (constantI S_ 32 3#32)
  :: StableHlo.TRef.unary (.of main_call0_call0_c_30 : StableHlo.TRef sig ⟨S_, .i32⟩) (.of main_call0_call0_v118 : StableHlo.TRef sig ⟨S2, .i32⟩) (broadcastInDim S2 ![] bcast_S_S2)
  :: StableHlo.TRef.binary (.of main_call0_call0_v114 : StableHlo.TRef sig ⟨S2, .i32⟩) (.of main_call0_call0_v118 : StableHlo.TRef sig ⟨S2, .i32⟩) (.of main_call0_call0_v119 : StableHlo.TRef sig ⟨S2, .i32⟩) Host.shrui
  :: StableHlo.TRef.binary (.of main_call0_call0_v117 : StableHlo.TRef sig ⟨S2, .i32⟩) (.of main_call0_call0_v119 : StableHlo.TRef sig ⟨S2, .i32⟩) (.of main_call0_call0_v120 : StableHlo.TRef sig ⟨S2, .i32⟩) ori
  :: StableHlo.TRef.binary (.of main_call0_call0_v115 : StableHlo.TRef sig ⟨S2, .i32⟩) (.of main_call0_call0_v120 : StableHlo.TRef sig ⟨S2, .i32⟩) (.of main_call0_call0_v121 : StableHlo.TRef sig ⟨S2, .i32⟩) xori
  :: StableHlo.TRef.binary (.of main_call0_call0_v115 : StableHlo.TRef sig ⟨S2, .i32⟩) (.of main_call0_call0_v121 : StableHlo.TRef sig ⟨S2, .i32⟩) (.of main_call0_call0_v122 : StableHlo.TRef sig ⟨S2, .i32⟩) addi
  :: StableHlo.TRef.nullary (.of main_call0_call0_c_31 : StableHlo.TRef sig ⟨S_, .i32⟩) (constantI S_ 32 16#32)
  :: StableHlo.TRef.unary (.of main_call0_call0_c_31 : StableHlo.TRef sig ⟨S_, .i32⟩) (.of main_call0_call0_v123 : StableHlo.TRef sig ⟨S2, .i32⟩) (broadcastInDim S2 ![] bcast_S_S2)
  :: StableHlo.TRef.binary (.of main_call0_call0_v121 : StableHlo.TRef sig ⟨S2, .i32⟩) (.of main_call0_call0_v123 : StableHlo.TRef sig ⟨S2, .i32⟩) (.of main_call0_call0_v124 : StableHlo.TRef sig ⟨S2, .i32⟩) Host.shli
  :: StableHlo.TRef.nullary (.of main_call0_call0_c_32 : StableHlo.TRef sig ⟨S_, .i32⟩) (constantI S_ 32 16#32)
  :: StableHlo.TRef.unary (.of main_call0_call0_c_32 : StableHlo.TRef sig ⟨S_, .i32⟩) (.of main_call0_call0_v125 : StableHlo.TRef sig ⟨S2, .i32⟩) (broadcastInDim S2 ![] bcast_S_S2)
  :: StableHlo.TRef.binary (.of main_call0_call0_v121 : StableHlo.TRef sig ⟨S2, .i32⟩) (.of main_call0_call0_v125 : StableHlo.TRef sig ⟨S2, .i32⟩) (.of main_call0_call0_v126 : StableHlo.TRef sig ⟨S2, .i32⟩) Host.shrui
  :: StableHlo.TRef.binary (.of main_call0_call0_v124 : StableHlo.TRef sig ⟨S2, .i32⟩) (.of main_call0_call0_v126 : StableHlo.TRef sig ⟨S2, .i32⟩) (.of main_call0_call0_v127 : StableHlo.TRef sig ⟨S2, .i32⟩) ori
  :: StableHlo.TRef.binary (.of main_call0_call0_v122 : StableHlo.TRef sig ⟨S2, .i32⟩) (.of main_call0_call0_v127 : StableHlo.TRef sig ⟨S2, .i32⟩) (.of main_call0_call0_v128 : StableHlo.TRef sig ⟨S2, .i32⟩) xori
  :: StableHlo.TRef.binary (.of main_call0_call0_v122 : StableHlo.TRef sig ⟨S2, .i32⟩) (.of main_call0_call0_v128 : StableHlo.TRef sig ⟨S2, .i32⟩) (.of main_call0_call0_v129 : StableHlo.TRef sig ⟨S2, .i32⟩) addi
  :: StableHlo.TRef.nullary (.of main_call0_call0_c_33 : StableHlo.TRef sig ⟨S_, .i32⟩) (constantI S_ 32 24#32)
  :: StableHlo.TRef.unary (.of main_call0_call0_c_33 : StableHlo.TRef sig ⟨S_, .i32⟩) (.of main_call0_call0_v130 : StableHlo.TRef sig ⟨S2, .i32⟩) (broadcastInDim S2 ![] bcast_S_S2)
  :: StableHlo.TRef.binary (.of main_call0_call0_v128 : StableHlo.TRef sig ⟨S2, .i32⟩) (.of main_call0_call0_v130 : StableHlo.TRef sig ⟨S2, .i32⟩) (.of main_call0_call0_v131 : StableHlo.TRef sig ⟨S2, .i32⟩) Host.shli
  :: StableHlo.TRef.nullary (.of main_call0_call0_c_34 : StableHlo.TRef sig ⟨S_, .i32⟩) (constantI S_ 32 8#32)
  :: StableHlo.TRef.unary (.of main_call0_call0_c_34 : StableHlo.TRef sig ⟨S_, .i32⟩) (.of main_call0_call0_v132 : StableHlo.TRef sig ⟨S2, .i32⟩) (broadcastInDim S2 ![] bcast_S_S2)
  :: StableHlo.TRef.binary (.of main_call0_call0_v128 : StableHlo.TRef sig ⟨S2, .i32⟩) (.of main_call0_call0_v132 : StableHlo.TRef sig ⟨S2, .i32⟩) (.of main_call0_call0_v133 : StableHlo.TRef sig ⟨S2, .i32⟩) Host.shrui
  :: StableHlo.TRef.binary (.of main_call0_call0_v131 : StableHlo.TRef sig ⟨S2, .i32⟩) (.of main_call0_call0_v133 : StableHlo.TRef sig ⟨S2, .i32⟩) (.of main_call0_call0_v134 : StableHlo.TRef sig ⟨S2, .i32⟩) ori
  :: StableHlo.TRef.binary (.of main_call0_call0_v129 : StableHlo.TRef sig ⟨S2, .i32⟩) (.of main_call0_call0_v134 : StableHlo.TRef sig ⟨S2, .i32⟩) (.of main_call0_call0_v135 : StableHlo.TRef sig ⟨S2, .i32⟩) xori
  :: StableHlo.TRef.unary (.of main_call0_v3 : StableHlo.TRef sig ⟨S_, .i32⟩) (.of main_call0_call0_v136 : StableHlo.TRef sig ⟨S2, .i32⟩) (broadcastInDim S2 ![] bcast_S_S2)
  :: StableHlo.TRef.binary (.of main_call0_call0_v129 : StableHlo.TRef sig ⟨S2, .i32⟩) (.of main_call0_call0_v136 : StableHlo.TRef sig ⟨S2, .i32⟩) (.of main_call0_call0_v137 : StableHlo.TRef sig ⟨S2, .i32⟩) addi
  :: StableHlo.TRef.unary (.of main_call0_call0_v1 : StableHlo.TRef sig ⟨S_, .i32⟩) (.of main_call0_call0_v138 : StableHlo.TRef sig ⟨S2, .i32⟩) (broadcastInDim S2 ![] bcast_S_S2)
  :: StableHlo.TRef.binary (.of main_call0_call0_v135 : StableHlo.TRef sig ⟨S2, .i32⟩) (.of main_call0_call0_v138 : StableHlo.TRef sig ⟨S2, .i32⟩) (.of main_call0_call0_v139 : StableHlo.TRef sig ⟨S2, .i32⟩) addi
  :: StableHlo.TRef.nullary (.of main_call0_call0_c_35 : StableHlo.TRef sig ⟨S_, .i32⟩) (constantI S_ 32 4#32)
  :: StableHlo.TRef.unary (.of main_call0_call0_c_35 : StableHlo.TRef sig ⟨S_, .i32⟩) (.of main_call0_call0_v140 : StableHlo.TRef sig ⟨S2, .i32⟩) (broadcastInDim S2 ![] bcast_S_S2)
  :: StableHlo.TRef.binary (.of main_call0_call0_v139 : StableHlo.TRef sig ⟨S2, .i32⟩) (.of main_call0_call0_v140 : StableHlo.TRef sig ⟨S2, .i32⟩) (.of main_call0_call0_v141 : StableHlo.TRef sig ⟨S2, .i32⟩) addi
  :: StableHlo.TRef.binary (.of main_call0_call0_v137 : StableHlo.TRef sig ⟨S2, .i32⟩) (.of main_call0_call0_v141 : StableHlo.TRef sig ⟨S2, .i32⟩) (.of main_call0_call0_v142 : StableHlo.TRef sig ⟨S2, .i32⟩) addi
  :: StableHlo.TRef.nullary (.of main_call0_call0_c_36 : StableHlo.TRef sig ⟨S_, .i32⟩) (constantI S_ 32 13#32)
  :: StableHlo.TRef.unary (.of main_call0_call0_c_36 : StableHlo.TRef sig ⟨S_, .i32⟩) (.of main_call0_call0_v143 : StableHlo.TRef sig ⟨S2, .i32⟩) (broadcastInDim S2 ![] bcast_S_S2)
  :: StableHlo.TRef.binary (.of main_call0_call0_v141 : StableHlo.TRef sig ⟨S2, .i32⟩) (.of main_call0_call0_v143 : StableHlo.TRef sig ⟨S2, .i32⟩) (.of main_call0_call0_v144 : StableHlo.TRef sig ⟨S2, .i32⟩) Host.shli
  :: StableHlo.TRef.nullary (.of main_call0_call0_c_37 : StableHlo.TRef sig ⟨S_, .i32⟩) (constantI S_ 32 19#32)
  :: StableHlo.TRef.unary (.of main_call0_call0_c_37 : StableHlo.TRef sig ⟨S_, .i32⟩) (.of main_call0_call0_v145 : StableHlo.TRef sig ⟨S2, .i32⟩) (broadcastInDim S2 ![] bcast_S_S2)
  :: StableHlo.TRef.binary (.of main_call0_call0_v141 : StableHlo.TRef sig ⟨S2, .i32⟩) (.of main_call0_call0_v145 : StableHlo.TRef sig ⟨S2, .i32⟩) (.of main_call0_call0_v146 : StableHlo.TRef sig ⟨S2, .i32⟩) Host.shrui
  :: StableHlo.TRef.binary (.of main_call0_call0_v144 : StableHlo.TRef sig ⟨S2, .i32⟩) (.of main_call0_call0_v146 : StableHlo.TRef sig ⟨S2, .i32⟩) (.of main_call0_call0_v147 : StableHlo.TRef sig ⟨S2, .i32⟩) ori
  :: StableHlo.TRef.binary (.of main_call0_call0_v142 : StableHlo.TRef sig ⟨S2, .i32⟩) (.of main_call0_call0_v147 : StableHlo.TRef sig ⟨S2, .i32⟩) (.of main_call0_call0_v148 : StableHlo.TRef sig ⟨S2, .i32⟩) xori
  :: StableHlo.TRef.binary (.of main_call0_call0_v142 : StableHlo.TRef sig ⟨S2, .i32⟩) (.of main_call0_call0_v148 : StableHlo.TRef sig ⟨S2, .i32⟩) (.of main_call0_call0_v149 : StableHlo.TRef sig ⟨S2, .i32⟩) addi
  :: StableHlo.TRef.nullary (.of main_call0_call0_c_38 : StableHlo.TRef sig ⟨S_, .i32⟩) (constantI S_ 32 15#32)
  :: StableHlo.TRef.unary (.of main_call0_call0_c_38 : StableHlo.TRef sig ⟨S_, .i32⟩) (.of main_call0_call0_v150 : StableHlo.TRef sig ⟨S2, .i32⟩) (broadcastInDim S2 ![] bcast_S_S2)
  :: StableHlo.TRef.binary (.of main_call0_call0_v148 : StableHlo.TRef sig ⟨S2, .i32⟩) (.of main_call0_call0_v150 : StableHlo.TRef sig ⟨S2, .i32⟩) (.of main_call0_call0_v151 : StableHlo.TRef sig ⟨S2, .i32⟩) Host.shli
  :: StableHlo.TRef.nullary (.of main_call0_call0_c_39 : StableHlo.TRef sig ⟨S_, .i32⟩) (constantI S_ 32 17#32)
  :: StableHlo.TRef.unary (.of main_call0_call0_c_39 : StableHlo.TRef sig ⟨S_, .i32⟩) (.of main_call0_call0_v152 : StableHlo.TRef sig ⟨S2, .i32⟩) (broadcastInDim S2 ![] bcast_S_S2)
  :: StableHlo.TRef.binary (.of main_call0_call0_v148 : StableHlo.TRef sig ⟨S2, .i32⟩) (.of main_call0_call0_v152 : StableHlo.TRef sig ⟨S2, .i32⟩) (.of main_call0_call0_v153 : StableHlo.TRef sig ⟨S2, .i32⟩) Host.shrui
  :: StableHlo.TRef.binary (.of main_call0_call0_v151 : StableHlo.TRef sig ⟨S2, .i32⟩) (.of main_call0_call0_v153 : StableHlo.TRef sig ⟨S2, .i32⟩) (.of main_call0_call0_v154 : StableHlo.TRef sig ⟨S2, .i32⟩) ori
  :: StableHlo.TRef.binary (.of main_call0_call0_v149 : StableHlo.TRef sig ⟨S2, .i32⟩) (.of main_call0_call0_v154 : StableHlo.TRef sig ⟨S2, .i32⟩) (.of main_call0_call0_v155 : StableHlo.TRef sig ⟨S2, .i32⟩) xori
  :: StableHlo.TRef.binary (.of main_call0_call0_v149 : StableHlo.TRef sig ⟨S2, .i32⟩) (.of main_call0_call0_v155 : StableHlo.TRef sig ⟨S2, .i32⟩) (.of main_call0_call0_v156 : StableHlo.TRef sig ⟨S2, .i32⟩) addi
  :: StableHlo.TRef.nullary (.of main_call0_call0_c_40 : StableHlo.TRef sig ⟨S_, .i32⟩) (constantI S_ 32 26#32)
  :: StableHlo.TRef.unary (.of main_call0_call0_c_40 : StableHlo.TRef sig ⟨S_, .i32⟩) (.of main_call0_call0_v157 : StableHlo.TRef sig ⟨S2, .i32⟩) (broadcastInDim S2 ![] bcast_S_S2)
  :: StableHlo.TRef.binary (.of main_call0_call0_v155 : StableHlo.TRef sig ⟨S2, .i32⟩) (.of main_call0_call0_v157 : StableHlo.TRef sig ⟨S2, .i32⟩) (.of main_call0_call0_v158 : StableHlo.TRef sig ⟨S2, .i32⟩) Host.shli
  :: StableHlo.TRef.nullary (.of main_call0_call0_c_41 : StableHlo.TRef sig ⟨S_, .i32⟩) (constantI S_ 32 6#32)
  :: StableHlo.TRef.unary (.of main_call0_call0_c_41 : StableHlo.TRef sig ⟨S_, .i32⟩) (.of main_call0_call0_v159 : StableHlo.TRef sig ⟨S2, .i32⟩) (broadcastInDim S2 ![] bcast_S_S2)
  :: StableHlo.TRef.binary (.of main_call0_call0_v155 : StableHlo.TRef sig ⟨S2, .i32⟩) (.of main_call0_call0_v159 : StableHlo.TRef sig ⟨S2, .i32⟩) (.of main_call0_call0_v160 : StableHlo.TRef sig ⟨S2, .i32⟩) Host.shrui
  :: StableHlo.TRef.binary (.of main_call0_call0_v158 : StableHlo.TRef sig ⟨S2, .i32⟩) (.of main_call0_call0_v160 : StableHlo.TRef sig ⟨S2, .i32⟩) (.of main_call0_call0_v161 : StableHlo.TRef sig ⟨S2, .i32⟩) ori
  :: StableHlo.TRef.binary (.of main_call0_call0_v156 : StableHlo.TRef sig ⟨S2, .i32⟩) (.of main_call0_call0_v161 : StableHlo.TRef sig ⟨S2, .i32⟩) (.of main_call0_call0_v162 : StableHlo.TRef sig ⟨S2, .i32⟩) xori
  :: StableHlo.TRef.binary (.of main_call0_call0_v156 : StableHlo.TRef sig ⟨S2, .i32⟩) (.of main_call0_call0_v162 : StableHlo.TRef sig ⟨S2, .i32⟩) (.of main_call0_call0_v163 : StableHlo.TRef sig ⟨S2, .i32⟩) addi
  :: StableHlo.TRef.nullary (.of main_call0_call0_c_42 : StableHlo.TRef sig ⟨S_, .i32⟩) (constantI S_ 32 6#32)
  :: StableHlo.TRef.unary (.of main_call0_call0_c_42 : StableHlo.TRef sig ⟨S_, .i32⟩) (.of main_call0_call0_v164 : StableHlo.TRef sig ⟨S2, .i32⟩) (broadcastInDim S2 ![] bcast_S_S2)
  :: StableHlo.TRef.binary (.of main_call0_call0_v162 : StableHlo.TRef sig ⟨S2, .i32⟩) (.of main_call0_call0_v164 : StableHlo.TRef sig ⟨S2, .i32⟩) (.of main_call0_call0_v165 : StableHlo.TRef sig ⟨S2, .i32⟩) Host.shli
  :: StableHlo.TRef.nullary (.of main_call0_call0_c_43 : StableHlo.TRef sig ⟨S_, .i32⟩) (constantI S_ 32 26#32)
  :: StableHlo.TRef.unary (.of main_call0_call0_c_43 : StableHlo.TRef sig ⟨S_, .i32⟩) (.of main_call0_call0_v166 : StableHlo.TRef sig ⟨S2, .i32⟩) (broadcastInDim S2 ![] bcast_S_S2)
  :: StableHlo.TRef.binary (.of main_call0_call0_v162 : StableHlo.TRef sig ⟨S2, .i32⟩) (.of main_call0_call0_v166 : StableHlo.TRef sig ⟨S2, .i32⟩) (.of main_call0_call0_v167 : StableHlo.TRef sig ⟨S2, .i32⟩) Host.shrui
  :: StableHlo.TRef.binary (.of main_call0_call0_v165 : StableHlo.TRef sig ⟨S2, .i32⟩) (.of main_call0_call0_v167 : StableHlo.TRef sig ⟨S2, .i32⟩) (.of main_call0_call0_v168 : StableHlo.TRef sig ⟨S2, .i32⟩) ori
  :: StableHlo.TRef.binary (.of main_call0_call0_v163 : StableHlo.TRef sig ⟨S2, .i32⟩) (.of main_call0_call0_v168 : StableHlo.TRef sig ⟨S2, .i32⟩) (.of main_call0_call0_v169 : StableHlo.TRef sig ⟨S2, .i32⟩) xori
  :: StableHlo.TRef.unary (.of main_call0_call0_v1 : StableHlo.TRef sig ⟨S_, .i32⟩) (.of main_call0_call0_v170 : StableHlo.TRef sig ⟨S2, .i32⟩) (broadcastInDim S2 ![] bcast_S_S2)
  :: StableHlo.TRef.binary (.of main_call0_call0_v163 : StableHlo.TRef sig ⟨S2, .i32⟩) (.of main_call0_call0_v170 : StableHlo.TRef sig ⟨S2, .i32⟩) (.of main_call0_v11_0 : StableHlo.TRef sig ⟨S2, .i32⟩) addi
  :: StableHlo.TRef.unary (.of main_call0_v1 : StableHlo.TRef sig ⟨S_, .i32⟩) (.of main_call0_call0_v172 : StableHlo.TRef sig ⟨S2, .i32⟩) (broadcastInDim S2 ![] bcast_S_S2)
  :: StableHlo.TRef.binary (.of main_call0_call0_v169 : StableHlo.TRef sig ⟨S2, .i32⟩) (.of main_call0_call0_v172 : StableHlo.TRef sig ⟨S2, .i32⟩) (.of main_call0_call0_v173 : StableHlo.TRef sig ⟨S2, .i32⟩) addi
  :: StableHlo.TRef.nullary (.of main_call0_call0_c_44 : StableHlo.TRef sig ⟨S_, .i32⟩) (constantI S_ 32 5#32)
  :: StableHlo.TRef.unary (.of main_call0_call0_c_44 : StableHlo.TRef sig ⟨S_, .i32⟩) (.of main_call0_call0_v174 : StableHlo.TRef sig ⟨S2, .i32⟩) (broadcastInDim S2 ![] bcast_S_S2)
  :: StableHlo.TRef.binary (.of main_call0_call0_v173 : StableHlo.TRef sig ⟨S2, .i32⟩) (.of main_call0_call0_v174 : StableHlo.TRef sig ⟨S2, .i32⟩) (.of main_call0_v11_1 : StableHlo.TRef sig ⟨S2, .i32⟩) addi
  :: StableHlo.TRef.unary main_call0_call0.v171 (.of main_call0_v12 : StableHlo.TRef sig ⟨S2x1, .i32⟩) (broadcastInDim S2x1 ![0] bcast_S2_S2x1_0)
  :: StableHlo.TRef.unary main_call0_call0.v175 (.of main_call0_v13 : StableHlo.TRef sig ⟨S2x1, .i32⟩) (broadcastInDim S2x1 ![0] bcast_S2_S2x1_0)
  :: StableHlo.TRef.binary (.of main_call0_v12 : StableHlo.TRef sig ⟨S2x1, .i32⟩) (.of main_call0_v13 : StableHlo.TRef sig ⟨S2x1, .i32⟩) (.of main_v25 : StableHlo.TRef sig ⟨S2x2, .i32⟩) (fun a b => concatenate S2x2 1 [⟨S2x1, a⟩, ⟨S2x1, b⟩] concatenates_S2x1_S2x1_S2x2_d1)
  :: [] )
set_option maxHeartbeats 40000000 in
/-- Each operation of the stretch touches buffers of the TensorCore only. -/
theorem refSplit_sub : (refSplit : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩

/-- The two keys the split gives. -/
abbrev refSlice : List (HloOp τ sig (Elt F)) :=
  [ StableHlo.unary main_v25 main_v26 ((extractStridedSlice S1x2 ![0, 0] · slices_S2x2_S1x2_0_0) : (⟨S2x2, .i32⟩ : BufTy).Contents (Elt F) → (⟨S1x2, .i32⟩ : BufTy).Contents (Elt F)),
    StableHlo.reshape main_v26 main_v27 (rfl : (.i32 : EltTy) = .i32) shapeCasts_S1x2_S2,
    StableHlo.unary main_v25 main_v28 ((extractStridedSlice S1x2 ![1, 0] · slices_S2x2_S1x2_1_0) : (⟨S2x2, .i32⟩ : BufTy).Contents (Elt F) → (⟨S1x2, .i32⟩ : BufTy).Contents (Elt F)),
    StableHlo.reshape main_v28 main_v29 (rfl : (.i32 : EltTy) = .i32) shapeCasts_S1x2_S2 ]
/-- Each operation of the stretch touches buffers of the TensorCore only. -/
theorem refSlice_sub : (refSlice : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub ..⟩

set_option maxHeartbeats 40000000 in
/-- The noise of the first key. -/
abbrev refGumbel : List (HloOp τ sig (Elt F)) :=
  ( StableHlo.TRef.nullary (.of main_call1_cst : StableHlo.TRef sig ⟨S_, .f32⟩) (constant S_ .f32 0x3F800000#32)
  :: StableHlo.TRef.nullary (.of main_call1_cst_0 : StableHlo.TRef sig ⟨S_, .f32⟩) (constant S_ .f32 0x00800000#32)
  :: StableHlo.TRef.unary (.of main_call1_cst : StableHlo.TRef sig ⟨S_, .f32⟩) (.of main_call1_call0_v0 : StableHlo.TRef sig ⟨S_, .f32⟩) id
  :: StableHlo.TRef.unary (.of main_call1_cst_0 : StableHlo.TRef sig ⟨S_, .f32⟩) (.of main_call1_call0_v1 : StableHlo.TRef sig ⟨S1x1, .f32⟩) (broadcastInDim S1x1 ![] bcast_S_S1x1)
  :: StableHlo.TRef.unary (.of main_call1_call0_v0 : StableHlo.TRef sig ⟨S_, .f32⟩) (.of main_call1_call0_v2 : StableHlo.TRef sig ⟨S1x1, .f32⟩) (broadcastInDim S1x1 ![] bcast_S_S1x1)
  :: StableHlo.TRef.unary (.of main_v27 : StableHlo.TRef sig ⟨S2, .i32⟩) (.of main_call1_call0_v3 : StableHlo.TRef sig ⟨S1, .i32⟩) (extractStridedSlice S1 ![0] · slices_S2_S1_0)
  :: StableHlo.TRef.reshape (.of main_call1_call0_v3 : StableHlo.TRef sig ⟨S1, .i32⟩) (.of main_call1_call0_v4 : StableHlo.TRef sig ⟨S_, .i32⟩) (rfl : (.i32 : EltTy) = .i32) shapeCasts_S1_S_
  :: StableHlo.TRef.unary (.of main_v27 : StableHlo.TRef sig ⟨S2, .i32⟩) (.of main_call1_call0_v5 : StableHlo.TRef sig ⟨S1, .i32⟩) (extractStridedSlice S1 ![1] · slices_S2_S1_1)
  :: StableHlo.TRef.reshape (.of main_call1_call0_v5 : StableHlo.TRef sig ⟨S1, .i32⟩) (.of main_call1_call0_v6 : StableHlo.TRef sig ⟨S_, .i32⟩) (rfl : (.i32 : EltTy) = .i32) shapeCasts_S1_S_
  :: StableHlo.TRef.nullary (.of main_call1_call0_v7 : StableHlo.TRef sig ⟨S32x1000000, .i64⟩) (iotaInDim S32x1000000 64 0)
  :: StableHlo.TRef.nullary (.of main_call1_call0_v8 : StableHlo.TRef sig ⟨S32x1000000, .i64⟩) (iotaInDim S32x1000000 64 1)
  :: StableHlo.TRef.nullary (.of main_call1_call0_c : StableHlo.TRef sig ⟨S_, .i64⟩) (constantI S_ 64 1000000#64)
  :: StableHlo.TRef.unary (.of main_call1_call0_c : StableHlo.TRef sig ⟨S_, .i64⟩) (.of main_call1_call0_v9 : StableHlo.TRef sig ⟨S32x1000000, .i64⟩) (broadcastInDim S32x1000000 ![] bcast_S_S32x1000000)
  :: StableHlo.TRef.binary (.of main_call1_call0_v9 : StableHlo.TRef sig ⟨S32x1000000, .i64⟩) (.of main_call1_call0_v7 : StableHlo.TRef sig ⟨S32x1000000, .i64⟩) (.of main_call1_call0_v10 : StableHlo.TRef sig ⟨S32x1000000, .i64⟩) muli
  :: StableHlo.TRef.nullary (.of main_call1_call0_c_0 : StableHlo.TRef sig ⟨S_, .i64⟩) (constantI S_ 64 1#64)
  :: StableHlo.TRef.unary (.of main_call1_call0_c_0 : StableHlo.TRef sig ⟨S_, .i64⟩) (.of main_call1_call0_v11 : StableHlo.TRef sig ⟨S32x1000000, .i64⟩) (broadcastInDim S32x1000000 ![] bcast_S_S32x1000000)
  :: StableHlo.TRef.binary (.of main_call1_call0_v11 : StableHlo.TRef sig ⟨S32x1000000, .i64⟩) (.of main_call1_call0_v8 : StableHlo.TRef sig ⟨S32x1000000, .i64⟩) (.of main_call1_call0_v12 : StableHlo.TRef sig ⟨S32x1000000, .i64⟩) muli
  :: StableHlo.TRef.binary (.of main_call1_call0_v10 : StableHlo.TRef sig ⟨S32x1000000, .i64⟩) (.of main_call1_call0_v12 : StableHlo.TRef sig ⟨S32x1000000, .i64⟩) (.of main_call1_call0_v13 : StableHlo.TRef sig ⟨S32x1000000, .i64⟩) addi
  :: StableHlo.TRef.nullary (.of main_call1_call0_c_1 : StableHlo.TRef sig ⟨S_, .i64⟩) (constantI S_ 64 32#64)
  :: StableHlo.TRef.unary (.of main_call1_call0_c_1 : StableHlo.TRef sig ⟨S_, .i64⟩) (.of main_call1_call0_v14 : StableHlo.TRef sig ⟨S32x1000000, .i64⟩) (broadcastInDim S32x1000000 ![] bcast_S_S32x1000000)
  :: StableHlo.TRef.binary (.of main_call1_call0_v13 : StableHlo.TRef sig ⟨S32x1000000, .i64⟩) (.of main_call1_call0_v14 : StableHlo.TRef sig ⟨S32x1000000, .i64⟩) (.of main_call1_call0_v15 : StableHlo.TRef sig ⟨S32x1000000, .i64⟩) Host.shrui
  :: StableHlo.TRef.unary (.of main_call1_call0_v13 : StableHlo.TRef sig ⟨S32x1000000, .i64⟩) (.of main_call1_call0_v16 : StableHlo.TRef sig ⟨S32x1000000, .i32⟩) (trunci 32 · natLt_32_64)
  :: StableHlo.TRef.unary (.of main_call1_call0_v15 : StableHlo.TRef sig ⟨S32x1000000, .i64⟩) (.of main_call1_call0_v17 : StableHlo.TRef sig ⟨S32x1000000, .i32⟩) (trunci 32 · natLt_32_64)
  :: StableHlo.TRef.binary (.of main_call1_call0_v4 : StableHlo.TRef sig ⟨S_, .i32⟩) (.of main_call1_call0_v6 : StableHlo.TRef sig ⟨S_, .i32⟩) (.of main_call1_call0_call0_v0 : StableHlo.TRef sig ⟨S_, .i32⟩) xori
  :: StableHlo.TRef.nullary (.of main_call1_call0_call0_c : StableHlo.TRef sig ⟨S_, .i32⟩) (constantI S_ 32 466688986#32)
  :: StableHlo.TRef.binary (.of main_call1_call0_call0_v0 : StableHlo.TRef sig ⟨S_, .i32⟩) (.of main_call1_call0_call0_c : StableHlo.TRef sig ⟨S_, .i32⟩) (.of main_call1_call0_call0_v1 : StableHlo.TRef sig ⟨S_, .i32⟩) xori
  :: StableHlo.TRef.unary (.of main_call1_call0_v4 : StableHlo.TRef sig ⟨S_, .i32⟩) (.of main_call1_call0_call0_v2 : StableHlo.TRef sig ⟨S32x1000000, .i32⟩) (broadcastInDim S32x1000000 ![] bcast_S_S32x1000000)
  :: StableHlo.TRef.binary (.of main_call1_call0_v17 : StableHlo.TRef sig ⟨S32x1000000, .i32⟩) (.of main_call1_call0_call0_v2 : StableHlo.TRef sig ⟨S32x1000000, .i32⟩) (.of main_call1_call0_call0_v3 : StableHlo.TRef sig ⟨S32x1000000, .i32⟩) addi
  :: StableHlo.TRef.unary (.of main_call1_call0_v6 : StableHlo.TRef sig ⟨S_, .i32⟩) (.of main_call1_call0_call0_v4 : StableHlo.TRef sig ⟨S32x1000000, .i32⟩) (broadcastInDim S32x1000000 ![] bcast_S_S32x1000000)
  :: StableHlo.TRef.binary (.of main_call1_call0_v16 : StableHlo.TRef sig ⟨S32x1000000, .i32⟩) (.of main_call1_call0_call0_v4 : StableHlo.TRef sig ⟨S32x1000000, .i32⟩) (.of main_call1_call0_call0_v5 : StableHlo.TRef sig ⟨S32x1000000, .i32⟩) addi
  :: StableHlo.TRef.binary (.of main_call1_call0_call0_v3 : StableHlo.TRef sig ⟨S32x1000000, .i32⟩) (.of main_call1_call0_call0_v5 : StableHlo.TRef sig ⟨S32x1000000, .i32⟩) (.of main_call1_call0_call0_v6 : StableHlo.TRef sig ⟨S32x1000000, .i32⟩) addi
  :: StableHlo.TRef.nullary (.of main_call1_call0_call0_c_0 : StableHlo.TRef sig ⟨S_, .i32⟩) (constantI S_ 32 13#32)
  :: StableHlo.TRef.unary (.of main_call1_call0_call0_c_0 : StableHlo.TRef sig ⟨S_, .i32⟩) (.of main_call1_call0_call0_v7 : StableHlo.TRef sig ⟨S32x1000000, .i32⟩) (broadcastInDim S32x1000000 ![] bcast_S_S32x1000000)
  :: StableHlo.TRef.binary (.of main_call1_call0_call0_v5 : StableHlo.TRef sig ⟨S32x1000000, .i32⟩) (.of main_call1_call0_call0_v7 : StableHlo.TRef sig ⟨S32x1000000, .i32⟩) (.of main_call1_call0_call0_v8 : StableHlo.TRef sig ⟨S32x1000000, .i32⟩) Host.shli
  :: StableHlo.TRef.nullary (.of main_call1_call0_call0_c_1 : StableHlo.TRef sig ⟨S_, .i32⟩) (constantI S_ 32 19#32)
  :: StableHlo.TRef.unary (.of main_call1_call0_call0_c_1 : StableHlo.TRef sig ⟨S_, .i32⟩) (.of main_call1_call0_call0_v9 : StableHlo.TRef sig ⟨S32x1000000, .i32⟩) (broadcastInDim S32x1000000 ![] bcast_S_S32x1000000)
  :: StableHlo.TRef.binary (.of main_call1_call0_call0_v5 : StableHlo.TRef sig ⟨S32x1000000, .i32⟩) (.of main_call1_call0_call0_v9 : StableHlo.TRef sig ⟨S32x1000000, .i32⟩) (.of main_call1_call0_call0_v10 : StableHlo.TRef sig ⟨S32x1000000, .i32⟩) Host.shrui
  :: StableHlo.TRef.binary (.of main_call1_call0_call0_v8 : StableHlo.TRef sig ⟨S32x1000000, .i32⟩) (.of main_call1_call0_call0_v10 : StableHlo.TRef sig ⟨S32x1000000, .i32⟩) (.of main_call1_call0_call0_v11 : StableHlo.TRef sig ⟨S32x1000000, .i32⟩) ori
  :: StableHlo.TRef.binary (.of main_call1_call0_call0_v6 : StableHlo.TRef sig ⟨S32x1000000, .i32⟩) (.of main_call1_call0_call0_v11 : StableHlo.TRef sig ⟨S32x1000000, .i32⟩) (.of main_call1_call0_call0_v12 : StableHlo.TRef sig ⟨S32x1000000, .i32⟩) xori
  :: StableHlo.TRef.binary (.of main_call1_call0_call0_v6 : StableHlo.TRef sig ⟨S32x1000000, .i32⟩) (.of main_call1_call0_call0_v12 : StableHlo.TRef sig ⟨S32x1000000, .i32⟩) (.of main_call1_call0_call0_v13 : StableHlo.TRef sig ⟨S32x1000000, .i32⟩) addi
  :: StableHlo.TRef.nullary (.of main_call1_call0_call0_c_2 : StableHlo.TRef sig ⟨S_, .i32⟩) (constantI S_ 32 15#32)
  :: StableHlo.TRef.unary (.of main_call1_call0_call0_c_2 : StableHlo.TRef sig ⟨S_, .i32⟩) (.of main_call1_call0_call0_v14 : StableHlo.TRef sig ⟨S32x1000000, .i32⟩) (broadcastInDim S32x1000000 ![] bcast_S_S32x1000000)
  :: StableHlo.TRef.binary (.of main_call1_call0_call0_v12 : StableHlo.TRef sig ⟨S32x1000000, .i32⟩) (.of main_call1_call0_call0_v14 : StableHlo.TRef sig ⟨S32x1000000, .i32⟩) (.of main_call1_call0_call0_v15 : StableHlo.TRef sig ⟨S32x1000000, .i32⟩) Host.shli
  :: StableHlo.TRef.nullary (.of main_call1_call0_call0_c_3 : StableHlo.TRef sig ⟨S_, .i32⟩) (constantI S_ 32 17#32)
  :: StableHlo.TRef.unary (.of main_call1_call0_call0_c_3 : StableHlo.TRef sig ⟨S_, .i32⟩) (.of main_call1_call0_call0_v16 : StableHlo.TRef sig ⟨S32x1000000, .i32⟩) (broadcastInDim S32x1000000 ![] bcast_S_S32x1000000)
  :: StableHlo.TRef.binary (.of main_call1_call0_call0_v12 : StableHlo.TRef sig ⟨S32x1000000, .i32⟩) (.of main_call1_call0_call0_v16 : StableHlo.TRef sig ⟨S32x1000000, .i32⟩) (.of main_call1_call0_call0_v17 : StableHlo.TRef sig ⟨S32x1000000, .i32⟩) Host.shrui
  :: StableHlo.TRef.binary (.of main_call1_call0_call0_v15 : StableHlo.TRef sig ⟨S32x1000000, .i32⟩) (.of main_call1_call0_call0_v17 : StableHlo.TRef sig ⟨S32x1000000, .i32⟩) (.of main_call1_call0_call0_v18 : StableHlo.TRef sig ⟨S32x1000000, .i32⟩) ori
  :: StableHlo.TRef.binary (.of main_call1_call0_call0_v13 : StableHlo.TRef sig ⟨S32x1000000, .i32⟩) (.of main_call1_call0_call0_v18 : StableHlo.TRef sig ⟨S32x1000000, .i32⟩) (.of main_call1_call0_call0_v19 : StableHlo.TRef sig ⟨S32x1000000, .i32⟩) xori
  :: StableHlo.TRef.binary (.of main_call1_call0_call0_v13 : StableHlo.TRef sig ⟨S32x1000000, .i32⟩) (.of main_call1_call0_call0_v19 : StableHlo.TRef sig ⟨S32x1000000, .i32⟩) (.of main_call1_call0_call0_v20 : StableHlo.TRef sig ⟨S32x1000000, .i32⟩) addi
  :: StableHlo.TRef.nullary (.of main_call1_call0_call0_c_4 : StableHlo.TRef sig ⟨S_, .i32⟩) (constantI S_ 32 26#32)
  :: StableHlo.TRef.unary (.of main_call1_call0_call0_c_4 : StableHlo.TRef sig ⟨S_, .i32⟩) (.of main_call1_call0_call0_v21 : StableHlo.TRef sig ⟨S32x1000000, .i32⟩) (broadcastInDim S32x1000000 ![] bcast_S_S32x1000000)
  :: StableHlo.TRef.binary (.of main_call1_call0_call0_v19 : StableHlo.TRef sig ⟨S32x1000000, .i32⟩) (.of main_call1_call0_call0_v21 : StableHlo.TRef sig ⟨S32x1000000, .i32⟩) (.of main_call1_call0_call0_v22 : StableHlo.TRef sig ⟨S32x1000000, .i32⟩) Host.shli
  :: StableHlo.TRef.nullary (.of main_call1_call0_call0_c_5 : StableHlo.TRef sig ⟨S_, .i32⟩) (constantI S_ 32 6#32)
  :: StableHlo.TRef.unary (.of main_call1_call0_call0_c_5 : StableHlo.TRef sig ⟨S_, .i32⟩) (.of main_call1_call0_call0_v23 : StableHlo.TRef sig ⟨S32x1000000, .i32⟩) (broadcastInDim S32x1000000 ![] bcast_S_S32x1000000)
  :: StableHlo.TRef.binary (.of main_call1_call0_call0_v19 : StableHlo.TRef sig ⟨S32x1000000, .i32⟩) (.of main_call1_call0_call0_v23 : StableHlo.TRef sig ⟨S32x1000000, .i32⟩) (.of main_call1_call0_call0_v24 : StableHlo.TRef sig ⟨S32x1000000, .i32⟩) Host.shrui
  :: StableHlo.TRef.binary (.of main_call1_call0_call0_v22 : StableHlo.TRef sig ⟨S32x1000000, .i32⟩) (.of main_call1_call0_call0_v24 : StableHlo.TRef sig ⟨S32x1000000, .i32⟩) (.of main_call1_call0_call0_v25 : StableHlo.TRef sig ⟨S32x1000000, .i32⟩) ori
  :: StableHlo.TRef.binary (.of main_call1_call0_call0_v20 : StableHlo.TRef sig ⟨S32x1000000, .i32⟩) (.of main_call1_call0_call0_v25 : StableHlo.TRef sig ⟨S32x1000000, .i32⟩) (.of main_call1_call0_call0_v26 : StableHlo.TRef sig ⟨S32x1000000, .i32⟩) xori
  :: StableHlo.TRef.binary (.of main_call1_call0_call0_v20 : StableHlo.TRef sig ⟨S32x1000000, .i32⟩) (.of main_call1_call0_call0_v26 : StableHlo.TRef sig ⟨S32x1000000, .i32⟩) (.of main_call1_call0_call0_v27 : StableHlo.TRef sig ⟨S32x1000000, .i32⟩) addi
  :: StableHlo.TRef.nullary (.of main_call1_call0_call0_c_6 : StableHlo.TRef sig ⟨S_, .i32⟩) (constantI S_ 32 6#32)
  :: StableHlo.TRef.unary (.of main_call1_call0_call0_c_6 : StableHlo.TRef sig ⟨S_, .i32⟩) (.of main_call1_call0_call0_v28 : StableHlo.TRef sig ⟨S32x1000000, .i32⟩) (broadcastInDim S32x1000000 ![] bcast_S_S32x1000000)
  :: StableHlo.TRef.binary (.of main_call1_call0_call0_v26 : StableHlo.TRef sig ⟨S32x1000000, .i32⟩) (.of main_call1_call0_call0_v28 : StableHlo.TRef sig ⟨S32x1000000, .i32⟩) (.of main_call1_call0_call0_v29 : StableHlo.TRef sig ⟨S32x1000000, .i32⟩) Host.shli
  :: StableHlo.TRef.nullary (.of main_call1_call0_call0_c_7 : StableHlo.TRef sig ⟨S_, .i32⟩) (constantI S_ 32 26#32)
  :: StableHlo.TRef.unary (.of main_call1_call0_call0_c_7 : StableHlo.TRef sig ⟨S_, .i32⟩) (.of main_call1_call0_call0_v30 : StableHlo.TRef sig ⟨S32x1000000, .i32⟩) (broadcastInDim S32x1000000 ![] bcast_S_S32x1000000)
  :: StableHlo.TRef.binary (.of main_call1_call0_call0_v26 : StableHlo.TRef sig ⟨S32x1000000, .i32⟩) (.of main_call1_call0_call0_v30 : StableHlo.TRef sig ⟨S32x1000000, .i32⟩) (.of main_call1_call0_call0_v31 : StableHlo.TRef sig ⟨S32x1000000, .i32⟩) Host.shrui
  :: StableHlo.TRef.binary (.of main_call1_call0_call0_v29 : StableHlo.TRef sig ⟨S32x1000000, .i32⟩) (.of main_call1_call0_call0_v31 : StableHlo.TRef sig ⟨S32x1000000, .i32⟩) (.of main_call1_call0_call0_v32 : StableHlo.TRef sig ⟨S32x1000000, .i32⟩) ori
  :: StableHlo.TRef.binary (.of main_call1_call0_call0_v27 : StableHlo.TRef sig ⟨S32x1000000, .i32⟩) (.of main_call1_call0_call0_v32 : StableHlo.TRef sig ⟨S32x1000000, .i32⟩) (.of main_call1_call0_call0_v33 : StableHlo.TRef sig ⟨S32x1000000, .i32⟩) xori
  :: StableHlo.TRef.unary (.of main_call1_call0_v6 : StableHlo.TRef sig ⟨S_, .i32⟩) (.of main_call1_call0_call0_v34 : StableHlo.TRef sig ⟨S32x1000000, .i32⟩) (broadcastInDim S32x1000000 ![] bcast_S_S32x1000000)
  :: StableHlo.TRef.binary (.of main_call1_call0_call0_v27 : StableHlo.TRef sig ⟨S32x1000000, .i32⟩) (.of main_call1_call0_call0_v34 : StableHlo.TRef sig ⟨S32x1000000, .i32⟩) (.of main_call1_call0_call0_v35 : StableHlo.TRef sig ⟨S32x1000000, .i32⟩) addi
  :: StableHlo.TRef.unary (.of main_call1_call0_call0_v1 : StableHlo.TRef sig ⟨S_, .i32⟩) (.of main_call1_call0_call0_v36 : StableHlo.TRef sig ⟨S32x1000000, .i32⟩) (broadcastInDim S32x1000000 ![] bcast_S_S32x1000000)
  :: StableHlo.TRef.binary (.of main_call1_call0_call0_v33 : StableHlo.TRef sig ⟨S32x1000000, .i32⟩) (.of main_call1_call0_call0_v36 : StableHlo.TRef sig ⟨S32x1000000, .i32⟩) (.of main_call1_call0_call0_v37 : StableHlo.TRef sig ⟨S32x1000000, .i32⟩) addi
  :: StableHlo.TRef.nullary (.of main_call1_call0_call0_c_8 : StableHlo.TRef sig ⟨S_, .i32⟩) (constantI S_ 32 1#32)
  :: StableHlo.TRef.unary (.of main_call1_call0_call0_c_8 : StableHlo.TRef sig ⟨S_, .i32⟩) (.of main_call1_call0_call0_v38 : StableHlo.TRef sig ⟨S32x1000000, .i32⟩) (broadcastInDim S32x1000000 ![] bcast_S_S32x1000000)
  :: StableHlo.TRef.binary (.of main_call1_call0_call0_v37 : StableHlo.TRef sig ⟨S32x1000000, .i32⟩) (.of main_call1_call0_call0_v38 : StableHlo.TRef sig ⟨S32x1000000, .i32⟩) (.of main_call1_call0_call0_v39 : StableHlo.TRef sig ⟨S32x1000000, .i32⟩) addi
  :: StableHlo.TRef.binary (.of main_call1_call0_call0_v35 : StableHlo.TRef sig ⟨S32x1000000, .i32⟩) (.of main_call1_call0_call0_v39 : StableHlo.TRef sig ⟨S32x1000000, .i32⟩) (.of main_call1_call0_call0_v40 : StableHlo.TRef sig ⟨S32x1000000, .i32⟩) addi
  :: StableHlo.TRef.nullary (.of main_call1_call0_call0_c_9 : StableHlo.TRef sig ⟨S_, .i32⟩) (constantI S_ 32 17#32)
  :: StableHlo.TRef.unary (.of main_call1_call0_call0_c_9 : StableHlo.TRef sig ⟨S_, .i32⟩) (.of main_call1_call0_call0_v41 : StableHlo.TRef sig ⟨S32x1000000, .i32⟩) (broadcastInDim S32x1000000 ![] bcast_S_S32x1000000)
  :: StableHlo.TRef.binary (.of main_call1_call0_call0_v39 : StableHlo.TRef sig ⟨S32x1000000, .i32⟩) (.of main_call1_call0_call0_v41 : StableHlo.TRef sig ⟨S32x1000000, .i32⟩) (.of main_call1_call0_call0_v42 : StableHlo.TRef sig ⟨S32x1000000, .i32⟩) Host.shli
  :: StableHlo.TRef.nullary (.of main_call1_call0_call0_c_10 : StableHlo.TRef sig ⟨S_, .i32⟩) (constantI S_ 32 15#32)
  :: StableHlo.TRef.unary (.of main_call1_call0_call0_c_10 : StableHlo.TRef sig ⟨S_, .i32⟩) (.of main_call1_call0_call0_v43 : StableHlo.TRef sig ⟨S32x1000000, .i32⟩) (broadcastInDim S32x1000000 ![] bcast_S_S32x1000000)
  :: StableHlo.TRef.binary (.of main_call1_call0_call0_v39 : StableHlo.TRef sig ⟨S32x1000000, .i32⟩) (.of main_call1_call0_call0_v43 : StableHlo.TRef sig ⟨S32x1000000, .i32⟩) (.of main_call1_call0_call0_v44 : StableHlo.TRef sig ⟨S32x1000000, .i32⟩) Host.shrui
  :: StableHlo.TRef.binary (.of main_call1_call0_call0_v42 : StableHlo.TRef sig ⟨S32x1000000, .i32⟩) (.of main_call1_call0_call0_v44 : StableHlo.TRef sig ⟨S32x1000000, .i32⟩) (.of main_call1_call0_call0_v45 : StableHlo.TRef sig ⟨S32x1000000, .i32⟩) ori
  :: StableHlo.TRef.binary (.of main_call1_call0_call0_v40 : StableHlo.TRef sig ⟨S32x1000000, .i32⟩) (.of main_call1_call0_call0_v45 : StableHlo.TRef sig ⟨S32x1000000, .i32⟩) (.of main_call1_call0_call0_v46 : StableHlo.TRef sig ⟨S32x1000000, .i32⟩) xori
  :: StableHlo.TRef.binary (.of main_call1_call0_call0_v40 : StableHlo.TRef sig ⟨S32x1000000, .i32⟩) (.of main_call1_call0_call0_v46 : StableHlo.TRef sig ⟨S32x1000000, .i32⟩) (.of main_call1_call0_call0_v47 : StableHlo.TRef sig ⟨S32x1000000, .i32⟩) addi
  :: StableHlo.TRef.nullary (.of main_call1_call0_call0_c_11 : StableHlo.TRef sig ⟨S_, .i32⟩) (constantI S_ 32 29#32)
  :: StableHlo.TRef.unary (.of main_call1_call0_call0_c_11 : StableHlo.TRef sig ⟨S_, .i32⟩) (.of main_call1_call0_call0_v48 : StableHlo.TRef sig ⟨S32x1000000, .i32⟩) (broadcastInDim S32x1000000 ![] bcast_S_S32x1000000)
  :: StableHlo.TRef.binary (.of main_call1_call0_call0_v46 : StableHlo.TRef sig ⟨S32x1000000, .i32⟩) (.of main_call1_call0_call0_v48 : StableHlo.TRef sig ⟨S32x1000000, .i32⟩) (.of main_call1_call0_call0_v49 : StableHlo.TRef sig ⟨S32x1000000, .i32⟩) Host.shli
  :: StableHlo.TRef.nullary (.of main_call1_call0_call0_c_12 : StableHlo.TRef sig ⟨S_, .i32⟩) (constantI S_ 32 3#32)
  :: StableHlo.TRef.unary (.of main_call1_call0_call0_c_12 : StableHlo.TRef sig ⟨S_, .i32⟩) (.of main_call1_call0_call0_v50 : StableHlo.TRef sig ⟨S32x1000000, .i32⟩) (broadcastInDim S32x1000000 ![] bcast_S_S32x1000000)
  :: StableHlo.TRef.binary (.of main_call1_call0_call0_v46 : StableHlo.TRef sig ⟨S32x1000000, .i32⟩) (.of main_call1_call0_call0_v50 : StableHlo.TRef sig ⟨S32x1000000, .i32⟩) (.of main_call1_call0_call0_v51 : StableHlo.TRef sig ⟨S32x1000000, .i32⟩) Host.shrui
  :: StableHlo.TRef.binary (.of main_call1_call0_call0_v49 : StableHlo.TRef sig ⟨S32x1000000, .i32⟩) (.of main_call1_call0_call0_v51 : StableHlo.TRef sig ⟨S32x1000000, .i32⟩) (.of main_call1_call0_call0_v52 : StableHlo.TRef sig ⟨S32x1000000, .i32⟩) ori
  :: StableHlo.TRef.binary (.of main_call1_call0_call0_v47 : StableHlo.TRef sig ⟨S32x1000000, .i32⟩) (.of main_call1_call0_call0_v52 : StableHlo.TRef sig ⟨S32x1000000, .i32⟩) (.of main_call1_call0_call0_v53 : StableHlo.TRef sig ⟨S32x1000000, .i32⟩) xori
  :: StableHlo.TRef.binary (.of main_call1_call0_call0_v47 : StableHlo.TRef sig ⟨S32x1000000, .i32⟩) (.of main_call1_call0_call0_v53 : StableHlo.TRef sig ⟨S32x1000000, .i32⟩) (.of main_call1_call0_call0_v54 : StableHlo.TRef sig ⟨S32x1000000, .i32⟩) addi
  :: StableHlo.TRef.nullary (.of main_call1_call0_call0_c_13 : StableHlo.TRef sig ⟨S_, .i32⟩) (constantI S_ 32 16#32)
  :: StableHlo.TRef.unary (.of main_call1_call0_call0_c_13 : StableHlo.TRef sig ⟨S_, .i32⟩) (.of main_call1_call0_call0_v55 : StableHlo.TRef sig ⟨S32x1000000, .i32⟩) (broadcastInDim S32x1000000 ![] bcast_S_S32x1000000)
  :: StableHlo.TRef.binary (.of main_call1_call0_call0_v53 : StableHlo.TRef sig ⟨S32x1000000, .i32⟩) (.of main_call1_call0_call0_v55 : StableHlo.TRef sig ⟨S32x1000000, .i32⟩) (.of main_call1_call0_call0_v56 : StableHlo.TRef sig ⟨S32x1000000, .i32⟩) Host.shli
  :: StableHlo.TRef.nullary (.of main_call1_call0_call0_c_14 : StableHlo.TRef sig ⟨S_, .i32⟩) (constantI S_ 32 16#32)
  :: StableHlo.TRef.unary (.of main_call1_call0_call0_c_14 : StableHlo.TRef sig ⟨S_, .i32⟩) (.of main_call1_call0_call0_v57 : StableHlo.TRef sig ⟨S32x1000000, .i32⟩) (broadcastInDim S32x1000000 ![] bcast_S_S32x1000000)
  :: StableHlo.TRef.binary (.of main_call1_call0_call0_v53 : StableHlo.TRef sig ⟨S32x1000000, .i32⟩) (.of main_call1_call0_call0_v57 : StableHlo.TRef sig ⟨S32x1000000, .i32⟩) (.of main_call1_call0_call0_v58 : StableHlo.TRef sig ⟨S32x1000000, .i32⟩) Host.shrui
  :: StableHlo.TRef.binary (.of main_call1_call0_call0_v56 : StableHlo.TRef sig ⟨S32x1000000, .i32⟩) (.of main_call1_call0_call0_v58 : StableHlo.TRef sig ⟨S32x1000000, .i32⟩) (.of main_call1_call0_call0_v59 : StableHlo.TRef sig ⟨S32x1000000, .i32⟩) ori
  :: StableHlo.TRef.binary (.of main_call1_call0_call0_v54 : StableHlo.TRef sig ⟨S32x1000000, .i32⟩) (.of main_call1_call0_call0_v59 : StableHlo.TRef sig ⟨S32x1000000, .i32⟩) (.of main_call1_call0_call0_v60 : StableHlo.TRef sig ⟨S32x1000000, .i32⟩) xori
  :: StableHlo.TRef.binary (.of main_call1_call0_call0_v54 : StableHlo.TRef sig ⟨S32x1000000, .i32⟩) (.of main_call1_call0_call0_v60 : StableHlo.TRef sig ⟨S32x1000000, .i32⟩) (.of main_call1_call0_call0_v61 : StableHlo.TRef sig ⟨S32x1000000, .i32⟩) addi
  :: StableHlo.TRef.nullary (.of main_call1_call0_call0_c_15 : StableHlo.TRef sig ⟨S_, .i32⟩) (constantI S_ 32 24#32)
  :: StableHlo.TRef.unary (.of main_call1_call0_call0_c_15 : StableHlo.TRef sig ⟨S_, .i32⟩) (.of main_call1_call0_call0_v62 : StableHlo.TRef sig ⟨S32x1000000, .i32⟩) (broadcastInDim S32x1000000 ![] bcast_S_S32x1000000)
  :: StableHlo.TRef.binary (.of main_call1_call0_call0_v60 : StableHlo.TRef sig ⟨S32x1000000, .i32⟩) (.of main_call1_call0_call0_v62 : StableHlo.TRef sig ⟨S32x1000000, .i32⟩) (.of main_call1_call0_call0_v63 : StableHlo.TRef sig ⟨S32x1000000, .i32⟩) Host.shli
  :: StableHlo.TRef.nullary (.of main_call1_call0_call0_c_16 : StableHlo.TRef sig ⟨S_, .i32⟩) (constantI S_ 32 8#32)
  :: StableHlo.TRef.unary (.of main_call1_call0_call0_c_16 : StableHlo.TRef sig ⟨S_, .i32⟩) (.of main_call1_call0_call0_v64 : StableHlo.TRef sig ⟨S32x1000000, .i32⟩) (broadcastInDim S32x1000000 ![] bcast_S_S32x1000000)
  :: StableHlo.TRef.binary (.of main_call1_call0_call0_v60 : StableHlo.TRef sig ⟨S32x1000000, .i32⟩) (.of main_call1_call0_call0_v64 : StableHlo.TRef sig ⟨S32x1000000, .i32⟩) (.of main_call1_call0_call0_v65 : StableHlo.TRef sig ⟨S32x1000000, .i32⟩) Host.shrui
  :: StableHlo.TRef.binary (.of main_call1_call0_call0_v63 : StableHlo.TRef sig ⟨S32x1000000, .i32⟩) (.of main_call1_call0_call0_v65 : StableHlo.TRef sig ⟨S32x1000000, .i32⟩) (.of main_call1_call0_call0_v66 : StableHlo.TRef sig ⟨S32x1000000, .i32⟩) ori
  :: StableHlo.TRef.binary (.of main_call1_call0_call0_v61 : StableHlo.TRef sig ⟨S32x1000000, .i32⟩) (.of main_call1_call0_call0_v66 : StableHlo.TRef sig ⟨S32x1000000, .i32⟩) (.of main_call1_call0_call0_v67 : StableHlo.TRef sig ⟨S32x1000000, .i32⟩) xori
  :: StableHlo.TRef.unary (.of main_call1_call0_call0_v1 : StableHlo.TRef sig ⟨S_, .i32⟩) (.of main_call1_call0_call0_v68 : StableHlo.TRef sig ⟨S32x1000000, .i32⟩) (broadcastInDim S32x1000000 ![] bcast_S_S32x1000000)
  :: StableHlo.TRef.binary (.of main_call1_call0_call0_v61 : StableHlo.TRef sig ⟨S32x1000000, .i32⟩) (.of main_call1_call0_call0_v68 : StableHlo.TRef sig ⟨S32x1000000, .i32⟩) (.of main_call1_call0_call0_v69 : StableHlo.TRef sig ⟨S32x1000000, .i32⟩) addi
  :: StableHlo.TRef.unary (.of main_call1_call0_v4 : StableHlo.TRef sig ⟨S_, .i32⟩) (.of main_call1_call0_call0_v70 : StableHlo.TRef sig ⟨S32x1000000, .i32⟩) (broadcastInDim S32x1000000 ![] bcast_S_S32x1000000)
  :: StableHlo.TRef.binary (.of main_call1_call0_call0_v67 : StableHlo.TRef sig ⟨S32x1000000, .i32⟩) (.of main_call1_call0_call0_v70 : StableHlo.TRef sig ⟨S32x1000000, .i32⟩) (.of main_call1_call0_call0_v71 : StableHlo.TRef sig ⟨S32x1000000, .i32⟩) addi
  :: StableHlo.TRef.nullary (.of main_call1_call0_call0_c_17 : StableHlo.TRef sig ⟨S_, .i32⟩) (constantI S_ 32 2#32)
  :: StableHlo.TRef.unary (.of main_call1_call0_call0_c_17 : StableHlo.TRef sig ⟨S_, .i32⟩) (.of main_call1_call0_call0_v72 : StableHlo.TRef sig ⟨S32x1000000, .i32⟩) (broadcastInDim S32x1000000 ![] bcast_S_S32x1000000)
  :: StableHlo.TRef.binary (.of main_call1_call0_call0_v71 : StableHlo.TRef sig ⟨S32x1000000, .i32⟩) (.of main_call1_call0_call0_v72 : StableHlo.TRef sig ⟨S32x1000000, .i32⟩) (.of main_call1_call0_call0_v73 : StableHlo.TRef sig ⟨S32x1000000, .i32⟩) addi
  :: StableHlo.TRef.binary (.of main_call1_call0_call0_v69 : StableHlo.TRef sig ⟨S32x1000000, .i32⟩) (.of main_call1_call0_call0_v73 : StableHlo.TRef sig ⟨S32x1000000, .i32⟩) (.of main_call1_call0_call0_v74 : StableHlo.TRef sig ⟨S32x1000000, .i32⟩) addi
  :: StableHlo.TRef.nullary (.of main_call1_call0_call0_c_18 : StableHlo.TRef sig ⟨S_, .i32⟩) (constantI S_ 32 13#32)
  :: StableHlo.TRef.unary (.of main_call1_call0_call0_c_18 : StableHlo.TRef sig ⟨S_, .i32⟩) (.of main_call1_call0_call0_v75 : StableHlo.TRef sig ⟨S32x1000000, .i32⟩) (broadcastInDim S32x1000000 ![] bcast_S_S32x1000000)
  :: StableHlo.TRef.binary (.of main_call1_call0_call0_v73 : StableHlo.TRef sig ⟨S32x1000000, .i32⟩) (.of main_call1_call0_call0_v75 : StableHlo.TRef sig ⟨S32x1000000, .i32⟩) (.of main_call1_call0_call0_v76 : StableHlo.TRef sig ⟨S32x1000000, .i32⟩) Host.shli
  :: StableHlo.TRef.nullary (.of main_call1_call0_call0_c_19 : StableHlo.TRef sig ⟨S_, .i32⟩) (constantI S_ 32 19#32)
  :: StableHlo.TRef.unary (.of main_call1_call0_call0_c_19 : StableHlo.TRef sig ⟨S_, .i32⟩) (.of main_call1_call0_call0_v77 : StableHlo.TRef sig ⟨S32x1000000, .i32⟩) (broadcastInDim S32x1000000 ![] bcast_S_S32x1000000)
  :: StableHlo.TRef.binary (.of main_call1_call0_call0_v73 : StableHlo.TRef sig ⟨S32x1000000, .i32⟩) (.of main_call1_call0_call0_v77 : StableHlo.TRef sig ⟨S32x1000000, .i32⟩) (.of main_call1_call0_call0_v78 : StableHlo.TRef sig ⟨S32x1000000, .i32⟩) Host.shrui
  :: StableHlo.TRef.binary (.of main_call1_call0_call0_v76 : StableHlo.TRef sig ⟨S32x1000000, .i32⟩) (.of main_call1_call0_call0_v78 : StableHlo.TRef sig ⟨S32x1000000, .i32⟩) (.of main_call1_call0_call0_v79 : StableHlo.TRef sig ⟨S32x1000000, .i32⟩) ori
  :: StableHlo.TRef.binary (.of main_call1_call0_call0_v74 : StableHlo.TRef sig ⟨S32x1000000, .i32⟩) (.of main_call1_call0_call0_v79 : StableHlo.TRef sig ⟨S32x1000000, .i32⟩) (.of main_call1_call0_call0_v80 : StableHlo.TRef sig ⟨S32x1000000, .i32⟩) xori
  :: StableHlo.TRef.binary (.of main_call1_call0_call0_v74 : StableHlo.TRef sig ⟨S32x1000000, .i32⟩) (.of main_call1_call0_call0_v80 : StableHlo.TRef sig ⟨S32x1000000, .i32⟩) (.of main_call1_call0_call0_v81 : StableHlo.TRef sig ⟨S32x1000000, .i32⟩) addi
  :: StableHlo.TRef.nullary (.of main_call1_call0_call0_c_20 : StableHlo.TRef sig ⟨S_, .i32⟩) (constantI S_ 32 15#32)
  :: StableHlo.TRef.unary (.of main_call1_call0_call0_c_20 : StableHlo.TRef sig ⟨S_, .i32⟩) (.of main_call1_call0_call0_v82 : StableHlo.TRef sig ⟨S32x1000000, .i32⟩) (broadcastInDim S32x1000000 ![] bcast_S_S32x1000000)
  :: StableHlo.TRef.binary (.of main_call1_call0_call0_v80 : StableHlo.TRef sig ⟨S32x1000000, .i32⟩) (.of main_call1_call0_call0_v82 : StableHlo.TRef sig ⟨S32x1000000, .i32⟩) (.of main_call1_call0_call0_v83 : StableHlo.TRef sig ⟨S32x1000000, .i32⟩) Host.shli
  :: StableHlo.TRef.nullary (.of main_call1_call0_call0_c_21 : StableHlo.TRef sig ⟨S_, .i32⟩) (constantI S_ 32 17#32)
  :: StableHlo.TRef.unary (.of main_call1_call0_call0_c_21 : StableHlo.TRef sig ⟨S_, .i32⟩) (.of main_call1_call0_call0_v84 : StableHlo.TRef sig ⟨S32x1000000, .i32⟩) (broadcastInDim S32x1000000 ![] bcast_S_S32x1000000)
  :: StableHlo.TRef.binary (.of main_call1_call0_call0_v80 : StableHlo.TRef sig ⟨S32x1000000, .i32⟩) (.of main_call1_call0_call0_v84 : StableHlo.TRef sig ⟨S32x1000000, .i32⟩) (.of main_call1_call0_call0_v85 : StableHlo.TRef sig ⟨S32x1000000, .i32⟩) Host.shrui
  :: StableHlo.TRef.binary (.of main_call1_call0_call0_v83 : StableHlo.TRef sig ⟨S32x1000000, .i32⟩) (.of main_call1_call0_call0_v85 : StableHlo.TRef sig ⟨S32x1000000, .i32⟩) (.of main_call1_call0_call0_v86 : StableHlo.TRef sig ⟨S32x1000000, .i32⟩) ori
  :: StableHlo.TRef.binary (.of main_call1_call0_call0_v81 : StableHlo.TRef sig ⟨S32x1000000, .i32⟩) (.of main_call1_call0_call0_v86 : StableHlo.TRef sig ⟨S32x1000000, .i32⟩) (.of main_call1_call0_call0_v87 : StableHlo.TRef sig ⟨S32x1000000, .i32⟩) xori
  :: StableHlo.TRef.binary (.of main_call1_call0_call0_v81 : StableHlo.TRef sig ⟨S32x1000000, .i32⟩) (.of main_call1_call0_call0_v87 : StableHlo.TRef sig ⟨S32x1000000, .i32⟩) (.of main_call1_call0_call0_v88 : StableHlo.TRef sig ⟨S32x1000000, .i32⟩) addi
  :: StableHlo.TRef.nullary (.of main_call1_call0_call0_c_22 : StableHlo.TRef sig ⟨S_, .i32⟩) (constantI S_ 32 26#32)
  :: StableHlo.TRef.unary (.of main_call1_call0_call0_c_22 : StableHlo.TRef sig ⟨S_, .i32⟩) (.of main_call1_call0_call0_v89 : StableHlo.TRef sig ⟨S32x1000000, .i32⟩) (broadcastInDim S32x1000000 ![] bcast_S_S32x1000000)
  :: StableHlo.TRef.binary (.of main_call1_call0_call0_v87 : StableHlo.TRef sig ⟨S32x1000000, .i32⟩) (.of main_call1_call0_call0_v89 : StableHlo.TRef sig ⟨S32x1000000, .i32⟩) (.of main_call1_call0_call0_v90 : StableHlo.TRef sig ⟨S32x1000000, .i32⟩) Host.shli
  :: StableHlo.TRef.nullary (.of main_call1_call0_call0_c_23 : StableHlo.TRef sig ⟨S_, .i32⟩) (constantI S_ 32 6#32)
  :: StableHlo.TRef.unary (.of main_call1_call0_call0_c_23 : StableHlo.TRef sig ⟨S_, .i32⟩) (.of main_call1_call0_call0_v91 : StableHlo.TRef sig ⟨S32x1000000, .i32⟩) (broadcastInDim S32x1000000 ![] bcast_S_S32x1000000)
  :: StableHlo.TRef.binary (.of main_call1_call0_call0_v87 : StableHlo.TRef sig ⟨S32x1000000, .i32⟩) (.of main_call1_call0_call0_v91 : StableHlo.TRef sig ⟨S32x1000000, .i32⟩) (.of main_call1_call0_call0_v92 : StableHlo.TRef sig ⟨S32x1000000, .i32⟩) Host.shrui
  :: StableHlo.TRef.binary (.of main_call1_call0_call0_v90 : StableHlo.TRef sig ⟨S32x1000000, .i32⟩) (.of main_call1_call0_call0_v92 : StableHlo.TRef sig ⟨S32x1000000, .i32⟩) (.of main_call1_call0_call0_v93 : StableHlo.TRef sig ⟨S32x1000000, .i32⟩) ori
  :: StableHlo.TRef.binary (.of main_call1_call0_call0_v88 : StableHlo.TRef sig ⟨S32x1000000, .i32⟩) (.of main_call1_call0_call0_v93 : StableHlo.TRef sig ⟨S32x1000000, .i32⟩) (.of main_call1_call0_call0_v94 : StableHlo.TRef sig ⟨S32x1000000, .i32⟩) xori
  :: StableHlo.TRef.binary (.of main_call1_call0_call0_v88 : StableHlo.TRef sig ⟨S32x1000000, .i32⟩) (.of main_call1_call0_call0_v94 : StableHlo.TRef sig ⟨S32x1000000, .i32⟩) (.of main_call1_call0_call0_v95 : StableHlo.TRef sig ⟨S32x1000000, .i32⟩) addi
  :: StableHlo.TRef.nullary (.of main_call1_call0_call0_c_24 : StableHlo.TRef sig ⟨S_, .i32⟩) (constantI S_ 32 6#32)
  :: StableHlo.TRef.unary (.of main_call1_call0_call0_c_24 : StableHlo.TRef sig ⟨S_, .i32⟩) (.of main_call1_call0_call0_v96 : StableHlo.TRef sig ⟨S32x1000000, .i32⟩) (broadcastInDim S32x1000000 ![] bcast_S_S32x1000000)
  :: StableHlo.TRef.binary (.of main_call1_call0_call0_v94 : StableHlo.TRef sig ⟨S32x1000000, .i32⟩) (.of main_call1_call0_call0_v96 : StableHlo.TRef sig ⟨S32x1000000, .i32⟩) (.of main_call1_call0_call0_v97 : StableHlo.TRef sig ⟨S32x1000000, .i32⟩) Host.shli
  :: StableHlo.TRef.nullary (.of main_call1_call0_call0_c_25 : StableHlo.TRef sig ⟨S_, .i32⟩) (constantI S_ 32 26#32)
  :: StableHlo.TRef.unary (.of main_call1_call0_call0_c_25 : StableHlo.TRef sig ⟨S_, .i32⟩) (.of main_call1_call0_call0_v98 : StableHlo.TRef sig ⟨S32x1000000, .i32⟩) (broadcastInDim S32x1000000 ![] bcast_S_S32x1000000)
  :: StableHlo.TRef.binary (.of main_call1_call0_call0_v94 : StableHlo.TRef sig ⟨S32x1000000, .i32⟩) (.of main_call1_call0_call0_v98 : StableHlo.TRef sig ⟨S32x1000000, .i32⟩) (.of main_call1_call0_call0_v99 : StableHlo.TRef sig ⟨S32x1000000, .i32⟩) Host.shrui
  :: StableHlo.TRef.binary (.of main_call1_call0_call0_v97 : StableHlo.TRef sig ⟨S32x1000000, .i32⟩) (.of main_call1_call0_call0_v99 : StableHlo.TRef sig ⟨S32x1000000, .i32⟩) (.of main_call1_call0_call0_v100 : StableHlo.TRef sig ⟨S32x1000000, .i32⟩) ori
  :: StableHlo.TRef.binary (.of main_call1_call0_call0_v95 : StableHlo.TRef sig ⟨S32x1000000, .i32⟩) (.of main_call1_call0_call0_v100 : StableHlo.TRef sig ⟨S32x1000000, .i32⟩) (.of main_call1_call0_call0_v101 : StableHlo.TRef sig ⟨S32x1000000, .i32⟩) xori
  :: StableHlo.TRef.unary (.of main_call1_call0_v4 : StableHlo.TRef sig ⟨S_, .i32⟩) (.of main_call1_call0_call0_v102 : StableHlo.TRef sig ⟨S32x1000000, .i32⟩) (broadcastInDim S32x1000000 ![] bcast_S_S32x1000000)
  :: StableHlo.TRef.binary (.of main_call1_call0_call0_v95 : StableHlo.TRef sig ⟨S32x1000000, .i32⟩) (.of main_call1_call0_call0_v102 : StableHlo.TRef sig ⟨S32x1000000, .i32⟩) (.of main_call1_call0_call0_v103 : StableHlo.TRef sig ⟨S32x1000000, .i32⟩) addi
  :: StableHlo.TRef.unary (.of main_call1_call0_v6 : StableHlo.TRef sig ⟨S_, .i32⟩) (.of main_call1_call0_call0_v104 : StableHlo.TRef sig ⟨S32x1000000, .i32⟩) (broadcastInDim S32x1000000 ![] bcast_S_S32x1000000)
  :: StableHlo.TRef.binary (.of main_call1_call0_call0_v101 : StableHlo.TRef sig ⟨S32x1000000, .i32⟩) (.of main_call1_call0_call0_v104 : StableHlo.TRef sig ⟨S32x1000000, .i32⟩) (.of main_call1_call0_call0_v105 : StableHlo.TRef sig ⟨S32x1000000, .i32⟩) addi
  :: StableHlo.TRef.nullary (.of main_call1_call0_call0_c_26 : StableHlo.TRef sig ⟨S_, .i32⟩) (constantI S_ 32 3#32)
  :: StableHlo.TRef.unary (.of main_call1_call0_call0_c_26 : StableHlo.TRef sig ⟨S_, .i32⟩) (.of main_call1_call0_call0_v106 : StableHlo.TRef sig ⟨S32x1000000, .i32⟩) (broadcastInDim S32x1000000 ![] bcast_S_S32x1000000)
  :: StableHlo.TRef.binary (.of main_call1_call0_call0_v105 : StableHlo.TRef sig ⟨S32x1000000, .i32⟩) (.of main_call1_call0_call0_v106 : StableHlo.TRef sig ⟨S32x1000000, .i32⟩) (.of main_call1_call0_call0_v107 : StableHlo.TRef sig ⟨S32x1000000, .i32⟩) addi
  :: StableHlo.TRef.binary (.of main_call1_call0_call0_v103 : StableHlo.TRef sig ⟨S32x1000000, .i32⟩) (.of main_call1_call0_call0_v107 : StableHlo.TRef sig ⟨S32x1000000, .i32⟩) (.of main_call1_call0_call0_v108 : StableHlo.TRef sig ⟨S32x1000000, .i32⟩) addi
  :: StableHlo.TRef.nullary (.of main_call1_call0_call0_c_27 : StableHlo.TRef sig ⟨S_, .i32⟩) (constantI S_ 32 17#32)
  :: StableHlo.TRef.unary (.of main_call1_call0_call0_c_27 : StableHlo.TRef sig ⟨S_, .i32⟩) (.of main_call1_call0_call0_v109 : StableHlo.TRef sig ⟨S32x1000000, .i32⟩) (broadcastInDim S32x1000000 ![] bcast_S_S32x1000000)
  :: StableHlo.TRef.binary (.of main_call1_call0_call0_v107 : StableHlo.TRef sig ⟨S32x1000000, .i32⟩) (.of main_call1_call0_call0_v109 : StableHlo.TRef sig ⟨S32x1000000, .i32⟩) (.of main_call1_call0_call0_v110 : StableHlo.TRef sig ⟨S32x1000000, .i32⟩) Host.shli
  :: StableHlo.TRef.nullary (.of main_call1_call0_call0_c_28 : StableHlo.TRef sig ⟨S_, .i32⟩) (constantI S_ 32 15#32)
  :: StableHlo.TRef.unary (.of main_call1_call0_call0_c_28 : StableHlo.TRef sig ⟨S_, .i32⟩) (.of main_call1_call0_call0_v111 : StableHlo.TRef sig ⟨S32x1000000, .i32⟩) (broadcastInDim S32x1000000 ![] bcast_S_S32x1000000)
  :: StableHlo.TRef.binary (.of main_call1_call0_call0_v107 : StableHlo.TRef sig ⟨S32x1000000, .i32⟩) (.of main_call1_call0_call0_v111 : StableHlo.TRef sig ⟨S32x1000000, .i32⟩) (.of main_call1_call0_call0_v112 : StableHlo.TRef sig ⟨S32x1000000, .i32⟩) Host.shrui
  :: StableHlo.TRef.binary (.of main_call1_call0_call0_v110 : StableHlo.TRef sig ⟨S32x1000000, .i32⟩) (.of main_call1_call0_call0_v112 : StableHlo.TRef sig ⟨S32x1000000, .i32⟩) (.of main_call1_call0_call0_v113 : StableHlo.TRef sig ⟨S32x1000000, .i32⟩) ori
  :: StableHlo.TRef.binary (.of main_call1_call0_call0_v108 : StableHlo.TRef sig ⟨S32x1000000, .i32⟩) (.of main_call1_call0_call0_v113 : StableHlo.TRef sig ⟨S32x1000000, .i32⟩) (.of main_call1_call0_call0_v114 : StableHlo.TRef sig ⟨S32x1000000, .i32⟩) xori
  :: StableHlo.TRef.binary (.of main_call1_call0_call0_v108 : StableHlo.TRef sig ⟨S32x1000000, .i32⟩) (.of main_call1_call0_call0_v114 : StableHlo.TRef sig ⟨S32x1000000, .i32⟩) (.of main_call1_call0_call0_v115 : StableHlo.TRef sig ⟨S32x1000000, .i32⟩) addi
  :: StableHlo.TRef.nullary (.of main_call1_call0_call0_c_29 : StableHlo.TRef sig ⟨S_, .i32⟩) (constantI S_ 32 29#32)
  :: StableHlo.TRef.unary (.of main_call1_call0_call0_c_29 : StableHlo.TRef sig ⟨S_, .i32⟩) (.of main_call1_call0_call0_v116 : StableHlo.TRef sig ⟨S32x1000000, .i32⟩) (broadcastInDim S32x1000000 ![] bcast_S_S32x1000000)
  :: StableHlo.TRef.binary (.of main_call1_call0_call0_v114 : StableHlo.TRef sig ⟨S32x1000000, .i32⟩) (.of main_call1_call0_call0_v116 : StableHlo.TRef sig ⟨S32x1000000, .i32⟩) (.of main_call1_call0_call0_v117 : StableHlo.TRef sig ⟨S32x1000000, .i32⟩) Host.shli
  :: StableHlo.TRef.nullary (.of main_call1_call0_call0_c_30 : StableHlo.TRef sig ⟨S_, .i32⟩) (constantI S_ 32 3#32)
  :: StableHlo.TRef.unary (.of main_call1_call0_call0_c_30 : StableHlo.TRef sig ⟨S_, .i32⟩) (.of main_call1_call0_call0_v118 : StableHlo.TRef sig ⟨S32x1000000, .i32⟩) (broadcastInDim S32x1000000 ![] bcast_S_S32x1000000)
  :: StableHlo.TRef.binary (.of main_call1_call0_call0_v114 : StableHlo.TRef sig ⟨S32x1000000, .i32⟩) (.of main_call1_call0_call0_v118 : StableHlo.TRef sig ⟨S32x1000000, .i32⟩) (.of main_call1_call0_call0_v119 : StableHlo.TRef sig ⟨S32x1000000, .i32⟩) Host.shrui
  :: StableHlo.TRef.binary (.of main_call1_call0_call0_v117 : StableHlo.TRef sig ⟨S32x1000000, .i32⟩) (.of main_call1_call0_call0_v119 : StableHlo.TRef sig ⟨S32x1000000, .i32⟩) (.of main_call1_call0_call0_v120 : StableHlo.TRef sig ⟨S32x1000000, .i32⟩) ori
  :: StableHlo.TRef.binary (.of main_call1_call0_call0_v115 : StableHlo.TRef sig ⟨S32x1000000, .i32⟩) (.of main_call1_call0_call0_v120 : StableHlo.TRef sig ⟨S32x1000000, .i32⟩) (.of main_call1_call0_call0_v121 : StableHlo.TRef sig ⟨S32x1000000, .i32⟩) xori
  :: StableHlo.TRef.binary (.of main_call1_call0_call0_v115 : StableHlo.TRef sig ⟨S32x1000000, .i32⟩) (.of main_call1_call0_call0_v121 : StableHlo.TRef sig ⟨S32x1000000, .i32⟩) (.of main_call1_call0_call0_v122 : StableHlo.TRef sig ⟨S32x1000000, .i32⟩) addi
  :: StableHlo.TRef.nullary (.of main_call1_call0_call0_c_31 : StableHlo.TRef sig ⟨S_, .i32⟩) (constantI S_ 32 16#32)
  :: StableHlo.TRef.unary (.of main_call1_call0_call0_c_31 : StableHlo.TRef sig ⟨S_, .i32⟩) (.of main_call1_call0_call0_v123 : StableHlo.TRef sig ⟨S32x1000000, .i32⟩) (broadcastInDim S32x1000000 ![] bcast_S_S32x1000000)
  :: StableHlo.TRef.binary (.of main_call1_call0_call0_v121 : StableHlo.TRef sig ⟨S32x1000000, .i32⟩) (.of main_call1_call0_call0_v123 : StableHlo.TRef sig ⟨S32x1000000, .i32⟩) (.of main_call1_call0_call0_v124 : StableHlo.TRef sig ⟨S32x1000000, .i32⟩) Host.shli
  :: StableHlo.TRef.nullary (.of main_call1_call0_call0_c_32 : StableHlo.TRef sig ⟨S_, .i32⟩) (constantI S_ 32 16#32)
  :: StableHlo.TRef.unary (.of main_call1_call0_call0_c_32 : StableHlo.TRef sig ⟨S_, .i32⟩) (.of main_call1_call0_call0_v125 : StableHlo.TRef sig ⟨S32x1000000, .i32⟩) (broadcastInDim S32x1000000 ![] bcast_S_S32x1000000)
  :: StableHlo.TRef.binary (.of main_call1_call0_call0_v121 : StableHlo.TRef sig ⟨S32x1000000, .i32⟩) (.of main_call1_call0_call0_v125 : StableHlo.TRef sig ⟨S32x1000000, .i32⟩) (.of main_call1_call0_call0_v126 : StableHlo.TRef sig ⟨S32x1000000, .i32⟩) Host.shrui
  :: StableHlo.TRef.binary (.of main_call1_call0_call0_v124 : StableHlo.TRef sig ⟨S32x1000000, .i32⟩) (.of main_call1_call0_call0_v126 : StableHlo.TRef sig ⟨S32x1000000, .i32⟩) (.of main_call1_call0_call0_v127 : StableHlo.TRef sig ⟨S32x1000000, .i32⟩) ori
  :: StableHlo.TRef.binary (.of main_call1_call0_call0_v122 : StableHlo.TRef sig ⟨S32x1000000, .i32⟩) (.of main_call1_call0_call0_v127 : StableHlo.TRef sig ⟨S32x1000000, .i32⟩) (.of main_call1_call0_call0_v128 : StableHlo.TRef sig ⟨S32x1000000, .i32⟩) xori
  :: StableHlo.TRef.binary (.of main_call1_call0_call0_v122 : StableHlo.TRef sig ⟨S32x1000000, .i32⟩) (.of main_call1_call0_call0_v128 : StableHlo.TRef sig ⟨S32x1000000, .i32⟩) (.of main_call1_call0_call0_v129 : StableHlo.TRef sig ⟨S32x1000000, .i32⟩) addi
  :: StableHlo.TRef.nullary (.of main_call1_call0_call0_c_33 : StableHlo.TRef sig ⟨S_, .i32⟩) (constantI S_ 32 24#32)
  :: StableHlo.TRef.unary (.of main_call1_call0_call0_c_33 : StableHlo.TRef sig ⟨S_, .i32⟩) (.of main_call1_call0_call0_v130 : StableHlo.TRef sig ⟨S32x1000000, .i32⟩) (broadcastInDim S32x1000000 ![] bcast_S_S32x1000000)
  :: StableHlo.TRef.binary (.of main_call1_call0_call0_v128 : StableHlo.TRef sig ⟨S32x1000000, .i32⟩) (.of main_call1_call0_call0_v130 : StableHlo.TRef sig ⟨S32x1000000, .i32⟩) (.of main_call1_call0_call0_v131 : StableHlo.TRef sig ⟨S32x1000000, .i32⟩) Host.shli
  :: StableHlo.TRef.nullary (.of main_call1_call0_call0_c_34 : StableHlo.TRef sig ⟨S_, .i32⟩) (constantI S_ 32 8#32)
  :: StableHlo.TRef.unary (.of main_call1_call0_call0_c_34 : StableHlo.TRef sig ⟨S_, .i32⟩) (.of main_call1_call0_call0_v132 : StableHlo.TRef sig ⟨S32x1000000, .i32⟩) (broadcastInDim S32x1000000 ![] bcast_S_S32x1000000)
  :: StableHlo.TRef.binary (.of main_call1_call0_call0_v128 : StableHlo.TRef sig ⟨S32x1000000, .i32⟩) (.of main_call1_call0_call0_v132 : StableHlo.TRef sig ⟨S32x1000000, .i32⟩) (.of main_call1_call0_call0_v133 : StableHlo.TRef sig ⟨S32x1000000, .i32⟩) Host.shrui
  :: StableHlo.TRef.binary (.of main_call1_call0_call0_v131 : StableHlo.TRef sig ⟨S32x1000000, .i32⟩) (.of main_call1_call0_call0_v133 : StableHlo.TRef sig ⟨S32x1000000, .i32⟩) (.of main_call1_call0_call0_v134 : StableHlo.TRef sig ⟨S32x1000000, .i32⟩) ori
  :: StableHlo.TRef.binary (.of main_call1_call0_call0_v129 : StableHlo.TRef sig ⟨S32x1000000, .i32⟩) (.of main_call1_call0_call0_v134 : StableHlo.TRef sig ⟨S32x1000000, .i32⟩) (.of main_call1_call0_call0_v135 : StableHlo.TRef sig ⟨S32x1000000, .i32⟩) xori
  :: StableHlo.TRef.unary (.of main_call1_call0_v6 : StableHlo.TRef sig ⟨S_, .i32⟩) (.of main_call1_call0_call0_v136 : StableHlo.TRef sig ⟨S32x1000000, .i32⟩) (broadcastInDim S32x1000000 ![] bcast_S_S32x1000000)
  :: StableHlo.TRef.binary (.of main_call1_call0_call0_v129 : StableHlo.TRef sig ⟨S32x1000000, .i32⟩) (.of main_call1_call0_call0_v136 : StableHlo.TRef sig ⟨S32x1000000, .i32⟩) (.of main_call1_call0_call0_v137 : StableHlo.TRef sig ⟨S32x1000000, .i32⟩) addi
  :: StableHlo.TRef.unary (.of main_call1_call0_call0_v1 : StableHlo.TRef sig ⟨S_, .i32⟩) (.of main_call1_call0_call0_v138 : StableHlo.TRef sig ⟨S32x1000000, .i32⟩) (broadcastInDim S32x1000000 ![] bcast_S_S32x1000000)
  :: StableHlo.TRef.binary (.of main_call1_call0_call0_v135 : StableHlo.TRef sig ⟨S32x1000000, .i32⟩) (.of main_call1_call0_call0_v138 : StableHlo.TRef sig ⟨S32x1000000, .i32⟩) (.of main_call1_call0_call0_v139 : StableHlo.TRef sig ⟨S32x1000000, .i32⟩) addi
  :: StableHlo.TRef.nullary (.of main_call1_call0_call0_c_35 : StableHlo.TRef sig ⟨S_, .i32⟩) (constantI S_ 32 4#32)
  :: StableHlo.TRef.unary (.of main_call1_call0_call0_c_35 : StableHlo.TRef sig ⟨S_, .i32⟩) (.of main_call1_call0_call0_v140 : StableHlo.TRef sig ⟨S32x1000000, .i32⟩) (broadcastInDim S32x1000000 ![] bcast_S_S32x1000000)
  :: StableHlo.TRef.binary (.of main_call1_call0_call0_v139 : StableHlo.TRef sig ⟨S32x1000000, .i32⟩) (.of main_call1_call0_call0_v140 : StableHlo.TRef sig ⟨S32x1000000, .i32⟩) (.of main_call1_call0_call0_v141 : StableHlo.TRef sig ⟨S32x1000000, .i32⟩) addi
  :: StableHlo.TRef.binary (.of main_call1_call0_call0_v137 : StableHlo.TRef sig ⟨S32x1000000, .i32⟩) (.of main_call1_call0_call0_v141 : StableHlo.TRef sig ⟨S32x1000000, .i32⟩) (.of main_call1_call0_call0_v142 : StableHlo.TRef sig ⟨S32x1000000, .i32⟩) addi
  :: StableHlo.TRef.nullary (.of main_call1_call0_call0_c_36 : StableHlo.TRef sig ⟨S_, .i32⟩) (constantI S_ 32 13#32)
  :: StableHlo.TRef.unary (.of main_call1_call0_call0_c_36 : StableHlo.TRef sig ⟨S_, .i32⟩) (.of main_call1_call0_call0_v143 : StableHlo.TRef sig ⟨S32x1000000, .i32⟩) (broadcastInDim S32x1000000 ![] bcast_S_S32x1000000)
  :: StableHlo.TRef.binary (.of main_call1_call0_call0_v141 : StableHlo.TRef sig ⟨S32x1000000, .i32⟩) (.of main_call1_call0_call0_v143 : StableHlo.TRef sig ⟨S32x1000000, .i32⟩) (.of main_call1_call0_call0_v144 : StableHlo.TRef sig ⟨S32x1000000, .i32⟩) Host.shli
  :: StableHlo.TRef.nullary (.of main_call1_call0_call0_c_37 : StableHlo.TRef sig ⟨S_, .i32⟩) (constantI S_ 32 19#32)
  :: StableHlo.TRef.unary (.of main_call1_call0_call0_c_37 : StableHlo.TRef sig ⟨S_, .i32⟩) (.of main_call1_call0_call0_v145 : StableHlo.TRef sig ⟨S32x1000000, .i32⟩) (broadcastInDim S32x1000000 ![] bcast_S_S32x1000000)
  :: StableHlo.TRef.binary (.of main_call1_call0_call0_v141 : StableHlo.TRef sig ⟨S32x1000000, .i32⟩) (.of main_call1_call0_call0_v145 : StableHlo.TRef sig ⟨S32x1000000, .i32⟩) (.of main_call1_call0_call0_v146 : StableHlo.TRef sig ⟨S32x1000000, .i32⟩) Host.shrui
  :: StableHlo.TRef.binary (.of main_call1_call0_call0_v144 : StableHlo.TRef sig ⟨S32x1000000, .i32⟩) (.of main_call1_call0_call0_v146 : StableHlo.TRef sig ⟨S32x1000000, .i32⟩) (.of main_call1_call0_call0_v147 : StableHlo.TRef sig ⟨S32x1000000, .i32⟩) ori
  :: StableHlo.TRef.binary (.of main_call1_call0_call0_v142 : StableHlo.TRef sig ⟨S32x1000000, .i32⟩) (.of main_call1_call0_call0_v147 : StableHlo.TRef sig ⟨S32x1000000, .i32⟩) (.of main_call1_call0_call0_v148 : StableHlo.TRef sig ⟨S32x1000000, .i32⟩) xori
  :: StableHlo.TRef.binary (.of main_call1_call0_call0_v142 : StableHlo.TRef sig ⟨S32x1000000, .i32⟩) (.of main_call1_call0_call0_v148 : StableHlo.TRef sig ⟨S32x1000000, .i32⟩) (.of main_call1_call0_call0_v149 : StableHlo.TRef sig ⟨S32x1000000, .i32⟩) addi
  :: StableHlo.TRef.nullary (.of main_call1_call0_call0_c_38 : StableHlo.TRef sig ⟨S_, .i32⟩) (constantI S_ 32 15#32)
  :: StableHlo.TRef.unary (.of main_call1_call0_call0_c_38 : StableHlo.TRef sig ⟨S_, .i32⟩) (.of main_call1_call0_call0_v150 : StableHlo.TRef sig ⟨S32x1000000, .i32⟩) (broadcastInDim S32x1000000 ![] bcast_S_S32x1000000)
  :: StableHlo.TRef.binary (.of main_call1_call0_call0_v148 : StableHlo.TRef sig ⟨S32x1000000, .i32⟩) (.of main_call1_call0_call0_v150 : StableHlo.TRef sig ⟨S32x1000000, .i32⟩) (.of main_call1_call0_call0_v151 : StableHlo.TRef sig ⟨S32x1000000, .i32⟩) Host.shli
  :: StableHlo.TRef.nullary (.of main_call1_call0_call0_c_39 : StableHlo.TRef sig ⟨S_, .i32⟩) (constantI S_ 32 17#32)
  :: StableHlo.TRef.unary (.of main_call1_call0_call0_c_39 : StableHlo.TRef sig ⟨S_, .i32⟩) (.of main_call1_call0_call0_v152 : StableHlo.TRef sig ⟨S32x1000000, .i32⟩) (broadcastInDim S32x1000000 ![] bcast_S_S32x1000000)
  :: StableHlo.TRef.binary (.of main_call1_call0_call0_v148 : StableHlo.TRef sig ⟨S32x1000000, .i32⟩) (.of main_call1_call0_call0_v152 : StableHlo.TRef sig ⟨S32x1000000, .i32⟩) (.of main_call1_call0_call0_v153 : StableHlo.TRef sig ⟨S32x1000000, .i32⟩) Host.shrui
  :: StableHlo.TRef.binary (.of main_call1_call0_call0_v151 : StableHlo.TRef sig ⟨S32x1000000, .i32⟩) (.of main_call1_call0_call0_v153 : StableHlo.TRef sig ⟨S32x1000000, .i32⟩) (.of main_call1_call0_call0_v154 : StableHlo.TRef sig ⟨S32x1000000, .i32⟩) ori
  :: StableHlo.TRef.binary (.of main_call1_call0_call0_v149 : StableHlo.TRef sig ⟨S32x1000000, .i32⟩) (.of main_call1_call0_call0_v154 : StableHlo.TRef sig ⟨S32x1000000, .i32⟩) (.of main_call1_call0_call0_v155 : StableHlo.TRef sig ⟨S32x1000000, .i32⟩) xori
  :: StableHlo.TRef.binary (.of main_call1_call0_call0_v149 : StableHlo.TRef sig ⟨S32x1000000, .i32⟩) (.of main_call1_call0_call0_v155 : StableHlo.TRef sig ⟨S32x1000000, .i32⟩) (.of main_call1_call0_call0_v156 : StableHlo.TRef sig ⟨S32x1000000, .i32⟩) addi
  :: StableHlo.TRef.nullary (.of main_call1_call0_call0_c_40 : StableHlo.TRef sig ⟨S_, .i32⟩) (constantI S_ 32 26#32)
  :: StableHlo.TRef.unary (.of main_call1_call0_call0_c_40 : StableHlo.TRef sig ⟨S_, .i32⟩) (.of main_call1_call0_call0_v157 : StableHlo.TRef sig ⟨S32x1000000, .i32⟩) (broadcastInDim S32x1000000 ![] bcast_S_S32x1000000)
  :: StableHlo.TRef.binary (.of main_call1_call0_call0_v155 : StableHlo.TRef sig ⟨S32x1000000, .i32⟩) (.of main_call1_call0_call0_v157 : StableHlo.TRef sig ⟨S32x1000000, .i32⟩) (.of main_call1_call0_call0_v158 : StableHlo.TRef sig ⟨S32x1000000, .i32⟩) Host.shli
  :: StableHlo.TRef.nullary (.of main_call1_call0_call0_c_41 : StableHlo.TRef sig ⟨S_, .i32⟩) (constantI S_ 32 6#32)
  :: StableHlo.TRef.unary (.of main_call1_call0_call0_c_41 : StableHlo.TRef sig ⟨S_, .i32⟩) (.of main_call1_call0_call0_v159 : StableHlo.TRef sig ⟨S32x1000000, .i32⟩) (broadcastInDim S32x1000000 ![] bcast_S_S32x1000000)
  :: StableHlo.TRef.binary (.of main_call1_call0_call0_v155 : StableHlo.TRef sig ⟨S32x1000000, .i32⟩) (.of main_call1_call0_call0_v159 : StableHlo.TRef sig ⟨S32x1000000, .i32⟩) (.of main_call1_call0_call0_v160 : StableHlo.TRef sig ⟨S32x1000000, .i32⟩) Host.shrui
  :: StableHlo.TRef.binary (.of main_call1_call0_call0_v158 : StableHlo.TRef sig ⟨S32x1000000, .i32⟩) (.of main_call1_call0_call0_v160 : StableHlo.TRef sig ⟨S32x1000000, .i32⟩) (.of main_call1_call0_call0_v161 : StableHlo.TRef sig ⟨S32x1000000, .i32⟩) ori
  :: StableHlo.TRef.binary (.of main_call1_call0_call0_v156 : StableHlo.TRef sig ⟨S32x1000000, .i32⟩) (.of main_call1_call0_call0_v161 : StableHlo.TRef sig ⟨S32x1000000, .i32⟩) (.of main_call1_call0_call0_v162 : StableHlo.TRef sig ⟨S32x1000000, .i32⟩) xori
  :: StableHlo.TRef.binary (.of main_call1_call0_call0_v156 : StableHlo.TRef sig ⟨S32x1000000, .i32⟩) (.of main_call1_call0_call0_v162 : StableHlo.TRef sig ⟨S32x1000000, .i32⟩) (.of main_call1_call0_call0_v163 : StableHlo.TRef sig ⟨S32x1000000, .i32⟩) addi
  :: StableHlo.TRef.nullary (.of main_call1_call0_call0_c_42 : StableHlo.TRef sig ⟨S_, .i32⟩) (constantI S_ 32 6#32)
  :: StableHlo.TRef.unary (.of main_call1_call0_call0_c_42 : StableHlo.TRef sig ⟨S_, .i32⟩) (.of main_call1_call0_call0_v164 : StableHlo.TRef sig ⟨S32x1000000, .i32⟩) (broadcastInDim S32x1000000 ![] bcast_S_S32x1000000)
  :: StableHlo.TRef.binary (.of main_call1_call0_call0_v162 : StableHlo.TRef sig ⟨S32x1000000, .i32⟩) (.of main_call1_call0_call0_v164 : StableHlo.TRef sig ⟨S32x1000000, .i32⟩) (.of main_call1_call0_call0_v165 : StableHlo.TRef sig ⟨S32x1000000, .i32⟩) Host.shli
  :: StableHlo.TRef.nullary (.of main_call1_call0_call0_c_43 : StableHlo.TRef sig ⟨S_, .i32⟩) (constantI S_ 32 26#32)
  :: StableHlo.TRef.unary (.of main_call1_call0_call0_c_43 : StableHlo.TRef sig ⟨S_, .i32⟩) (.of main_call1_call0_call0_v166 : StableHlo.TRef sig ⟨S32x1000000, .i32⟩) (broadcastInDim S32x1000000 ![] bcast_S_S32x1000000)
  :: StableHlo.TRef.binary (.of main_call1_call0_call0_v162 : StableHlo.TRef sig ⟨S32x1000000, .i32⟩) (.of main_call1_call0_call0_v166 : StableHlo.TRef sig ⟨S32x1000000, .i32⟩) (.of main_call1_call0_call0_v167 : StableHlo.TRef sig ⟨S32x1000000, .i32⟩) Host.shrui
  :: StableHlo.TRef.binary (.of main_call1_call0_call0_v165 : StableHlo.TRef sig ⟨S32x1000000, .i32⟩) (.of main_call1_call0_call0_v167 : StableHlo.TRef sig ⟨S32x1000000, .i32⟩) (.of main_call1_call0_call0_v168 : StableHlo.TRef sig ⟨S32x1000000, .i32⟩) ori
  :: StableHlo.TRef.binary (.of main_call1_call0_call0_v163 : StableHlo.TRef sig ⟨S32x1000000, .i32⟩) (.of main_call1_call0_call0_v168 : StableHlo.TRef sig ⟨S32x1000000, .i32⟩) (.of main_call1_call0_call0_v169 : StableHlo.TRef sig ⟨S32x1000000, .i32⟩) xori
  :: StableHlo.TRef.unary (.of main_call1_call0_call0_v1 : StableHlo.TRef sig ⟨S_, .i32⟩) (.of main_call1_call0_call0_v170 : StableHlo.TRef sig ⟨S32x1000000, .i32⟩) (broadcastInDim S32x1000000 ![] bcast_S_S32x1000000)
  :: StableHlo.TRef.binary (.of main_call1_call0_call0_v163 : StableHlo.TRef sig ⟨S32x1000000, .i32⟩) (.of main_call1_call0_call0_v170 : StableHlo.TRef sig ⟨S32x1000000, .i32⟩) (.of main_call1_call0_v18_0 : StableHlo.TRef sig ⟨S32x1000000, .i32⟩) addi
  :: StableHlo.TRef.unary (.of main_call1_call0_v4 : StableHlo.TRef sig ⟨S_, .i32⟩) (.of main_call1_call0_call0_v172 : StableHlo.TRef sig ⟨S32x1000000, .i32⟩) (broadcastInDim S32x1000000 ![] bcast_S_S32x1000000)
  :: StableHlo.TRef.binary (.of main_call1_call0_call0_v169 : StableHlo.TRef sig ⟨S32x1000000, .i32⟩) (.of main_call1_call0_call0_v172 : StableHlo.TRef sig ⟨S32x1000000, .i32⟩) (.of main_call1_call0_call0_v173 : StableHlo.TRef sig ⟨S32x1000000, .i32⟩) addi
  :: StableHlo.TRef.nullary (.of main_call1_call0_call0_c_44 : StableHlo.TRef sig ⟨S_, .i32⟩) (constantI S_ 32 5#32)
  :: StableHlo.TRef.unary (.of main_call1_call0_call0_c_44 : StableHlo.TRef sig ⟨S_, .i32⟩) (.of main_call1_call0_call0_v174 : StableHlo.TRef sig ⟨S32x1000000, .i32⟩) (broadcastInDim S32x1000000 ![] bcast_S_S32x1000000)
  :: StableHlo.TRef.binary (.of main_call1_call0_call0_v173 : StableHlo.TRef sig ⟨S32x1000000, .i32⟩) (.of main_call1_call0_call0_v174 : StableHlo.TRef sig ⟨S32x1000000, .i32⟩) (.of main_call1_call0_v18_1 : StableHlo.TRef sig ⟨S32x1000000, .i32⟩) addi
  :: StableHlo.TRef.binary main_call1_call0_call0.v171 main_call1_call0_call0.v175 (.of main_call1_call0_v19 : StableHlo.TRef sig ⟨S32x1000000, .i32⟩) xori
  :: StableHlo.TRef.nullary (.of main_call1_call0_c_2 : StableHlo.TRef sig ⟨S_, .i32⟩) (constantI S_ 32 9#32)
  :: StableHlo.TRef.unary (.of main_call1_call0_c_2 : StableHlo.TRef sig ⟨S_, .i32⟩) (.of main_call1_call0_v20 : StableHlo.TRef sig ⟨S32x1000000, .i32⟩) (broadcastInDim S32x1000000 ![] bcast_S_S32x1000000)
  :: StableHlo.TRef.binary (.of main_call1_call0_v19 : StableHlo.TRef sig ⟨S32x1000000, .i32⟩) (.of main_call1_call0_v20 : StableHlo.TRef sig ⟨S32x1000000, .i32⟩) (.of main_call1_call0_v21 : StableHlo.TRef sig ⟨S32x1000000, .i32⟩) Host.shrui
  :: StableHlo.TRef.nullary (.of main_call1_call0_c_3 : StableHlo.TRef sig ⟨S_, .i32⟩) (constantI S_ 32 1065353216#32)
  :: StableHlo.TRef.unary (.of main_call1_call0_c_3 : StableHlo.TRef sig ⟨S_, .i32⟩) (.of main_call1_call0_v22 : StableHlo.TRef sig ⟨S32x1000000, .i32⟩) (broadcastInDim S32x1000000 ![] bcast_S_S32x1000000)
  :: StableHlo.TRef.binary (.of main_call1_call0_v21 : StableHlo.TRef sig ⟨S32x1000000, .i32⟩) (.of main_call1_call0_v22 : StableHlo.TRef sig ⟨S32x1000000, .i32⟩) (.of main_call1_call0_v23 : StableHlo.TRef sig ⟨S32x1000000, .i32⟩) ori
  :: StableHlo.TRef.unary (.of main_call1_call0_v23 : StableHlo.TRef sig ⟨S32x1000000, .i32⟩) (.of main_call1_call0_v24 : StableHlo.TRef sig ⟨S32x1000000, .f32⟩) (bitcastToFloat .f32)
  :: StableHlo.TRef.nullary (.of main_call1_call0_cst : StableHlo.TRef sig ⟨S_, .f32⟩) (constant S_ .f32 0x3F800000#32)
  :: StableHlo.TRef.unary (.of main_call1_call0_cst : StableHlo.TRef sig ⟨S_, .f32⟩) (.of main_call1_call0_v25 : StableHlo.TRef sig ⟨S32x1000000, .f32⟩) (broadcastInDim S32x1000000 ![] bcast_S_S32x1000000)
  :: StableHlo.TRef.binary (.of main_call1_call0_v24 : StableHlo.TRef sig ⟨S32x1000000, .f32⟩) (.of main_call1_call0_v25 : StableHlo.TRef sig ⟨S32x1000000, .f32⟩) (.of main_call1_call0_v26 : StableHlo.TRef sig ⟨S32x1000000, .f32⟩) subf
  :: StableHlo.TRef.binary (.of main_call1_call0_v2 : StableHlo.TRef sig ⟨S1x1, .f32⟩) (.of main_call1_call0_v1 : StableHlo.TRef sig ⟨S1x1, .f32⟩) (.of main_call1_call0_v27 : StableHlo.TRef sig ⟨S1x1, .f32⟩) subf
  :: StableHlo.TRef.unary (.of main_call1_call0_v27 : StableHlo.TRef sig ⟨S1x1, .f32⟩) (.of main_call1_call0_v28 : StableHlo.TRef sig ⟨S32x1000000, .f32⟩) (broadcastInDim S32x1000000 ![0, 1] bcast_S1x1_S32x1000000_0_1)
  :: StableHlo.TRef.binary (.of main_call1_call0_v26 : StableHlo.TRef sig ⟨S32x1000000, .f32⟩) (.of main_call1_call0_v28 : StableHlo.TRef sig ⟨S32x1000000, .f32⟩) (.of main_call1_call0_v29 : StableHlo.TRef sig ⟨S32x1000000, .f32⟩) mulf
  :: StableHlo.TRef.unary (.of main_call1_call0_v1 : StableHlo.TRef sig ⟨S1x1, .f32⟩) (.of main_call1_call0_v30 : StableHlo.TRef sig ⟨S32x1000000, .f32⟩) (broadcastInDim S32x1000000 ![0, 1] bcast_S1x1_S32x1000000_0_1)
  :: StableHlo.TRef.binary (.of main_call1_call0_v29 : StableHlo.TRef sig ⟨S32x1000000, .f32⟩) (.of main_call1_call0_v30 : StableHlo.TRef sig ⟨S32x1000000, .f32⟩) (.of main_call1_call0_v31 : StableHlo.TRef sig ⟨S32x1000000, .f32⟩) addf
  :: StableHlo.TRef.unary (.of main_call1_call0_v1 : StableHlo.TRef sig ⟨S1x1, .f32⟩) (.of main_call1_call0_v32 : StableHlo.TRef sig ⟨S32x1000000, .f32⟩) (broadcastInDim S32x1000000 ![0, 1] bcast_S1x1_S32x1000000_0_1)
  :: StableHlo.TRef.binary (.of main_call1_call0_v32 : StableHlo.TRef sig ⟨S32x1000000, .f32⟩) (.of main_call1_call0_v31 : StableHlo.TRef sig ⟨S32x1000000, .f32⟩) (.of main_call1_v0 : StableHlo.TRef sig ⟨S32x1000000, .f32⟩) maximumf
  :: StableHlo.TRef.unary main_call1_call0.v33 (.of main_call1_v1 : StableHlo.TRef sig ⟨S32x1000000, .f32⟩) Host.log
  :: StableHlo.TRef.unary (.of main_call1_v1 : StableHlo.TRef sig ⟨S32x1000000, .f32⟩) (.of main_call1_v2 : StableHlo.TRef sig ⟨S32x1000000, .f32⟩) Host.negf
  :: StableHlo.TRef.unary (.of main_call1_v2 : StableHlo.TRef sig ⟨S32x1000000, .f32⟩) (.of main_call1_v3 : StableHlo.TRef sig ⟨S32x1000000, .f32⟩) Host.log
  :: StableHlo.TRef.unary (.of main_call1_v3 : StableHlo.TRef sig ⟨S32x1000000, .f32⟩) (.of main_v30 : StableHlo.TRef sig ⟨S32x1000000, .f32⟩) Host.negf
  :: [] )
set_option maxHeartbeats 40000000 in
/-- Each operation of the stretch touches buffers of the TensorCore only. -/
theorem refGumbel_sub : (refGumbel : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub ..⟩

/-- The score: the noise and the normalised logits. -/
abbrev refAdd : List (HloOp τ sig (Elt F)) :=
  [ StableHlo.binary main_v30 main_v17 main_v31 (addf : (⟨S32x1000000, .f32⟩ : BufTy).Contents (Elt F) → (⟨S32x1000000, .f32⟩ : BufTy).Contents (Elt F) → (⟨S32x1000000, .f32⟩ : BufTy).Contents (Elt F)) ]
/-- Each operation of the stretch touches buffers of the TensorCore only. -/
theorem refAdd_sub : (refAdd : List (HloOp τ sig (Elt F))).Forall fun op => op.bufs ⊆ StableHlo.tcRefs τ sig :=
  StableHlo.binary_bufs_sub ..

/-- The first column of the largest score, row by row. -/
abbrev refArgmax : List (HloOp τ sig (Elt F)) :=
  [ StableHlo.TRef.nullary (.of main_call2_v0 : StableHlo.TRef sig ⟨S32x1000000, .i32⟩) (iotaInDim S32x1000000 32 1),
    StableHlo.TRef.nullary (.of main_call2_cst : StableHlo.TRef sig ⟨S_, .f32⟩) (constant S_ .f32 0xFF800000#32),
    StableHlo.TRef.nullary (.of main_call2_c : StableHlo.TRef sig ⟨S_, .i32⟩) (constantI S_ 32 0#32),
    StableHlo.TRef.quaternary (.of main_v31 : StableHlo.TRef sig ⟨S32x1000000, .f32⟩) (.of main_call2_v0 : StableHlo.TRef sig ⟨S32x1000000, .i32⟩) (.of main_call2_cst : StableHlo.TRef sig ⟨S_, .f32⟩) (.of main_call2_c : StableHlo.TRef sig ⟨S_, .i32⟩) (.of main_call2_v1_0 : StableHlo.TRef sig ⟨S32, .f32⟩) (fun x y u v j => (Host.argReduce reducer_argmax_f32_i32 x y u v reducesTo_S32x1000000_S32_d1 h_S_ j).1),
    StableHlo.TRef.quaternary (.of main_v31 : StableHlo.TRef sig ⟨S32x1000000, .f32⟩) (.of main_call2_v0 : StableHlo.TRef sig ⟨S32x1000000, .i32⟩) (.of main_call2_cst : StableHlo.TRef sig ⟨S_, .f32⟩) (.of main_call2_c : StableHlo.TRef sig ⟨S_, .i32⟩) (.of main_v32 : StableHlo.TRef sig ⟨S32, .i32⟩) (fun x y u v j => (Host.argReduce reducer_argmax_f32_i32 x y u v reducesTo_S32x1000000_S32_d1 h_S_ j).2) ]
/-- Each operation of the stretch touches buffers of the TensorCore only. -/
theorem refArgmax_sub : (refArgmax : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- The rows of zeros with a one at that column. -/
abbrev refOneHot : List (HloOp τ sig (Elt F)) :=
  [ StableHlo.TRef.unary (.of main_v32 : StableHlo.TRef sig ⟨S32, .i32⟩) (.of main_call3_v0 : StableHlo.TRef sig ⟨S32x1, .i32⟩) (broadcastInDim S32x1 ![0] bcast_S32_S32x1_0),
    StableHlo.TRef.nullary (.of main_call3_v1 : StableHlo.TRef sig ⟨S1x1000000, .i32⟩) (iotaInDim S1x1000000 32 1),
    StableHlo.TRef.unary (.of main_call3_v0 : StableHlo.TRef sig ⟨S32x1, .i32⟩) (.of main_call3_v2 : StableHlo.TRef sig ⟨S32x1000000, .i32⟩) (broadcastInDim S32x1000000 ![0, 1] bcast_S32x1_S32x1000000_0_1),
    StableHlo.TRef.unary (.of main_call3_v1 : StableHlo.TRef sig ⟨S1x1000000, .i32⟩) (.of main_call3_v3 : StableHlo.TRef sig ⟨S32x1000000, .i32⟩) (broadcastInDim S32x1000000 ![0, 1] bcast_S1x1000000_S32x1000000_0_1),
    StableHlo.TRef.binary (.of main_call3_v2 : StableHlo.TRef sig ⟨S32x1000000, .i32⟩) (.of main_call3_v3 : StableHlo.TRef sig ⟨S32x1000000, .i32⟩) (.of main_call3_v4 : StableHlo.TRef sig ⟨S32x1000000, .i1⟩) (cmpi .eq),
    StableHlo.TRef.unary (.of main_call3_v4 : StableHlo.TRef sig ⟨S32x1000000, .i1⟩) (.of main_v33 : StableHlo.TRef sig ⟨S32x1000000, .f32⟩) (uitofp .f32) ]
/-- Each operation of the stretch touches buffers of the TensorCore only. -/
theorem refOneHot_sub : (refOneHot : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩

set_option maxHeartbeats 40000000 in
/-- The program is its stretches, one after the other. -/
theorem main_chain (c : Dev nD) : main (F := F) c = (Pipeline.chain
  [ StableHlo.seq (refScore ++ refKey), StableHlo.seq refSplit, StableHlo.seq refSlice, StableHlo.seq refGumbel,
    StableHlo.seq refAdd, StableHlo.seq refArgmax, StableHlo.seq refOneHot ] :
    Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons,
    StableHlo.chain_seq_cons, Pipeline.chain_cons, Pipeline.chain_cons]
  chain_rfl

end Cert.Proof.Ref
-- ==== Proof.RefWrites.lean ====
module

public import proofs.«01_k».proof.Proof.RefOps

/-! What each stretch of the reference program writes. -/

@[expose] public section

set_option maxRecDepth 4832

noncomputable section

namespace Cert.Proof.Ref

open Idealize.ShloMosaic Idealize.ShloMosaic.TcCoe
open Cert.ReferenceIdeal Cert.ReferenceIdeal.Gen

variable {F : FTy → Type} [FloatOps F]

/-- The stretch writes nothing fresh. -/
theorem refScore_fresh : (refScore : List (HloOp τ sig (Elt F))).Forall fun op => op.fresh = ∅ := by
  simp only [List.Forall]; repeat' constructor

/-- The buffers the stretch writes, in order; -/
abbrev refScore_W : List (Ref sig .tc) :=
  [main_cst, main_v0, main_cst_0, main_v1, main_v2, main_v3, main_v4, main_cst_1, main_v5, main_cst_2, main_v6, main_v7, main_v8, main_v9, main_v10, main_cst_3, main_v11, main_v12, main_v13, main_v14, main_v15, main_v16, main_v17]

/-- it writes no other. -/
theorem refScore_writes : (refScore : List (HloOp τ sig (Elt F))).Forall fun op => op.writes ⊆ (refScore_W.map (Proc.devRef (τ := τ) .tc)).toFinset :=
  StableHlo.forall_writes_sub_of_map rfl

/-- The stretch writes nothing fresh. -/
theorem refKey_fresh : (refKey : List (HloOp τ sig (Elt F))).Forall fun op => op.fresh = ∅ := by
  simp only [List.Forall]; repeat' constructor

/-- The buffers the stretch writes, in order; -/
abbrev refKey_W : List (Ref sig .tc) :=
  [main_c, main_c_4, main_v18, main_v19, main_v20, main_c_5, main_v21, main_v22, main_v23, main_v24]

/-- it writes no other. -/
theorem refKey_writes : (refKey : List (HloOp τ sig (Elt F))).Forall fun op => op.writes ⊆ (refKey_W.map (Proc.devRef (τ := τ) .tc)).toFinset :=
  StableHlo.forall_writes_sub_of_map rfl

/-- The stretch writes nothing fresh. -/
theorem refSplit_fresh : (refSplit : List (HloOp τ sig (Elt F))).Forall fun op => op.fresh = ∅ := by
  simp only [List.Forall]; repeat' constructor

/-- The buffers the stretch writes, in order; -/
abbrev refSplit_W : List (Ref sig .tc) :=
  [main_call0_v0, main_call0_v1, main_call0_v2, main_call0_v3, main_call0_v4, main_call0_c, main_call0_v5, main_call0_v6, main_call0_c_0, main_call0_v7, main_call0_v8, main_call0_v9, main_call0_v10, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v11_0, main_call0_call0_v172, main_call0_call0_v173, main_call0_call0_c_44, main_call0_call0_v174, main_call0_v11_1, main_call0_v12, main_call0_v13, main_v25]

/-- it writes no other. -/
theorem refSplit_writes : (refSplit : List (HloOp τ sig (Elt F))).Forall fun op => op.writes ⊆ (refSplit_W.map (Proc.devRef (τ := τ) .tc)).toFinset :=
  StableHlo.forall_writes_sub_of_map rfl

/-- The stretch writes nothing fresh. -/
theorem refSlice_fresh : (refSlice : List (HloOp τ sig (Elt F))).Forall fun op => op.fresh = ∅ := by
  simp only [List.Forall]; repeat' constructor

/-- The buffers the stretch writes, in order; -/
abbrev refSlice_W : List (Ref sig .tc) :=
  [main_v26, main_v27, main_v28, main_v29]

/-- it writes no other. -/
theorem refSlice_writes : (refSlice : List (HloOp τ sig (Elt F))).Forall fun op => op.writes ⊆ (refSlice_W.map (Proc.devRef (τ := τ) .tc)).toFinset :=
  StableHlo.forall_writes_sub_of_map rfl

/-- The stretch writes nothing fresh. -/
theorem refGumbel_fresh : (refGumbel : List (HloOp τ sig (Elt F))).Forall fun op => op.fresh = ∅ := by
  simp only [List.Forall]; repeat' constructor

/-- The buffers the stretch writes, in order; -/
abbrev refGumbel_W : List (Ref sig .tc) :=
  [main_call1_cst, main_call1_cst_0, main_call1_call0_v0, main_call1_call0_v1, main_call1_call0_v2, main_call1_call0_v3, main_call1_call0_v4, main_call1_call0_v5, main_call1_call0_v6, main_call1_call0_v7, main_call1_call0_v8, main_call1_call0_c, main_call1_call0_v9, main_call1_call0_v10, main_call1_call0_c_0, main_call1_call0_v11, main_call1_call0_v12, main_call1_call0_v13, main_call1_call0_c_1, main_call1_call0_v14, main_call1_call0_v15, main_call1_call0_v16, main_call1_call0_v17, main_call1_call0_call0_v0, main_call1_call0_call0_c, main_call1_call0_call0_v1, main_call1_call0_call0_v2, main_call1_call0_call0_v3, main_call1_call0_call0_v4, main_call1_call0_call0_v5, main_call1_call0_call0_v6, main_call1_call0_call0_c_0, main_call1_call0_call0_v7, main_call1_call0_call0_v8, main_call1_call0_call0_c_1, main_call1_call0_call0_v9, main_call1_call0_call0_v10, main_call1_call0_call0_v11, main_call1_call0_call0_v12, main_call1_call0_call0_v13, main_call1_call0_call0_c_2, main_call1_call0_call0_v14, main_call1_call0_call0_v15, main_call1_call0_call0_c_3, main_call1_call0_call0_v16, main_call1_call0_call0_v17, main_call1_call0_call0_v18, main_call1_call0_call0_v19, main_call1_call0_call0_v20, main_call1_call0_call0_c_4, main_call1_call0_call0_v21, main_call1_call0_call0_v22, main_call1_call0_call0_c_5, main_call1_call0_call0_v23, main_call1_call0_call0_v24, main_call1_call0_call0_v25, main_call1_call0_call0_v26, main_call1_call0_call0_v27, main_call1_call0_call0_c_6, main_call1_call0_call0_v28, main_call1_call0_call0_v29, main_call1_call0_call0_c_7, main_call1_call0_call0_v30, main_call1_call0_call0_v31, main_call1_call0_call0_v32, main_call1_call0_call0_v33, main_call1_call0_call0_v34, main_call1_call0_call0_v35, main_call1_call0_call0_v36, main_call1_call0_call0_v37, main_call1_call0_call0_c_8, main_call1_call0_call0_v38, main_call1_call0_call0_v39, main_call1_call0_call0_v40, main_call1_call0_call0_c_9, main_call1_call0_call0_v41, main_call1_call0_call0_v42, main_call1_call0_call0_c_10, main_call1_call0_call0_v43, main_call1_call0_call0_v44, main_call1_call0_call0_v45, main_call1_call0_call0_v46, main_call1_call0_call0_v47, main_call1_call0_call0_c_11, main_call1_call0_call0_v48, main_call1_call0_call0_v49, main_call1_call0_call0_c_12, main_call1_call0_call0_v50, main_call1_call0_call0_v51, main_call1_call0_call0_v52, main_call1_call0_call0_v53, main_call1_call0_call0_v54, main_call1_call0_call0_c_13, main_call1_call0_call0_v55, main_call1_call0_call0_v56, main_call1_call0_call0_c_14, main_call1_call0_call0_v57, main_call1_call0_call0_v58, main_call1_call0_call0_v59, main_call1_call0_call0_v60, main_call1_call0_call0_v61, main_call1_call0_call0_c_15, main_call1_call0_call0_v62, main_call1_call0_call0_v63, main_call1_call0_call0_c_16, main_call1_call0_call0_v64, main_call1_call0_call0_v65, main_call1_call0_call0_v66, main_call1_call0_call0_v67, main_call1_call0_call0_v68, main_call1_call0_call0_v69, main_call1_call0_call0_v70, main_call1_call0_call0_v71, main_call1_call0_call0_c_17, main_call1_call0_call0_v72, main_call1_call0_call0_v73, main_call1_call0_call0_v74, main_call1_call0_call0_c_18, main_call1_call0_call0_v75, main_call1_call0_call0_v76, main_call1_call0_call0_c_19, main_call1_call0_call0_v77, main_call1_call0_call0_v78, main_call1_call0_call0_v79, main_call1_call0_call0_v80, main_call1_call0_call0_v81, main_call1_call0_call0_c_20, main_call1_call0_call0_v82, main_call1_call0_call0_v83, main_call1_call0_call0_c_21, main_call1_call0_call0_v84, main_call1_call0_call0_v85, main_call1_call0_call0_v86, main_call1_call0_call0_v87, main_call1_call0_call0_v88, main_call1_call0_call0_c_22, main_call1_call0_call0_v89, main_call1_call0_call0_v90, main_call1_call0_call0_c_23, main_call1_call0_call0_v91, main_call1_call0_call0_v92, main_call1_call0_call0_v93, main_call1_call0_call0_v94, main_call1_call0_call0_v95, main_call1_call0_call0_c_24, main_call1_call0_call0_v96, main_call1_call0_call0_v97, main_call1_call0_call0_c_25, main_call1_call0_call0_v98, main_call1_call0_call0_v99, main_call1_call0_call0_v100, main_call1_call0_call0_v101, main_call1_call0_call0_v102, main_call1_call0_call0_v103, main_call1_call0_call0_v104, main_call1_call0_call0_v105, main_call1_call0_call0_c_26, main_call1_call0_call0_v106, main_call1_call0_call0_v107, main_call1_call0_call0_v108, main_call1_call0_call0_c_27, main_call1_call0_call0_v109, main_call1_call0_call0_v110, main_call1_call0_call0_c_28, main_call1_call0_call0_v111, main_call1_call0_call0_v112, main_call1_call0_call0_v113, main_call1_call0_call0_v114, main_call1_call0_call0_v115, main_call1_call0_call0_c_29, main_call1_call0_call0_v116, main_call1_call0_call0_v117, main_call1_call0_call0_c_30, main_call1_call0_call0_v118, main_call1_call0_call0_v119, main_call1_call0_call0_v120, main_call1_call0_call0_v121, main_call1_call0_call0_v122, main_call1_call0_call0_c_31, main_call1_call0_call0_v123, main_call1_call0_call0_v124, main_call1_call0_call0_c_32, main_call1_call0_call0_v125, main_call1_call0_call0_v126, main_call1_call0_call0_v127, main_call1_call0_call0_v128, main_call1_call0_call0_v129, main_call1_call0_call0_c_33, main_call1_call0_call0_v130, main_call1_call0_call0_v131, main_call1_call0_call0_c_34, main_call1_call0_call0_v132, main_call1_call0_call0_v133, main_call1_call0_call0_v134, main_call1_call0_call0_v135, main_call1_call0_call0_v136, main_call1_call0_call0_v137, main_call1_call0_call0_v138, main_call1_call0_call0_v139, main_call1_call0_call0_c_35, main_call1_call0_call0_v140, main_call1_call0_call0_v141, main_call1_call0_call0_v142, main_call1_call0_call0_c_36, main_call1_call0_call0_v143, main_call1_call0_call0_v144, main_call1_call0_call0_c_37, main_call1_call0_call0_v145, main_call1_call0_call0_v146, main_call1_call0_call0_v147, main_call1_call0_call0_v148, main_call1_call0_call0_v149, main_call1_call0_call0_c_38, main_call1_call0_call0_v150, main_call1_call0_call0_v151, main_call1_call0_call0_c_39, main_call1_call0_call0_v152, main_call1_call0_call0_v153, main_call1_call0_call0_v154, main_call1_call0_call0_v155, main_call1_call0_call0_v156, main_call1_call0_call0_c_40, main_call1_call0_call0_v157, main_call1_call0_call0_v158, main_call1_call0_call0_c_41, main_call1_call0_call0_v159, main_call1_call0_call0_v160, main_call1_call0_call0_v161, main_call1_call0_call0_v162, main_call1_call0_call0_v163, main_call1_call0_call0_c_42, main_call1_call0_call0_v164, main_call1_call0_call0_v165, main_call1_call0_call0_c_43, main_call1_call0_call0_v166, main_call1_call0_call0_v167, main_call1_call0_call0_v168, main_call1_call0_call0_v169, main_call1_call0_call0_v170, main_call1_call0_v18_0, main_call1_call0_call0_v172, main_call1_call0_call0_v173, main_call1_call0_call0_c_44, main_call1_call0_call0_v174, main_call1_call0_v18_1, main_call1_call0_v19, main_call1_call0_c_2, main_call1_call0_v20, main_call1_call0_v21, main_call1_call0_c_3, main_call1_call0_v22, main_call1_call0_v23, main_call1_call0_v24, main_call1_call0_cst, main_call1_call0_v25, main_call1_call0_v26, main_call1_call0_v27, main_call1_call0_v28, main_call1_call0_v29, main_call1_call0_v30, main_call1_call0_v31, main_call1_call0_v32, main_call1_v0, main_call1_v1, main_call1_v2, main_call1_v3, main_v30]

/-- it writes no other. -/
theorem refGumbel_writes : (refGumbel : List (HloOp τ sig (Elt F))).Forall fun op => op.writes ⊆ (refGumbel_W.map (Proc.devRef (τ := τ) .tc)).toFinset :=
  StableHlo.forall_writes_sub_of_map rfl

/-- The stretch writes nothing fresh. -/
theorem refAdd_fresh : (refAdd : List (HloOp τ sig (Elt F))).Forall fun op => op.fresh = ∅ := by
  simp only [List.Forall]; repeat' constructor

/-- The buffers the stretch writes, in order; -/
abbrev refAdd_W : List (Ref sig .tc) :=
  [main_v31]

/-- it writes no other. -/
theorem refAdd_writes : (refAdd : List (HloOp τ sig (Elt F))).Forall fun op => op.writes ⊆ (refAdd_W.map (Proc.devRef (τ := τ) .tc)).toFinset :=
  StableHlo.forall_writes_sub_of_map rfl

/-- The stretch writes nothing fresh. -/
theorem refArgmax_fresh : (refArgmax : List (HloOp τ sig (Elt F))).Forall fun op => op.fresh = ∅ := by
  simp only [List.Forall]; repeat' constructor

/-- The buffers the stretch writes, in order; -/
abbrev refArgmax_W : List (Ref sig .tc) :=
  [main_call2_v0, main_call2_cst, main_call2_c, main_call2_v1_0, main_v32]

/-- it writes no other. -/
theorem refArgmax_writes : (refArgmax : List (HloOp τ sig (Elt F))).Forall fun op => op.writes ⊆ (refArgmax_W.map (Proc.devRef (τ := τ) .tc)).toFinset :=
  StableHlo.forall_writes_sub_of_map rfl

/-- The stretch writes nothing fresh. -/
theorem refOneHot_fresh : (refOneHot : List (HloOp τ sig (Elt F))).Forall fun op => op.fresh = ∅ := by
  simp only [List.Forall]; repeat' constructor

/-- The buffers the stretch writes, in order; -/
abbrev refOneHot_W : List (Ref sig .tc) :=
  [main_call3_v0, main_call3_v1, main_call3_v2, main_call3_v3, main_call3_v4, main_v33]

/-- it writes no other. -/
theorem refOneHot_writes : (refOneHot : List (HloOp τ sig (Elt F))).Forall fun op => op.writes ⊆ (refOneHot_W.map (Proc.devRef (τ := τ) .tc)).toFinset :=
  StableHlo.forall_writes_sub_of_map rfl

end Cert.Proof.Ref
-- ==== Proof.RefRun.lean ====
module

public import proofs.«01_k».proof.Proof.RefWrites
public import Idealize.ShloMosaic.Lib.Pipeline.Frame
public import Idealize.ShloMosaic.Lib.Pipeline.RegionArraysS

/-! The launch of the reference program: host operations only, stretch after stretch. -/

@[expose] public section

set_option maxRecDepth 16384

noncomputable section

namespace Cert.Proof.Ref

open Cert.ReferenceIdeal Cert.ReferenceIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

local notation "𝕄" => MT nD τ sig Unit (Elt F) ℕ (UR sig nD τ) ℕ

/-! ## The buffers between the stretches -/

/-- Core `c`'s buffers at launch; -/
def R0 (c : Dev nD) : Valuation τ sig (Elt F) := fun b => m (c, b)
/-- with the score's part free of noise and the key words; -/
def R1 (c : Dev nD) : Valuation τ sig (Elt F) := StableHlo.after (refScore ++ refKey) (R0 m c)
/-- with the key split; -/
def R2 (c : Dev nD) : Valuation τ sig (Elt F) := StableHlo.after refSplit (R1 m c)
/-- with the first key taken out; -/
def R3 (c : Dev nD) : Valuation τ sig (Elt F) := StableHlo.after refSlice (R2 m c)
/-- with the noise; -/
def R4 (c : Dev nD) : Valuation τ sig (Elt F) := StableHlo.after refGumbel (R3 m c)
/-- with the score; -/
def R5 (c : Dev nD) : Valuation τ sig (Elt F) := StableHlo.after refAdd (R4 m c)
/-- with each row's column; -/
def R6 (c : Dev nD) : Valuation τ sig (Elt F) := StableHlo.after refArgmax (R5 m c)
/-- and with the result. -/
def R7 (c : Dev nD) : Valuation τ sig (Elt F) := StableHlo.after refOneHot (R6 m c)

/-- The first stretch's operations touch TensorCore buffers only -/
theorem refHead_sub : ∀ op ∈ (refScore ++ refKey : List (HloOp τ sig (Elt F))), op.bufs ⊆ StableHlo.tcRefs τ sig := fun op h =>
  (List.mem_append.mp h).elim (List.forall_iff_forall_mem.mp refScore_sub op) (List.forall_iff_forall_mem.mp refKey_sub op)

/-- and write nothing fresh. -/
theorem refHead_fresh : ∀ op ∈ (refScore ++ refKey : List (HloOp τ sig (Elt F))), op.fresh = ∅ := fun op h =>
  (List.mem_append.mp h).elim (List.forall_iff_forall_mem.mp refScore_fresh op) (List.forall_iff_forall_mem.mp refKey_fresh op)

/-- Operations in two lists run one list after the other. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l₁ ih => exact ih _

/-- A buffer nothing writes ends as launched. -/
theorem R7_launched (c : Dev nD) (r : Ref sig .tc) (h0 : r ∉ refScore_W) (h1 : r ∉ refKey_W) (h2 : r ∉ refSplit_W) (h3 : r ∉ refSlice_W)
    (h4 : r ∉ refGumbel_W) (h5 : r ∉ refAdd_W) (h6 : r ∉ refArgmax_W) (h7 : r ∉ refOneHot_W) :
    R7 m c r = m ((c : Thread nD τ).loc r) := by
  refine (StableHlo.after_of_writes_sub refOneHot _ refOneHot_writes h7).trans ?_
  refine (StableHlo.after_of_writes_sub refArgmax _ refArgmax_writes h6).trans ?_
  refine (StableHlo.after_of_writes_sub refAdd _ refAdd_writes h5).trans ?_
  refine (StableHlo.after_of_writes_sub refGumbel _ refGumbel_writes h4).trans ?_
  refine (StableHlo.after_of_writes_sub refSlice _ refSlice_writes h3).trans ?_
  refine (StableHlo.after_of_writes_sub refSplit _ refSplit_writes h2).trans ?_
  refine (congrFun (after_append refScore refKey (R0 m c)) _).trans ?_
  refine (StableHlo.after_of_writes_sub refKey _ refKey_writes h1).trans ?_
  exact StableHlo.after_of_writes_sub refScore _ refScore_writes h0

/-! ## The segments -/

/-- Nothing recorded against the processors' own cells but the one index. -/
def L (g : GSem nD τ sig) : Finset Unit := if g.1.2 = .tc then {()} else ∅

/-- What a core owes between two stretches: nothing. -/
def owesNone (c : Dev nD) : sProp 𝕄 := iprop(∃ W, owes (c : Thread nD τ) (0 : CellTallies nD τ sig Unit) W)

/-- There is no pipeline to speak of. -/
def adm : (p : Fin 0) → ((pcfgs (F := F)) p).Adm := fun p => p.elim0
/-- Nor its data. -/
def pdats : (p : Fin 0) → (c : Dev nD) → Dat τ (Elt F) Unit ℕ (UR sig nD τ) ℕ (cfgs p) c := fun p => p.elim0

/-- A stretch as a segment, from buffers at `V`. -/
def stretch (ops : List (HloOp τ sig (Elt F))) (hs : ∀ op ∈ ops, op.bufs ⊆ StableHlo.tcRefs τ sig) (hf : ∀ op ∈ ops, op.fresh = ∅)
    (V : Dev nD → Valuation τ sig (Elt F)) :
    Seg (pcfgs (F := F)) adm pdats () defs₀ Variants.none L (fun _ _ => 0) :=
  .host (HostSeg.ofOps _ _ _ _ _ (Pipeline.ucRefs τ sig) ops (fun op h => Pipeline.sub_ucRefs op (hs op h)) hf V owesNone)

/-- The program's stretches in order. -/
abbrev segs (_ : Dev nD) : List (Seg (pcfgs (F := F)) adm pdats () defs₀ Variants.none L (fun _ _ => 0)) :=
  [ stretch (refScore ++ refKey) refHead_sub refHead_fresh (R0 m),
    stretch refSplit (List.forall_iff_forall_mem.mp refSplit_sub) (List.forall_iff_forall_mem.mp refSplit_fresh) (R1 m),
    stretch refSlice (List.forall_iff_forall_mem.mp refSlice_sub) (List.forall_iff_forall_mem.mp refSlice_fresh) (R2 m),
    stretch refGumbel (List.forall_iff_forall_mem.mp refGumbel_sub) (List.forall_iff_forall_mem.mp refGumbel_fresh) (R3 m),
    stretch refAdd (List.forall_iff_forall_mem.mp refAdd_sub) (List.forall_iff_forall_mem.mp refAdd_fresh) (R4 m),
    stretch refArgmax (List.forall_iff_forall_mem.mp refArgmax_sub) (List.forall_iff_forall_mem.mp refArgmax_fresh) (R5 m),
    stretch refOneHot (List.forall_iff_forall_mem.mp refOneHot_sub) (List.forall_iff_forall_mem.mp refOneHot_fresh) (R6 m) ]

/-- The TensorCore has no counter outside a kernel. -/
theorem no_counter : ∀ sm : SemLoc sig, sm.isScoped .tc = true := by decide

/-- No pipeline has a staging cell. -/
theorem cellOf_inj : Function.Injective (Pipeline.cellOf (nD := nD) (τ := τ) cfgs) := fun k => k.1.elim0

variable (ρ : Dev nD → PrngReg)

set_option backward.isDefEq.respectTransparency.types false in
/-- From any memory with zero counters every fair execution ends; the arguments are as launched, the result is what the last stretch
    left, and every counter is zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v33) = R7 m c main_v33)
      ∧ r.2.sem = fun _ => 0) := by
  refine Pipeline.θ_run_regions_kit_dev_sems (pcfgs (F := F)) adm pdats () cellOf_inj emb₁ defs₀ Variants.none L (fun _ _ => 0) m ρ main
    (segs m)
    (fun c Q => by
      rewrite [main_chain c, Seg.run_eq_chain,
        show (segs m c).map Seg.prog = [
          StableHlo.seq (refScore ++ refKey), StableHlo.seq refSplit, StableHlo.seq refSlice, StableHlo.seq refGumbel,
          StableHlo.seq refAdd, StableHlo.seq refArgmax, StableHlo.seq refOneHot ] from rfl]
      exact .rfl)
    (fun c => by simp only [segs, stretch, Seg.pipes_host, Seg.pipes_nil]; decide) (fun _ => 0)
    (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (R0 m c) ∗ owesNone c))
    (Tₙ := fun c => StableHlo.held (c : Thread nD τ) (Pipeline.ucRefs τ sig) (R7 m c))
    (hch := fun c => ⟨.rfl, .rfl, .rfl, .rfl, .rfl, .rfl, .rfl, .rfl⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_v33) = R7 m c main_v33)
    (hfin := fun c s' => ?_) (hQ := fun _ h hz => ⟨h, funext fun g => hz g (.inr (no_counter g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    rw [show (bigSep Finset.univ fun _ : Dev nD => (iprop(emp) : sProp 𝕄)) = iprop(emp) from BI.bigSep_emp_const _]
    iempintro
  · have hcore : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (R0 m c) ∗ owesNone c) : sProp 𝕄) := fun c => by
      rw [← Pipeline.unscopedBufs_held (Ix := Unit) (Name := ℕ) (U := UR sig nD τ) (Lvl := ℕ) c (R0 m c)]
      unfold owesNone
      iintro ⟨Hb, -, HO, -⟩
      isplitl [Hb]; · iexact Hb
      iexists ∅
      iexact HO
    have hall := bigSep_mono (s := (Finset.univ : Finset (Dev nD))) fun c _ => hcore c
    iintro ⟨H, -⟩
    ihave H' := (show _ ⊢ _ from hall) $$ H
    imodintro
    iexact H'
  · unfold StableHlo.held
    iintro ⟨Hh, HSI⟩
    ihave Hr := (pointsTo_read_all (Pipeline.ucRefs τ sig) (fun b => ((c : Thread nD τ).1, b)) (R7 m c) s') $$ [Hh HSI]
    · isplitl [Hh] <;> iassumption
    icases Hr with ⟨%h, HSI⟩
    imodintro
    isplitr
    · ipureintro
      have hr : ∀ r : Ref sig .tc, (Proc.devRef .tc r : DevRef τ sig).isScoped = false → s'.mem.mem ((c.tc : Thread nD τ).loc r) = R7 m c r :=
        fun r hs => h (Proc.devRef .tc r) (Finset.mem_filter.mpr ⟨StableHlo.devRef_mem_tcRefs r, by rw [hs]; decide⟩)
      exact ⟨(hr main_arg0 rfl).trans (R7_launched m c main_arg0 (by decide) (by decide) (by decide) (by decide) (by decide) (by decide) (by decide) (by decide)),
        (hr main_arg1 rfl).trans (R7_launched m c main_arg1 (by decide) (by decide) (by decide) (by decide) (by decide) (by decide) (by decide) (by decide)),
        (hr main_arg2 rfl).trans (R7_launched m c main_arg2 (by decide) (by decide) (by decide) (by decide) (by decide) (by decide) (by decide) (by decide)),
        hr main_v33 rfl⟩
    · iexact HSI

end Cert.Proof.Ref

end
-- ==== Proof.Sim.lean ====
module

public import proofs.«01_k».proof.Proof.RefRun
public import proofs.«01_k».proof.Proof.Gen.KernelIdeal.Regions

/-! The noise of the two programs is the same array: both compute it by the same host operations in the same order, the reference's
buffers numbered 23 above the kernel's. -/

@[expose] public section

set_option maxRecDepth 16384

noncomputable section

namespace Cert.Proof.Sim

open Idealize.ShloMosaic Idealize.ShloMosaic.TcCoe
open Idealize.ShloMosaic.StableHlo (TRef after)

section General

variable {τ τ' : Topo} {sig sig' : RefSig} {Val : EltTy → Type}

/-- What buffer `t` holds, at the value's type. -/
def val {T : BufTy} (t : TRef sig T) (V : Valuation τ sig Val) : T.Contents Val := t.ofBuf (V (Proc.devRef .tc t.ref))

/-- Buffer `t` is number `k` of the first program's and buffer `t'` its partner in the second. -/
def At {T T' : BufTy} (t : TRef sig T) (t' : TRef sig' T') (k : ℕ) : Prop :=
  t.ref.space = .hbm ∧ t'.ref.space = .hbm ∧ t.ref.idx.val = k ∧ t'.ref.idx.val = k + 23

/-- Being partners is decidable. -/
instance {T T' : BufTy} (t : TRef sig T) (t' : TRef sig' T') (k : ℕ) : Decidable (At t t' k) := by unfold At; infer_instance

/-- Partners numbered from 3 up to, but not with, `n` hold the same contents. -/
def Agree (n : ℕ) (V : Valuation τ sig Val) (V' : Valuation τ' sig' Val) : Prop :=
  ∀ (T : BufTy) (t : TRef sig T) (t' : TRef sig' T) (k : ℕ), 3 ≤ k → k < n → At t t' k → val t V = val t' V'

/-- Two references to the device's memory with one number are one. -/
theorem ref_eq (x y : Ref sig .tc) (hx : x.space = .hbm) (hy : y.space = .hbm) (h : x.idx.val = y.idx.val) : x = y := by
  obtain ⟨sx, ix, nx⟩ := x
  obtain ⟨sy, iy, ny⟩ := y
  dsimp only at hx hy h
  subst hx hy
  have := Fin.ext h
  subst this
  rfl

/-- A step that gives the partners numbered `n` one contents, and changes nothing else, keeps the agreement. -/
theorem Agree.step {n : ℕ} {V W : Valuation τ sig Val} {V' W' : Valuation τ' sig' Val} (h : Agree n V V') {T : BufTy} (y : TRef sig T)
    (y' : TRef sig' T) (hy : At y y' n)
    (hW : ∀ r : Ref sig .tc, r ≠ y.ref → W (Proc.devRef .tc r) = V (Proc.devRef .tc r))
    (hW' : ∀ r : Ref sig' .tc, r ≠ y'.ref → W' (Proc.devRef .tc r) = V' (Proc.devRef .tc r)) (hv : val y W = val y' W') :
    Agree (n + 1) W W' := by
  intro U t t' k h3 hk ht
  by_cases hkn : k = n
  · subst hkn
    have e : t.ref = y.ref := ref_eq _ _ ht.1 hy.1 (ht.2.2.1.trans hy.2.2.1.symm)
    have e' : t'.ref = y'.ref := ref_eq _ _ ht.2.1 hy.2.1 (ht.2.2.2.trans hy.2.2.2.symm)
    obtain ⟨r, hr, d, u⟩ := t
    obtain ⟨r', hr', d', u'⟩ := t'
    obtain ⟨s, hs, ds, us⟩ := y
    obtain ⟨s', hs', ds', us'⟩ := y'
    dsimp only at e e'
    subst e e'
    have := hr.symm.trans hs
    subst this
    exact hv
  · have ne : t.ref ≠ y.ref := fun e => hkn (ht.2.2.1.symm.trans ((by rw [e] : t.ref.idx.val = y.ref.idx.val).trans hy.2.2.1))
    have ne' : t'.ref ≠ y'.ref := fun e => hkn (Nat.add_right_cancel
      (ht.2.2.2.symm.trans ((by rw [e] : t'.ref.idx.val = y'.ref.idx.val).trans hy.2.2.2)))
    have := h U t t' k h3 (by omega) ht
    unfold val at this ⊢
    rw [hW _ ne, hW' _ ne', this]

/-- The lists of operations take buffers that agree below `n` to buffers that agree below `N`. -/
def Steps (n N : ℕ) (ops : List (HloOp τ sig Val)) (ops' : List (HloOp τ' sig' Val)) : Prop :=
  ∀ V V', Agree n V V' → Agree N (after ops V) (after ops' V')

/-- No operations keep the agreement. -/
theorem Steps.nil (n : ℕ) : Steps (τ := τ) (τ' := τ') (sig := sig) (sig' := sig') (Val := Val) n n [] [] := fun _ _ h => h

/-- Buffers `x` and `x'` are partners numbered from 3 up to, but not with, `n`. -/
def Before {T T' : BufTy} (x : TRef sig T) (x' : TRef sig' T') (n : ℕ) : Prop :=
  3 ≤ x.ref.idx.val ∧ x.ref.idx.val < n ∧ At x x' x.ref.idx.val

/-- So is being partners below a number. -/
instance {T T' : BufTy} (t : TRef sig T) (t' : TRef sig' T') (k : ℕ) : Decidable (Before t t' k) := by unfold Before; infer_instance

/-- Agreeing buffers hold the same contents at partners. -/
theorem Agree.before {n : ℕ} {V : Valuation τ sig Val} {V' : Valuation τ' sig' Val} (h : Agree n V V') {T : BufTy} {x : TRef sig T}
    {x' : TRef sig' T} (hx : Before x x' n) : val x V = val x' V' := h T x x' _ hx.1 hx.2.1 hx.2.2

variable {n N : ℕ} {Ta Tb Ty : BufTy} {a : TRef sig Ta} {a' : TRef sig' Ta} {b : TRef sig Tb} {b' : TRef sig' Tb} {y : TRef sig Ty}
  {y' : TRef sig' Ty} {ops : List (HloOp τ sig Val)} {ops' : List (HloOp τ' sig' Val)}

/-- Contents put in a buffer and read at the value's type. -/
theorem ofBuf_toBuf (v : Ty.Contents Val) : y.ofBuf (y.toBuf v) = v := by
  obtain ⟨r, hr, d, u⟩ := y
  subst hr
  rfl

/-- A constant into partners extends the agreement; -/
theorem Steps.nullary {v : Ty.Contents Val} (hy : At y y' n) (h : Steps (y.ref.idx.val + 1) N ops ops') :
    Steps n N (TRef.nullary y v :: ops) (TRef.nullary y' v :: ops') := fun V V' hV =>
  h _ _ (hy.2.2.1.symm ▸ hV.step y y' hy (fun _ => StableHlo.nullary_result_ne _ _ _ _) (fun _ => StableHlo.nullary_result_ne _ _ _ _) (by
    unfold val
    rw [StableHlo.nullary_result, StableHlo.nullary_result, ofBuf_toBuf, ofBuf_toBuf]))

/-- so does one function of partners into partners, -/
theorem Steps.unary {f : Ta.Contents Val → Ty.Contents Val} (ha : Before a a' n) (hy : At y y' n) (h : Steps (y.ref.idx.val + 1) N ops ops') :
    Steps n N (TRef.unary a y f :: ops) (TRef.unary a' y' f :: ops') := fun V V' hV =>
  h _ _ (hy.2.2.1.symm ▸ hV.step y y' hy (fun _ => StableHlo.unary_result_ne _ _ _ _ _ _) (fun _ => StableHlo.unary_result_ne _ _ _ _ _ _) (by
    have e := hV.before ha
    unfold val at e ⊢
    rw [StableHlo.unary_result, StableHlo.unary_result, ofBuf_toBuf, ofBuf_toBuf, e]))

/-- of two partners, -/
theorem Steps.binary {f : Ta.Contents Val → Tb.Contents Val → Ty.Contents Val} (ha : Before a a' n) (hb : Before b b' n) (hy : At y y' n)
    (h : Steps (y.ref.idx.val + 1) N ops ops') :
    Steps n N (TRef.binary a b y f :: ops) (TRef.binary a' b' y' f :: ops') := fun V V' hV =>
  h _ _ (hy.2.2.1.symm ▸ hV.step y y' hy (fun _ => StableHlo.binary_result_ne _ _ _ _ _ _ _ _) (fun _ => StableHlo.binary_result_ne _ _ _ _ _ _ _ _) (by
    have e := hV.before ha
    have e' := hV.before hb
    unfold val at e e' ⊢
    rw [StableHlo.binary_result, StableHlo.binary_result, ofBuf_toBuf, ofBuf_toBuf, e, e']))

/-- A reshape's result at the value's type. -/
theorem val_reshape {he : Ta.elt = Ty.elt} {hn : Ta.shape.ShapeCasts Ty.shape} (V : Valuation τ sig Val) :
    val y ((TRef.reshape a y he hn : HloOp τ sig Val).result V) = fun i => he ▸ shapeCast Ty.shape (val a V) hn i := by
  unfold val
  obtain ⟨ra, hra, da, ua⟩ := a
  obtain ⟨r, hr, d, u⟩ := y
  subst hra hr
  rw [StableHlo.reshape_result]
  rfl

/-- and a reshape of partners. -/
theorem Steps.reshape {he : Ta.elt = Ty.elt} {hn : Ta.shape.ShapeCasts Ty.shape} (ha : Before a a' n) (hy : At y y' n)
    (h : Steps (y.ref.idx.val + 1) N ops ops') :
    Steps n N (TRef.reshape a y he hn :: ops) (TRef.reshape a' y' he hn :: ops') := fun V V' hV =>
  h _ _ (hy.2.2.1.symm ▸ hV.step y y' hy (fun _ => StableHlo.reshape_result_ne _ _ _ _ _ _ _) (fun _ => StableHlo.reshape_result_ne _ _ _ _ _ _ _)
    ((val_reshape V).trans ((congrArg (fun v : Ta.Contents Val => fun i => he ▸ shapeCast Ty.shape v hn i) (hV.before ha)).trans (val_reshape V').symm)))

end General

/-! ## The two programs' noise -/

section Noise

open Cert.KernelIdeal.Gen (hostOps0 hostOps0_1 hostOps0_2 hostOps0_3)
open Cert.Proof.Ref

variable {F : FTy → Type} [FloatOps F]

/-- The key words of the kernel, over typed buffers; -/
abbrev keyK : List (HloOp KernelIdeal.τ KernelIdeal.sig (Elt F)) :=
  [ TRef.nullary (.of KernelIdeal.main_c : TRef _ ⟨KernelIdeal.S_, .i32⟩) (constantI KernelIdeal.S_ 32 42#32),
    TRef.nullary (.of KernelIdeal.main_c_0 : TRef _ ⟨KernelIdeal.S_, .i32⟩) (constantI KernelIdeal.S_ 32 32#32),
    TRef.binary (.of KernelIdeal.main_c : TRef _ ⟨KernelIdeal.S_, .i32⟩) (.of KernelIdeal.main_c_0 : TRef _ ⟨KernelIdeal.S_, .i32⟩) (.of KernelIdeal.main_v0 : TRef _ ⟨KernelIdeal.S_, .i32⟩) (Host.shrui),
    TRef.unary (.of KernelIdeal.main_v0 : TRef _ ⟨KernelIdeal.S_, .i32⟩) (.of KernelIdeal.main_v1 : TRef _ ⟨KernelIdeal.S_, .i32⟩) (id),
    TRef.unary (.of KernelIdeal.main_v1 : TRef _ ⟨KernelIdeal.S_, .i32⟩) (.of KernelIdeal.main_v2 : TRef _ ⟨KernelIdeal.S1, .i32⟩) (broadcastInDim KernelIdeal.S1 ![] KernelIdeal.Gen.bcast_S_S1),
    TRef.nullary (.of KernelIdeal.main_c_1 : TRef _ ⟨KernelIdeal.S_, .i32⟩) (constantI KernelIdeal.S_ 32 4294967295#32),
    TRef.binary (.of KernelIdeal.main_c : TRef _ ⟨KernelIdeal.S_, .i32⟩) (.of KernelIdeal.main_c_1 : TRef _ ⟨KernelIdeal.S_, .i32⟩) (.of KernelIdeal.main_v3 : TRef _ ⟨KernelIdeal.S_, .i32⟩) (andi),
    TRef.unary (.of KernelIdeal.main_v3 : TRef _ ⟨KernelIdeal.S_, .i32⟩) (.of KernelIdeal.main_v4 : TRef _ ⟨KernelIdeal.S_, .i32⟩) (id),
    TRef.unary (.of KernelIdeal.main_v4 : TRef _ ⟨KernelIdeal.S_, .i32⟩) (.of KernelIdeal.main_v5 : TRef _ ⟨KernelIdeal.S1, .i32⟩) (broadcastInDim KernelIdeal.S1 ![] KernelIdeal.Gen.bcast_S_S1),
    TRef.binary (.of KernelIdeal.main_v2 : TRef _ ⟨KernelIdeal.S1, .i32⟩) (.of KernelIdeal.main_v5 : TRef _ ⟨KernelIdeal.S1, .i32⟩) (.of KernelIdeal.main_v6 : TRef _ ⟨KernelIdeal.S2, .i32⟩) ((fun a b => concatenate KernelIdeal.S2 0 [⟨KernelIdeal.S1, a⟩, ⟨KernelIdeal.S1, b⟩] KernelIdeal.Gen.concatenates_S1_S1_S2_d0)) ]

set_option maxHeartbeats 4000000 in
theorem keyK_eq : (hostOps0 : List (HloOp KernelIdeal.τ KernelIdeal.sig (Elt F))) = keyK := by
  chain_rfl

/-- The key words of the reference, over typed buffers; -/
abbrev keyR : List (HloOp ReferenceIdeal.τ ReferenceIdeal.sig (Elt F)) :=
  [ TRef.nullary (.of ReferenceIdeal.main_c : TRef _ ⟨ReferenceIdeal.S_, .i32⟩) (constantI ReferenceIdeal.S_ 32 42#32),
    TRef.nullary (.of ReferenceIdeal.main_c_4 : TRef _ ⟨ReferenceIdeal.S_, .i32⟩) (constantI ReferenceIdeal.S_ 32 32#32),
    TRef.binary (.of ReferenceIdeal.main_c : TRef _ ⟨ReferenceIdeal.S_, .i32⟩) (.of ReferenceIdeal.main_c_4 : TRef _ ⟨ReferenceIdeal.S_, .i32⟩) (.of ReferenceIdeal.main_v18 : TRef _ ⟨ReferenceIdeal.S_, .i32⟩) (Host.shrui),
    TRef.unary (.of ReferenceIdeal.main_v18 : TRef _ ⟨ReferenceIdeal.S_, .i32⟩) (.of ReferenceIdeal.main_v19 : TRef _ ⟨ReferenceIdeal.S_, .i32⟩) (id),
    TRef.unary (.of ReferenceIdeal.main_v19 : TRef _ ⟨ReferenceIdeal.S_, .i32⟩) (.of ReferenceIdeal.main_v20 : TRef _ ⟨ReferenceIdeal.S1, .i32⟩) (broadcastInDim ReferenceIdeal.S1 ![] ReferenceIdeal.Gen.bcast_S_S1),
    TRef.nullary (.of ReferenceIdeal.main_c_5 : TRef _ ⟨ReferenceIdeal.S_, .i32⟩) (constantI ReferenceIdeal.S_ 32 4294967295#32),
    TRef.binary (.of ReferenceIdeal.main_c : TRef _ ⟨ReferenceIdeal.S_, .i32⟩) (.of ReferenceIdeal.main_c_5 : TRef _ ⟨ReferenceIdeal.S_, .i32⟩) (.of ReferenceIdeal.main_v21 : TRef _ ⟨ReferenceIdeal.S_, .i32⟩) (andi),
    TRef.unary (.of ReferenceIdeal.main_v21 : TRef _ ⟨ReferenceIdeal.S_, .i32⟩) (.of ReferenceIdeal.main_v22 : TRef _ ⟨ReferenceIdeal.S_, .i32⟩) (id),
    TRef.unary (.of ReferenceIdeal.main_v22 : TRef _ ⟨ReferenceIdeal.S_, .i32⟩) (.of ReferenceIdeal.main_v23 : TRef _ ⟨ReferenceIdeal.S1, .i32⟩) (broadcastInDim ReferenceIdeal.S1 ![] ReferenceIdeal.Gen.bcast_S_S1),
    TRef.binary (.of ReferenceIdeal.main_v20 : TRef _ ⟨ReferenceIdeal.S1, .i32⟩) (.of ReferenceIdeal.main_v23 : TRef _ ⟨ReferenceIdeal.S1, .i32⟩) (.of ReferenceIdeal.main_v24 : TRef _ ⟨ReferenceIdeal.S2, .i32⟩) ((fun a b => concatenate ReferenceIdeal.S2 0 [⟨ReferenceIdeal.S1, a⟩, ⟨ReferenceIdeal.S1, b⟩] ReferenceIdeal.Gen.concatenates_S1_S1_S2_d0)) ]

set_option maxHeartbeats 4000000 in
theorem keyR_eq : (refKey : List (HloOp ReferenceIdeal.τ ReferenceIdeal.sig (Elt F))) = keyR := by
  chain_rfl

/-- The key words of both programs. -/
theorem steps_key : Steps 3 13 (hostOps0 (F := F)) refKey := by
  rw [keyK_eq, keyR_eq]
  repeat (first
    | with_reducible refine .binary (by decide) (by decide) (by decide) ?_
    | with_reducible refine .unary (by decide) (by decide) ?_
    | with_reducible refine .nullary (by decide) ?_
    | with_reducible refine .reshape (by decide) (by decide) ?_)
  exact .nil _

set_option maxHeartbeats 40000000 in
/-- The split of the key. -/
theorem steps_split : Steps 13 251 (hostOps0_1 (F := F)) refSplit := by
  repeat (first
    | with_reducible refine .binary (by decide) (by decide) (by decide) ?_
    | with_reducible refine .unary (by decide) (by decide) ?_
    | with_reducible refine .nullary (by decide) ?_
    | with_reducible refine .reshape (by decide) (by decide) ?_)
  exact .nil _

/-- The two keys of the kernel, over typed buffers; -/
abbrev sliceK : List (HloOp KernelIdeal.τ KernelIdeal.sig (Elt F)) :=
  [ TRef.unary (.of KernelIdeal.main_v7 : TRef _ ⟨KernelIdeal.S2x2, .i32⟩) (.of KernelIdeal.main_v8 : TRef _ ⟨KernelIdeal.S1x2, .i32⟩) ((extractStridedSlice KernelIdeal.S1x2 ![0, 0] · KernelIdeal.Gen.slices_S2x2_S1x2_0_0)),
    TRef.reshape (.of KernelIdeal.main_v8 : TRef _ ⟨KernelIdeal.S1x2, .i32⟩) (.of KernelIdeal.main_v9 : TRef _ ⟨KernelIdeal.S2, .i32⟩) rfl KernelIdeal.Gen.shapeCasts_S1x2_S2,
    TRef.unary (.of KernelIdeal.main_v7 : TRef _ ⟨KernelIdeal.S2x2, .i32⟩) (.of KernelIdeal.main_v10 : TRef _ ⟨KernelIdeal.S1x2, .i32⟩) ((extractStridedSlice KernelIdeal.S1x2 ![1, 0] · KernelIdeal.Gen.slices_S2x2_S1x2_1_0)),
    TRef.reshape (.of KernelIdeal.main_v10 : TRef _ ⟨KernelIdeal.S1x2, .i32⟩) (.of KernelIdeal.main_v11 : TRef _ ⟨KernelIdeal.S2, .i32⟩) rfl KernelIdeal.Gen.shapeCasts_S1x2_S2 ]

set_option maxHeartbeats 4000000 in
theorem sliceK_eq : (hostOps0_2 : List (HloOp KernelIdeal.τ KernelIdeal.sig (Elt F))) = sliceK := by
  chain_rfl

/-- The two keys of the reference, over typed buffers; -/
abbrev sliceR : List (HloOp ReferenceIdeal.τ ReferenceIdeal.sig (Elt F)) :=
  [ TRef.unary (.of ReferenceIdeal.main_v25 : TRef _ ⟨ReferenceIdeal.S2x2, .i32⟩) (.of ReferenceIdeal.main_v26 : TRef _ ⟨ReferenceIdeal.S1x2, .i32⟩) ((extractStridedSlice ReferenceIdeal.S1x2 ![0, 0] · ReferenceIdeal.Gen.slices_S2x2_S1x2_0_0)),
    TRef.reshape (.of ReferenceIdeal.main_v26 : TRef _ ⟨ReferenceIdeal.S1x2, .i32⟩) (.of ReferenceIdeal.main_v27 : TRef _ ⟨ReferenceIdeal.S2, .i32⟩) rfl ReferenceIdeal.Gen.shapeCasts_S1x2_S2,
    TRef.unary (.of ReferenceIdeal.main_v25 : TRef _ ⟨ReferenceIdeal.S2x2, .i32⟩) (.of ReferenceIdeal.main_v28 : TRef _ ⟨ReferenceIdeal.S1x2, .i32⟩) ((extractStridedSlice ReferenceIdeal.S1x2 ![1, 0] · ReferenceIdeal.Gen.slices_S2x2_S1x2_1_0)),
    TRef.reshape (.of ReferenceIdeal.main_v28 : TRef _ ⟨ReferenceIdeal.S1x2, .i32⟩) (.of ReferenceIdeal.main_v29 : TRef _ ⟨ReferenceIdeal.S2, .i32⟩) rfl ReferenceIdeal.Gen.shapeCasts_S1x2_S2 ]

set_option maxHeartbeats 4000000 in
theorem sliceR_eq : (refSlice : List (HloOp ReferenceIdeal.τ ReferenceIdeal.sig (Elt F))) = sliceR := by
  chain_rfl

/-- The two keys of both programs. -/
theorem steps_slice : Steps 251 255 (hostOps0_2 (F := F)) refSlice := by
  rw [sliceK_eq, sliceR_eq]
  repeat (first
    | with_reducible refine .binary (by decide) (by decide) (by decide) ?_
    | with_reducible refine .unary (by decide) (by decide) ?_
    | with_reducible refine .nullary (by decide) ?_
    | with_reducible refine .reshape (by decide) (by decide) ?_)
  exact .nil _

set_option maxHeartbeats 40000000 in
/-- The noise. -/
theorem steps_gumbel : Steps 255 522 (hostOps0_3 (F := F)) refGumbel := by
  repeat (first
    | with_reducible refine .binary (by decide) (by decide) (by decide) ?_
    | with_reducible refine .unary (by decide) (by decide) ?_
    | with_reducible refine .nullary (by decide) ?_
    | with_reducible refine .reshape (by decide) (by decide) ?_)
  exact .nil _

/-- Launched from any two memories, the two programs compute the same noise. -/
theorem noise_eq (m : (ℓ : Loc KernelIdeal.nD KernelIdeal.τ KernelIdeal.sig) → Buf (Elt F) ℓ)
    (m' : (ℓ : Loc ReferenceIdeal.nD ReferenceIdeal.τ ReferenceIdeal.sig) → Buf (Elt F) ℓ) (c : Dev KernelIdeal.nD) :
    val (.of KernelIdeal.main_v12 : TRef _ ⟨KernelIdeal.S32x1000000, .f32⟩) (KernelIdeal.Gen.V4 m c)
      = val (.of ReferenceIdeal.main_v30 : TRef _ ⟨ReferenceIdeal.S32x1000000, .f32⟩) (R4 m' c) := by
  have h0 : Agree 3 (KernelIdeal.Gen.V0 m c) (after refScore (R0 m' c)) := fun _ _ _ k h3 hk => absurd hk (by omega)
  have h1 : Agree 13 (KernelIdeal.Gen.V1 m c) (R1 m' c) := by
    unfold R1
    rw [after_append]
    exact steps_key _ _ h0
  have h4 := steps_gumbel _ _ (steps_slice _ _ (steps_split _ _ h1))
  exact h4 _ (.of KernelIdeal.main_v12 : TRef _ ⟨KernelIdeal.S32x1000000, .f32⟩)
    (.of ReferenceIdeal.main_v30 : TRef _ ⟨ReferenceIdeal.S32x1000000, .f32⟩) 521 (by decide) (by decide) (by decide)

end Noise

end Cert.Proof.Sim

end
-- ==== Proof.Best.lean ====
/-
  The first place of the greatest entry. `Best y lo hi i` says that on the stretch from `lo` to `hi` the entry at `i` is the greatest, and the
  first of its value. There is at most one such place; two neighbouring stretches join; and a running
  choice over any list that keeps the better of two entries ends at it.
-/
module

public import Idealize.ShloMosaic.PureOps.Ideal.Laws

@[expose] public section

namespace Cert.Proof.Best
open Idealize.ShloMosaic

/-- On `[lo, hi)` the entry at `i` is the greatest and the first among its equals. -/
def Best (y : ℕ → EReal) (lo hi i : ℕ) : Prop :=
  lo ≤ i ∧ i < hi ∧ ∀ k, lo ≤ k → k < hi → y k < y i ∨ (y k = y i ∧ i ≤ k)

variable {y : ℕ → EReal} {lo mid hi i j : ℕ}

/-- There is one such place. -/
theorem Best.unique (h : Best y lo hi i) (h' : Best y lo hi j) : i = j := by
  rcases h.2.2 j h'.1 h'.2.1 with a | ⟨a, b⟩ <;> rcases h'.2.2 i h.1 h.2.1 with a' | ⟨a', b'⟩
  · exact absurd a' (not_lt.mpr a.le)
  · exact absurd a' a.ne'
  · exact absurd a a'.ne'
  · exact le_antisymm b b'

/-- Two neighbouring stretches: the later place wins where its entry is strictly greater. -/
theorem Best.append (h : Best y lo mid i) (h' : Best y mid hi j) : Best y lo hi (if y i < y j then j else i) := by
  have h1 := h.1; have h2 := h.2.1; have h3 := h'.1; have h4 := h'.2.1
  by_cases c : y i < y j
  · rw [if_pos c]
    refine ⟨by omega, by omega, fun k a b => ?_⟩
    by_cases hk : k < mid
    · left
      rcases h.2.2 k a hk with e | ⟨e, _⟩
      · exact e.trans c
      · rw [e]; exact c
    · exact h'.2.2 k (by omega) b
  · rw [if_neg c]
    refine ⟨by omega, by omega, fun k a b => ?_⟩
    by_cases hk : k < mid
    · exact h.2.2 k a hk
    · have hi : i ≤ k := by omega
      have hk' : y k ≤ y j := by
        rcases h'.2.2 k (by omega) b with e | ⟨e, _⟩
        · exact e.le
        · exact e.le
      rcases lt_or_eq_of_le (hk'.trans (not_lt.mp c)) with e | e
      · exact .inl e
      · exact .inr ⟨e, hi⟩

/-- Entries past the end are the least value, so the place is before the end. -/
theorem Best.clip {M : ℕ} (h : Best y 0 hi i) (h0 : 0 < M) (hM : M ≤ hi) (hy : ∀ k, M ≤ k → y k = ⊥) : Best y 0 M i := by
  refine ⟨h.1, ?_, fun k a b => h.2.2 k a (by omega)⟩
  by_contra hc
  have hb := hy i (by omega)
  rcases h.2.2 0 le_rfl (by omega) with e | ⟨_, e⟩
  · rw [hb] at e; exact absurd e not_lt_bot
  · omega

/-- A running choice over a list that always takes one of its two operands, no worse than both by a
    transitive relation, ends at the start or a member, no worse than the start and every member. -/
theorem foldl_choice {α : Type} (f : α → α → α) (R : α → α → Prop) (htr : ∀ a b c, R a b → R b c → R a c) (hr : ∀ a, R a a)
    (hf : ∀ a b, (f a b = a ∨ f a b = b) ∧ R a (f a b) ∧ R b (f a b)) (L : List α) (a : α) :
    (L.foldl f a = a ∨ L.foldl f a ∈ L) ∧ R a (L.foldl f a) ∧ ∀ b ∈ L, R b (L.foldl f a) := by
  induction L generalizing a with
  | nil => exact ⟨.inl rfl, hr a, fun b hb => absurd hb List.not_mem_nil⟩
  | cons b L ih =>
    obtain ⟨h1, h2, h3⟩ := ih (f a b)
    obtain ⟨g1, g2, g3⟩ := hf a b
    rw [List.foldl_cons]
    refine ⟨?_, htr _ _ _ g2 h2, fun c hc => ?_⟩
    · rcases h1 with h1 | h1
      · rw [h1]
        rcases g1 with g1 | g1
        · exact .inl g1
        · rw [g1]; exact .inr List.mem_cons_self
      · exact .inr (List.mem_cons_of_mem _ h1)
    · rcases List.mem_cons.mp hc with rfl | hc
      · exact htr _ _ _ g3 h2
      · exact h3 c hc

/-- The same over a finite set, for an operation whose order of application does not matter. -/
theorem fold_choice {α β : Type} (f : α → α → α) [Std.Commutative f] [Std.Associative f] (R : α → α → Prop)
    (htr : ∀ a b c, R a b → R b c → R a c) (hr : ∀ a, R a a)
    (hf : ∀ a b, (f a b = a ∨ f a b = b) ∧ R a (f a b) ∧ R b (f a b)) (S : Finset β) (a : α) (g : β → α) :
    (S.fold f a g = a ∨ ∃ b ∈ S, S.fold f a g = g b) ∧ R a (S.fold f a g) ∧ ∀ b ∈ S, R (g b) (S.fold f a g) := by
  have h := foldl_choice f R htr hr hf (S.toList.map g) a
  have e : S.fold f a g = (S.toList.map g).foldl f a := by
    rw [Finset.fold, ← Finset.coe_toList, Multiset.map_coe, Multiset.coe_fold_l]
  rw [← e] at h
  refine ⟨?_, h.2.1, fun b hb => h.2.2 _ (List.mem_map.mpr ⟨b, Finset.mem_toList.mpr hb, rfl⟩)⟩
  rcases h.1 with h | h
  · exact .inl h
  · obtain ⟨b, hb, hb'⟩ := List.mem_map.mp h
    exact .inr ⟨b, Finset.mem_toList.mp hb, hb'.symm⟩

/-- A small number as a signed word. -/
theorem toInt_small (k : ℕ) (h : k < 2147483648) : (BitVec.ofNat 32 k).toInt = k := by
  rw [BitVec.toInt_eq_toNat_of_lt (by rw [BitVec.toNat_ofNat]; omega), BitVec.toNat_ofNat, Nat.mod_eq_of_lt (by omega)]

/-- One stretch of `b` entries: the greatest value, and the least of the columns that attain it, read off the two
    reductions a block is put through. -/
theorem block {b n : ℕ} (hb : 0 < b) (hn : (n + 1) * b < 2147483647) (y : ℕ → EReal) (M : EReal) (m : BitVec 32)
    (hM : M = (Finset.univ : Finset (Fin b)).fold max ⊥ fun l => y (n * b + l.val))
    (hm : m = (Finset.univ : Finset (Fin b)).fold IntOp.minsi 2147483647#32
      fun l => if y (n * b + l.val) = M then BitVec.ofNat 32 (n * b + l.val) else 2147483647#32) :
    ∃ j, Best y (n * b) ((n + 1) * b) j ∧ M = y j ∧ m = BitVec.ofNat 32 j := by
  have hs : (n + 1) * b = n * b + b := Nat.succ_mul n b
  obtain ⟨h1, -, h3⟩ := fold_choice (max : EReal → EReal → EReal) (· ≤ ·) (fun _ _ _ => le_trans) le_refl
    (fun a c => ⟨max_choice a c, le_max_left _ _, le_max_right _ _⟩) (Finset.univ : Finset (Fin b)) ⊥ (fun l => y (n * b + l.val))
  rw [← hM] at h1 h3
  obtain ⟨g1, -, g3⟩ := fold_choice (IntOp.minsi : BitVec 32 → BitVec 32 → BitVec 32) (fun a c => c.toInt ≤ a.toInt)
    (fun _ _ _ h h' => le_trans h' h) (fun _ => le_refl _)
    (fun a c => by
      show ((if a.slt c then a else c) = a ∨ (if a.slt c then a else c) = c) ∧ (if a.slt c then a else c).toInt ≤ a.toInt
        ∧ (if a.slt c then a else c).toInt ≤ c.toInt
      by_cases h : a.toInt < c.toInt
      · rw [show a.slt c = true from decide_eq_true h, if_pos rfl]; exact ⟨.inl rfl, le_refl _, h.le⟩
      · rw [show a.slt c = false from decide_eq_false h, if_neg Bool.false_ne_true]; exact ⟨.inr rfl, not_lt.mp h, le_refl _⟩)
    (Finset.univ : Finset (Fin b)) 2147483647#32
    (fun l => if y (n * b + l.val) = M then BitVec.ofNat 32 (n * b + l.val) else 2147483647#32)
  rw [← hm] at g1 g3
  have hle : ∀ l : Fin b, y (n * b + l.val) = M → m.toInt ≤ ((n * b + l.val : ℕ) : ℤ) := fun l hl => by
    have := g3 l (Finset.mem_univ _)
    rw [if_pos hl, toInt_small _ (by have := l.isLt; omega)] at this
    exact this
  have hbig : (2147483647#32 : BitVec 32).toInt = 2147483647 := rfl
  obtain ⟨l0, hl0⟩ : ∃ l : Fin b, y (n * b + l.val) = M := by
    rcases h1 with h1 | ⟨l, -, h1⟩
    · exact ⟨⟨0, hb⟩, by rw [h1]; exact le_bot_iff.mp (h1 ▸ h3 ⟨0, hb⟩ (Finset.mem_univ _))⟩
    · exact ⟨l, h1.symm⟩
  have h0 := hle l0 hl0
  have hl0' := l0.isLt
  rcases g1 with g1 | ⟨l, -, g1⟩
  · rw [g1, hbig] at h0; omega
  by_cases hl : y (n * b + l.val) = M
  · rw [if_pos hl] at g1
    have hl' := l.isLt
    refine ⟨n * b + l.val, ⟨by omega, by omega, fun k a c => ?_⟩, hl.symm, g1⟩
    have hk : n * b + (k - n * b) = k := by omega
    have hk3 := h3 ⟨k - n * b, by omega⟩ (Finset.mem_univ _)
    have hkl := hle ⟨k - n * b, by omega⟩
    simp only [hk] at hk3 hkl
    rw [hl]
    rcases lt_or_eq_of_le hk3 with e | e
    · exact .inl e
    · refine .inr ⟨e, ?_⟩
      have := hkl e
      rw [g1, toInt_small _ (by omega)] at this
      omega
  · rw [if_neg hl] at g1
    rw [g1, hbig] at h0; omega

end Cert.Proof.Best
-- ==== Proof.RefPick.lean ====
/-
  What the reference's row reduction picks, over the extended reals: the first column whose entry is the greatest.
-/
module

public import proofs.«01_k».proof.Proof.RefOps
public import proofs.«01_k».proof.Proof.Best
public import Idealize.ShloMosaic.Lib.Pointwise
public import Idealize.ShloMosaic.Lib.Pointwise.Reduce

@[expose] public section

set_option maxRecDepth 16384

noncomputable section

namespace Cert.Proof.Ref

open Cert.ReferenceIdeal Cert.ReferenceIdeal.Gen Cert.Proof.Best
open Idealize.ShloMosaic

/-- Of two pairs the second is no worse: its value is greater, or is equal with a column no later. -/
def NoWorse (a b : EReal × BitVec 32) : Prop := a.1 < b.1 ∨ (a.1 = b.1 ∧ b.2.toInt ≤ a.2.toInt)

/-- No worse than no worse is no worse. -/
theorem NoWorse.trans (a b c : EReal × BitVec 32) (h : NoWorse a b) (h' : NoWorse b c) : NoWorse a c := by
  rcases h with h | ⟨h, g⟩ <;> rcases h' with h' | ⟨h', g'⟩
  · exact .inl (h.trans h')
  · exact .inl (h' ▸ h)
  · exact .inl (h ▸ h')
  · exact .inr ⟨h.trans h', g'.trans g⟩

/-- The reference's choice of two pairs: the first where its value is greater, or equal with an earlier column. -/
theorem reducer_eq (a b : EReal × BitVec 32) : reducer_argmax_f32_i32 (F := Ideal) a b
    = if b.1 < a.1 ∨ (a.1 = b.1 ∧ a.2.toInt < b.2.toInt) then a else b := by
  obtain ⟨a1, a2⟩ := a
  obtain ⟨b1, b2⟩ := b
  show ((if (BitVec.ofBool (decide (b1 < a1)) ||| BitVec.ofBool (decide (a1 ≠ a1))) = 1#1 then a1 else b1),
    (if (BitVec.ofBool (decide (b1 < a1)) ||| BitVec.ofBool (decide (a1 ≠ a1)))
      ||| (BitVec.ofBool (decide (a1 = b1)) &&& BitVec.ofBool (decide (a2.toInt < b2.toInt))) = 1#1 then a2 else b2)) = _
  by_cases h1 : b1 < a1
  · have h2 : a1 ≠ b1 := h1.ne'
    simp [h1, h2]
  · by_cases h2 : a1 = b1
    · subst h2
      by_cases h3 : a2.toInt < b2.toInt <;> simp [h3]
    · simp [h1, h2]

/-- The choice takes one of the two, no worse than both. -/
theorem reducer_choice (a b : EReal × BitVec 32) :
    (reducer_argmax_f32_i32 (F := Ideal) a b = a ∨ reducer_argmax_f32_i32 (F := Ideal) a b = b)
      ∧ NoWorse a (reducer_argmax_f32_i32 (F := Ideal) a b) ∧ NoWorse b (reducer_argmax_f32_i32 (F := Ideal) a b) := by
  rw [reducer_eq]
  by_cases h : b.1 < a.1 ∨ (a.1 = b.1 ∧ a.2.toInt < b.2.toInt)
  · rw [if_pos h]
    exact ⟨.inl rfl, .inr ⟨rfl, le_rfl⟩, h.imp id fun h => ⟨h.1.symm, h.2.le⟩⟩
  · rw [if_neg h]
    push Not at h
    refine ⟨.inr rfl, ?_, .inr ⟨rfl, le_rfl⟩⟩
    rcases lt_or_eq_of_le h.1 with e | e
    · exact .inl e
    · exact .inr ⟨e, h.2 e⟩

/-- The second of each pair. -/
def seconds {s : Shape} {α : Type} (p : s.Idx → α × BitVec 32) : s.Idx → BitVec 32 := fun j => (p j).2

/-- The column the row's reduction picks. -/
theorem pick {a b : ℕ} (hb : 0 < b) (hb' : b < 2147483648) (x : (⟨2, ![a, b]⟩ : Shape).Idx → EReal) (u : S_.Idx → EReal) (v : S_.Idx → BitVec 32)
    (hu : ∀ i, u i = ⊥) (hv : ∀ i, v i = 0#32) (h : (⟨2, ![a, b]⟩ : Shape).ReducesTo [1] ⟨1, ![a]⟩) (h0 : 0 < S_.numel) (y : ℕ → EReal) (r : Fin a)
    (hy : ∀ k : Fin b, y k.val = x (ix2 r k)) (p : (⟨1, ![a]⟩ : Shape).Idx → EReal × BitVec 32)
    (hp : p = Host.argReduce (F := Ideal) (φ := .f32) reducer_argmax_f32_i32 x (iotaInDim ⟨2, ![a, b]⟩ 32 1) u v h h0) :
    ∃ j, Best y 0 b j ∧ seconds p (ix1 r) = BitVec.ofNat 32 j := by
  show ∃ j, Best y 0 b j ∧ (p (ix1 r)).2 = BitVec.ofNat 32 j
  subst hp
  have e : Host.argReduce (F := Ideal) (φ := .f32) reducer_argmax_f32_i32 x (iotaInDim ⟨2, ![a, b]⟩ 32 1) u v h h0 (ix1 r)
      = (Host.argReduceFiber x (iotaInDim ⟨2, ![a, b]⟩ 32 1) h (ix1 r)).foldl (reducer_argmax_f32_i32 (F := Ideal)) (⊥, 0#32) := by
    rw [Ideal.argReduce_eq_reduce2, Host.reduce2_eq_foldl_fiber, hu, hv]
  have hmem : ∀ p : EReal × BitVec 32, p ∈ Host.argReduceFiber x (iotaInDim ⟨2, ![a, b]⟩ 32 1) h (ix1 r)
      ↔ ∃ k : Fin b, (y k.val, BitVec.ofNat 32 k.val) = p := fun p => by
    unfold Host.argReduceFiber
    rw [List.mem_map]
    constructor
    · rintro ⟨n, hn, rfl⟩
      have hn := of_decide_eq_true (List.mem_filter.mp hn).2
      obtain ⟨k, hk⟩ := (h.fiber_r2_a1 (ix1 r) _).mp hn
      refine ⟨k, ?_⟩
      rw [← hk, hy k]
      rfl
    · rintro ⟨k, rfl⟩
      refine ⟨Shape.rowMajor _ (ix2 r k), List.mem_filter.mpr ⟨List.mem_finRange _, decide_eq_true ?_⟩, ?_⟩
      · rw [Equiv.symm_apply_apply]
        exact (h.fiber_r2_a1 (ix1 r) _).mpr ⟨k, rfl⟩
      · rw [Equiv.symm_apply_apply, hy k]
        rfl
  obtain ⟨h1, -, h3⟩ := foldl_choice (reducer_argmax_f32_i32 (F := Ideal)) NoWorse NoWorse.trans (fun _ => .inr ⟨rfl, le_rfl⟩) reducer_choice
    (Host.argReduceFiber x (iotaInDim ⟨2, ![a, b]⟩ 32 1) h (ix1 r)) (⊥, 0#32)
  rw [← e] at h1 h3
  have hall : ∀ k : Fin b, NoWorse (y k.val, BitVec.ofNat 32 k.val) _ := fun k => h3 _ ((hmem _).mpr ⟨k, rfl⟩)
  obtain ⟨k, hk⟩ : ∃ k : Fin b, (y k.val, BitVec.ofNat 32 k.val)
      = Host.argReduce (F := Ideal) (φ := .f32) reducer_argmax_f32_i32 x (iotaInDim ⟨2, ![a, b]⟩ 32 1) u v h h0 (ix1 r) := by
    rcases h1 with h1 | h1
    · refine ⟨⟨0, hb⟩, ?_⟩
      have h2 := hall ⟨0, hb⟩
      rw [h1] at h2 ⊢
      rcases h2 with h2 | ⟨h2, -⟩
      · exact absurd h2 not_lt_bot
      · exact Prod.ext h2 rfl
    · exact (hmem _).mp h1
  refine ⟨k.val, ⟨Nat.zero_le _, k.isLt, fun l _ hl => ?_⟩, by rw [← hk]⟩
  have h2 := hall ⟨l, hl⟩
  rw [← hk] at h2
  refine h2.imp id fun h2 => ⟨h2.1, ?_⟩
  have h3 := h2.2
  have hk' := k.isLt
  rw [toInt_small _ (by omega), toInt_small _ (by show l < _; omega)] at h3
  exact_mod_cast h3

end Cert.Proof.Ref
-- ==== Proof.RefValue.lean ====
/-
  What the reference computes: its last buffers as functions of its arguments and of its noise.
-/
module

public import proofs.«01_k».proof.Proof.RefRun
public import proofs.«01_k».proof.Proof.RefPick
public import Idealize.ShloMosaic.Lib.StableHlo.Run

@[expose] public section

set_option maxRecDepth 16384

noncomputable section

namespace Cert.Proof.Ref

open Cert.ReferenceIdeal Cert.ReferenceIdeal.Gen
open Idealize.ShloMosaic Idealize.ShloMosaic.TcCoe
open Idealize.ShloMosaic.StableHlo (after)

variable {F : FTy → Type} [FloatOps F]

/-- The sum of an array's entries over their number. -/
def average (x : S32x1000000.Idx → Elt F .f32) : S_.Idx → Elt F .f32 :=
  Host.divf (Host.reduceAdd x (constant S_ .f32 0x00000000#32) reducesTo_S32x1000000_S_d0_1 h_S_) (constant S_ .f32 0x4BF42400#32)

/-- The array less its average. -/
def centred (x : S32x1000000.Idx → Elt F .f32) : S32x1000000.Idx → Elt F .f32 :=
  subf x (broadcastInDim S32x1000000 ![] bcast_S_S32x1000000 (average x))

/-- The square root of the average square of that. -/
def dev (x : S32x1000000.Idx → Elt F .f32) : S_.Idx → Elt F .f32 := Host.sqrt (average (mulf (centred x) (centred x)))

/-- The logits normalised, scaled by `s` and shifted by `b`. -/
def scaled (x : S32x1000000.Idx → Elt F .f32) (s b : S_.Idx → Elt F .f32) : S32x1000000.Idx → Elt F .f32 :=
  addf (mulf (Host.divf (centred x) (broadcastInDim S32x1000000 ![] bcast_S_S32x1000000 (addf (mulf (dev x) (dev x)) (constant S_ .f32 0x3727C5AC#32))))
    (broadcastInDim S32x1000000 ![] bcast_S_S32x1000000 s)) (broadcastInDim S32x1000000 ![] bcast_S_S32x1000000 b)

/-- Each row's greatest entry and its column. -/
def picked (y : S32x1000000.Idx → Elt F .f32) : S32.Idx → Elt F .f32 × BitVec 32 :=
  Host.argReduce reducer_argmax_f32_i32 y (iotaInDim S32x1000000 32 1) (constant S_ .f32 0xFF800000#32) (constantI S_ 32 0#32)
    reducesTo_S32x1000000_S32_d1 h_S_

/-- Each row's column. -/
def column (y : S32x1000000.Idx → Elt F .f32) : S32.Idx → BitVec 32 := seconds (picked y)

/-- The table of the columns. -/
def table (v : S32.Idx → BitVec 32) : S32x1000000.Idx → Elt F .f32 :=
  uitofp .f32 (cmpi .eq (broadcastInDim S32x1000000 ![0, 1] bcast_S32x1_S32x1000000_0_1 (broadcastInDim S32x1 ![0] bcast_S32_S32x1_0 v))
    (broadcastInDim S32x1000000 ![0, 1] bcast_S1x1000000_S32x1000000_0_1 (iotaInDim S1x1000000 32 1)))

set_option maxHeartbeats 4000000 in
/-- The first stretch leaves the normalised logits, -/
theorem after_score (V : Valuation τ sig (Elt F)) : after refScore V main_v17 = scaled (V main_arg0) (V main_arg1) (V main_arg2) := by
  after_results_simp
  rfl

/-- the fifth the score, -/
theorem after_add (V : Valuation τ sig (Elt F)) : after refAdd V main_v31 = addf (V main_v30 : S32x1000000.Idx → Elt F .f32) (V main_v17) := by
  after_results_simp

/-- the sixth each row's column, -/
theorem after_argmax (V : Valuation τ sig (Elt F)) : after refArgmax V main_v32 = column (V main_v31) := by
  after_results_simp
  rfl

/-- and the last the table. -/
theorem after_onehot (V : Valuation τ sig (Elt F)) : after refOneHot V main_v33 = table (V main_v32) := by
  after_results_simp
  rfl

variable (m : (ℓ : Loc nD τ sig) → Buf (Elt F) ℓ)

/-- The normalised logits outlast the noise's stretches. -/
theorem R4_score (c : Dev nD) : R4 m c main_v17 = scaled (m (c, Proc.devRef .tc main_arg0)) (m (c, Proc.devRef .tc main_arg1)) (m (c, Proc.devRef .tc main_arg2)) := by
  refine (StableHlo.after_of_writes_sub refGumbel _ refGumbel_writes (by decide)).trans ?_
  refine (StableHlo.after_of_writes_sub refSlice _ refSlice_writes (by decide)).trans ?_
  refine (StableHlo.after_of_writes_sub refSplit _ refSplit_writes (by decide)).trans ?_
  refine (congrFun (after_append refScore refKey (R0 m c)) _).trans ?_
  refine (StableHlo.after_of_writes_sub refKey _ refKey_writes (by decide)).trans ?_
  exact after_score _

/-- The reference's result. -/
theorem R7_result (c : Dev nD) : R7 m c main_v33 = table (column (addf (R4 m c main_v30 : S32x1000000.Idx → Elt F .f32)
    (scaled (m (c, Proc.devRef .tc main_arg0)) (m (c, Proc.devRef .tc main_arg1)) (m (c, Proc.devRef .tc main_arg2))))) := by
  unfold R7 R6 R5
  rw [after_onehot, after_argmax, after_add, R4_score]

end Cert.Proof.Ref
-- ==== Proof.Spread.lean ====
/-
  The spread of a table of extended reals. The kernel takes the variance as the mean of the squares less the square of the mean, the reference as
  the mean of the squared distances from the mean. For finite entries these are one number, not below
  zero. With an infinite entry the first is `⊥` and the second `⊤`; the square of the square root is `⊤`
  for both. So the squared deviation is the same in every case.
-/
module

public import Idealize.ShloMosaic.PureOps.Ideal.Laws

@[expose] public section

namespace Cert.Proof.Spread
open Idealize.ShloMosaic
open scoped BigOperators

variable {ι : Type} [Fintype ι]

/-- A sum with `⊥` among its terms is `⊥`. -/
theorem sum_bot (x : ι → EReal) (i : ι) (h : x i = ⊥) : ∑ j, x j = ⊥ := by
  classical
  rw [← Finset.add_sum_erase _ _ (Finset.mem_univ i), h, EReal.bot_add]

/-- A sum with `⊤` among its terms and no `⊥` is `⊤`. -/
theorem sum_top (x : ι → EReal) (i : ι) (h : x i = ⊤) (hb : ∀ j, x j ≠ ⊥) : ∑ j, x j = ⊤ := by
  classical
  rw [← Finset.add_sum_erase _ _ (Finset.mem_univ i), h]
  refine EReal.top_add_of_ne_bot ?_
  refine Finset.sum_induction x (fun a => a ≠ ⊥) (fun a b ha hb h => ?_) EReal.zero_ne_bot fun j _ => hb j
  rcases EReal.add_eq_bot_iff.mp h with h | h
  · exact ha h
  · exact hb h

/-- The coercion of a finite sum of reals. -/
theorem coe_sum (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A square is not `⊥`. -/
theorem mul_self_ne_bot (a : EReal) : a * a ≠ ⊥ := by
  induction a with
  | bot => rw [EReal.bot_mul_bot]; exact top_ne_bot
  | top => rw [EReal.top_mul_top]; exact top_ne_bot
  | coe r => rw [← EReal.coe_mul]; exact EReal.coe_ne_bot _

/-- The distance from an infinite centre has square `⊤`. -/
theorem dist_infinite (a m : EReal) (h : m = ⊤ ∨ m = ⊥) : (a - m) * (a - m) = ⊤ := by
  rcases h with rfl | rfl
  · rw [EReal.sub_top, EReal.bot_mul_bot]
  · by_cases h : a = ⊥
    · subst h; rw [sub_eq_add_neg, EReal.bot_add, EReal.bot_mul_bot]
    · rw [EReal.sub_bot h, EReal.top_mul_top]

/-- The squared deviation is one value whichever way the variance is taken. -/
theorem dev_eq (x : ι → EReal) (T : ℝ) (hT : (Fintype.card ι : ℝ) = T) (h0 : 0 < T) (m : EReal)
    (hm : m = Ideal.div (∑ i, x i) (T : EReal)) (d v : EReal)
    (hd : d = Ideal.div (∑ i, x i * x i) (T : EReal) - m * m)
    (hv : v = Ideal.div (∑ i, (x i - m) * (x i - m)) (T : EReal)) :
    Ideal.sqrt d * Ideal.sqrt d = Ideal.sqrt v * Ideal.sqrt v := by
  have hc : 0 < (1 / T : ℝ) := one_div_pos.mpr h0
  rw [Ideal.div_coe h0.ne'] at hm hd hv
  by_cases hfin : ∀ i, x i ≠ ⊥ ∧ x i ≠ ⊤
  · obtain ⟨f, rfl⟩ : ∃ f : ι → ℝ, x = fun i => (f i : EReal) :=
      ⟨fun i => (x i).toReal, funext fun i => (EReal.coe_toReal (hfin i).2 (hfin i).1).symm⟩
    suffices d = v by rw [this]
    simp only [← EReal.coe_mul, ← coe_sum] at hm hd
    subst hm
    simp only [← EReal.coe_mul, ← EReal.coe_sub, ← coe_sum] at hd hv
    rw [hd, hv, EReal.coe_eq_coe_iff]
    have hs : ∑ i, (f i - (∑ i, f i) * (1 / T)) * (f i - (∑ i, f i) * (1 / T))
        = ∑ i, f i * f i - 2 * ((∑ i, f i) * (1 / T)) * ∑ i, f i + T * (((∑ i, f i) * (1 / T)) * ((∑ i, f i) * (1 / T))) := by
      rw [← hT, Finset.mul_sum, ← Finset.sum_sub_distrib, ← nsmul_eq_mul, ← Finset.card_univ, ← Finset.sum_const, ← Finset.sum_add_distrib]
      exact Finset.sum_congr rfl fun i _ => by ring
    rw [hs]; field_simp; ring
  · have hS : (∑ i, x i = ⊤ ∨ ∑ i, x i = ⊥) ∧ ∃ i, x i * x i = ⊤ := by
      by_cases hb : ∃ i, x i = ⊥
      · obtain ⟨i, hi⟩ := hb
        exact ⟨.inr (sum_bot x i hi), i, by rw [hi, EReal.bot_mul_bot]⟩
      · push Not at hb hfin
        obtain ⟨i, hi⟩ := hfin
        exact ⟨.inl (sum_top x i (hi (hb i)) hb), i, by rw [hi (hb i), EReal.top_mul_top]⟩
    obtain ⟨hS, i, hi⟩ := hS
    have hmi : m = ⊤ ∨ m = ⊥ := by
      rcases hS with hS | hS
      · left; rw [hm, hS, EReal.top_mul_coe_of_pos hc]
      · right; rw [hm, hS, EReal.bot_mul_coe_of_pos hc]
    have hmm : m * m = ⊤ := by rcases hmi with h | h <;> rw [h] <;> simp
    have hd' : d = ⊥ := by rw [hd, hmm, EReal.sub_top]
    have hv' : v = ⊤ := by
      rw [hv, sum_top (fun i => (x i - m) * (x i - m)) i (dist_infinite _ _ hmi) fun j => mul_self_ne_bot _, EReal.top_mul_coe_of_pos hc]
    rw [hd', hv', Ideal.sqrt_bot, Ideal.sqrt_top, EReal.bot_mul_bot, EReal.top_mul_top]

/-- The same with the averages written out. -/
theorem dev_eq_div (x : ι → EReal) (T : ℝ) (hT : (Fintype.card ι : ℝ) = T) (h0 : 0 < T) :
    Ideal.sqrt (Ideal.div (∑ i, (x i - Ideal.div (∑ i, x i) (T : EReal)) * (x i - Ideal.div (∑ i, x i) (T : EReal))) (T : EReal))
      * Ideal.sqrt (Ideal.div (∑ i, (x i - Ideal.div (∑ i, x i) (T : EReal)) * (x i - Ideal.div (∑ i, x i) (T : EReal))) (T : EReal))
      = Ideal.sqrt (Ideal.div (∑ i, x i * x i) (T : EReal) - Ideal.div (∑ i, x i) (T : EReal) * Ideal.div (∑ i, x i) (T : EReal))
        * Ideal.sqrt (Ideal.div (∑ i, x i * x i) (T : EReal) - Ideal.div (∑ i, x i) (T : EReal) * Ideal.div (∑ i, x i) (T : EReal)) :=
  (dev_eq x T hT h0 _ rfl _ _ rfl rfl).symm

/-- Sums of equal-length stretches add up to the sum of the whole stretch. -/
theorem sum_stretch (g : ℕ → EReal) (n b : ℕ) :
    ∑ k ∈ Finset.range (n * b), g k + ∑ l ∈ Finset.range b, g (n * b + l) = ∑ k ∈ Finset.range ((n + 1) * b), g k := by
  rw [Nat.succ_mul, Finset.sum_range_add]

/-- Entries past the end are zero, and the sum is the sum up to the end. -/
theorem sum_clip (g : ℕ → EReal) (M N : ℕ) (h : M ≤ N) (h0 : ∀ k, M ≤ k → g k = 0) :
    ∑ k ∈ Finset.range N, g k = ∑ k ∈ Finset.range M, g k := by
  refine (Finset.sum_subset (Finset.range_mono h) fun k _ hk => h0 k ?_).symm
  simpa using hk

end Cert.Proof.Spread
-- ==== Proof.StatsValue.lean ====
/-
  What the first kernel's two accumulators hold in the end, over the extended reals: the sum of all logits and the sum
  of their squares.
-/
module

public import proofs.«01_k».proof.Proof.Stats
public import proofs.«01_k».proof.Proof.Spread
public import Idealize.ShloMosaic.Lib.Pointwise
public import Idealize.ShloMosaic.Lib.Pointwise.Reduce
public import Idealize.ShloMosaic.Lib.ValueLayout
public import Idealize.ShloMosaic.Lib.ValueIdx
public import Idealize.ShloMosaic.Lib.Pipeline.ValueKit.Geometry

@[expose] public section

set_option maxRecDepth 16384

noncomputable section

namespace Cert.Proof.Stats

open Cert.KernelIdeal Cert.KernelIdeal.Gen Cert.Proof.Common Cert.Proof.Spread
open Idealize.ShloMosaic Idealize.ShloMosaic.TcCoe
open Idealize.ShloMosaic.Pipeline (Window Dat)
open Idealize.ShloMosaic.ValueIdx (shapeCast_ab_1ab_apply)
open scoped BigOperators

/-- The one entry of a vector of one, read through a cast. -/
theorem only (w : S1.Idx → EReal) (j : S1.Idx) :
    extractAt ![0, 0, 0] (shapeCast S1x1x1 w shapeCasts_S1_S1x1x1) inpos_S1x1x1_p0_0_0 = w j := by
  have h : ∀ i j : S1.Idx, i = j := fun i j => funext fun a => by fin_cases a; exact Subsingleton.elim (α := Fin 1) _ _
  exact congrArg w (h _ j)

/-- A table's reduction over both axes, the table cast to a stack of one, is the sum over its rows and columns. -/
theorem total_of {a b : ℕ} (v : (⟨2, ![a, b]⟩ : Shape).Idx → EReal) (hc : (⟨2, ![a, b]⟩ : Shape).ShapeCasts ⟨3, ![1, a, b]⟩)
    (h : (⟨3, ![1, a, b]⟩ : Shape).Reduces [1, 2] ⟨1, ![1]⟩) (j : (⟨1, ![1]⟩ : Shape).Idx) :
    Ideal.reduceAdd h (shapeCast ⟨3, ![1, a, b]⟩ v hc) j = ∑ r : Fin a, ∑ l : Fin b, v (ix2 r l) := by
  rw [Ideal.reduceAdd_r3_a12]
  exact Finset.sum_congr rfl fun r _ => Finset.sum_congr rfl fun l _ => shapeCast_ab_1ab_apply v hc _ r l

/-- A block's reduction is the sum over its rows and columns. -/
theorem total (v : S32x65536.Idx → EReal) :
    extractAt ![0, 0, 0] (shapeCast S1x1x1 (multiReduction (F := Ideal) (φ := .f32) .add [1, 2] S1
      (shapeCast S1x32x65536 v shapeCasts_S32x65536_S1x32x65536) 0x00000000#32 reduces_S1x32x65536_S1 (.inl rfl) rfl)
      shapeCasts_S1_S1x1x1) inpos_S1x1x1_p0_0_0
      = ∑ r : Fin 32, ∑ l : Fin 65536, v (ix2 r l) := by
  refine (only _ (ix1 0)).trans ?_
  refine (multiReduction_add_apply _ _ reduces_S1x32x65536_S1 _ _ _).trans ?_
  have e := total_of (a := 32) (b := 65536) v shapeCasts_S32x65536_S1x32x65536 reduces_S1x32x65536_S1
  exact e (ix1 0)

variable (W : Dev nD → Valuation τ sig (Elt Ideal))

/-- A row's entries by column number, zero past the row's end. -/
def col (x : S32x1000000.Idx → EReal) (r : Fin 32) (k : ℕ) : EReal :=
  if h : k < 1000000 then x (ix2 r ⟨k, h⟩) else 0

/-- The masked block holds the row's entries of its stretch. -/
theorem masked (c : Dev nD) (t : Fin cfg0.N) (r : Fin 32) (l : Fin 65536) :
    k0_pay1 (grid0.coords t) (tile W c t) (ix2 r l) = col (W c main_arg0) r (t.val * 65536 + l.val) := by
  have hc := coord0 t
  rw [pay1_apply]
  show (if (grid0.coords t 0).val * 65536 + l.val < 1000000 then _ else _) = _
  unfold col
  by_cases h : t.val * 65536 + l.val < 1000000
  · rw [dif_pos h, if_pos (by rw [hc]; exact h)]
    have hm : win0_0.moved (grid0.coords t) (ix2 r l) = true := (moved0 _ _).mpr (by rw [hc]; exact h)
    unfold tile Window.fill
    rw [dif_pos hm]
    show (W c main_arg0 : S32x1000000.Idx → EReal) ((win0_0.blk t).view.emb _) = _
    refine congrArg (W c main_arg0 : S32x1000000.Idx → EReal) (funext fun a => Fin.ext ?_)
    blk_simp [(by decide +kernel : ∀ t : Fin cfg0.N, win0_0.index t = ![0, t.val])]
    fin_cases a <;> simp
  · rw [dif_neg h, if_neg (by rw [hc]; exact h)]; exact Ideal.ofBits_zero_f32

/-- A stretch of every row, summed. -/
def upTo (g : Fin 32 → ℕ → EReal) (n : ℕ) : EReal := ∑ r : Fin 32, ∑ k ∈ Finset.range n, g r k

/-- Block by block, the sums of the stretches add up. -/
theorem upTo_succ (g : Fin 32 → ℕ → EReal) (n : ℕ) :
    upTo g ((n + 1) * 65536) = upTo g (n * 65536) + ∑ r : Fin 32, ∑ l : Fin 65536, g r (n * 65536 + l.val) := by
  unfold upTo
  rw [← Finset.sum_add_distrib]
  refine Finset.sum_congr rfl fun r _ => ?_
  rw [← sum_stretch, Finset.sum_range fun l => g r (n * 65536 + l)]

/-- All sixteen blocks of a row that is zero past its end. -/
theorem upTo_all (x : S32x1000000.Idx → EReal) (f : EReal → EReal) (hf : f 0 = 0) :
    upTo (fun r k => f (col x r k)) (16 * 65536) = ∑ p : Fin 32 × Fin 1000000, f (x (ix2 p.1 p.2)) := by
  unfold upTo
  rw [Fintype.sum_prod_type]
  refine Finset.sum_congr rfl fun r _ => ?_
  rw [sum_clip _ 1000000 _ (by decide) fun k hk => by
    show f (col x r k) = 0
    rw [col, dif_neg (not_lt.mpr hk), hf], Finset.sum_range]
  refine Finset.sum_congr rfl fun k _ => ?_
  show f (col x r k) = _
  rw [col, dif_pos k.isLt]

/-- A point's sum, and a point's sum of squares. -/
theorem pay2_eq (c : Dev nD) (t : Fin cfg0.N) : k0_pay2 (grid0.coords t) (tile W c t)
    = ∑ r : Fin 32, ∑ l : Fin 65536, col (W c main_arg0) r (t.val * 65536 + l.val) :=
  (total (k0_pay1 (grid0.coords t) (tile W c t))).trans
    (Finset.sum_congr rfl fun r _ => Finset.sum_congr rfl fun l _ => masked W c t r l)
/-- The same of the squares. -/
theorem pay3_eq (c : Dev nD) (t : Fin cfg0.N) : k0_pay3 (grid0.coords t) (tile W c t)
    = ∑ r : Fin 32, ∑ l : Fin 65536,
        col (W c main_arg0) r (t.val * 65536 + l.val) * col (W c main_arg0) r (t.val * 65536 + l.val) :=
  (total (mulf (k0_pay1 (grid0.coords t) (tile W c t)) (k0_pay1 (grid0.coords t) (tile W c t)))).trans
    (Finset.sum_congr rfl fun r _ => Finset.sum_congr rfl fun l _ => by
      rw [← masked W c t r l]; rfl)

/-- After a point the accumulators hold the sums over the blocks so far. -/
theorem sumAt_eq (c : Dev nD) : ∀ (n : ℕ) (h : n < cfg0.N),
    sumAt W c n h = upTo (fun r k => col (W c main_arg0) r k) ((n + 1) * 65536)
  | 0, h => by
    rw [upTo_succ]
    refine (pay2_eq W c ⟨0, h⟩).trans ?_
    rw [show upTo (fun r k => col (W c main_arg0) r k) (0 * 65536) = 0 from Finset.sum_eq_zero fun r _ => by simp, zero_add]
  | n + 1, h => by
    rw [upTo_succ, ← sumAt_eq c n (Nat.lt_of_succ_lt h)]
    exact congrArg (sumAt W c n (Nat.lt_of_succ_lt h) + ·) (pay2_eq W c ⟨n + 1, h⟩)
/-- The same of the squares. -/
theorem sqAt_eq (c : Dev nD) : ∀ (n : ℕ) (h : n < cfg0.N),
    sqAt W c n h = upTo (fun r k => col (W c main_arg0) r k * col (W c main_arg0) r k) ((n + 1) * 65536)
  | 0, h => by
    rw [upTo_succ]
    refine (pay3_eq W c ⟨0, h⟩).trans ?_
    rw [show upTo (fun r k => col (W c main_arg0) r k * col (W c main_arg0) r k) (0 * 65536) = 0 from
      Finset.sum_eq_zero fun r _ => by simp, zero_add]
  | n + 1, h => by
    rw [upTo_succ, ← sqAt_eq c n (Nat.lt_of_succ_lt h)]
    exact congrArg (sqAt W c n (Nat.lt_of_succ_lt h) + ·) (pay3_eq W c ⟨n + 1, h⟩)

/-- The sum of a table's entries, -/
def sumOf (x : S32x1000000.Idx → EReal) : EReal := ∑ p : Fin 32 × Fin 1000000, x (ix2 p.1 p.2)
/-- and of their squares. -/
def sqOf (x : S32x1000000.Idx → EReal) : EReal := ∑ p : Fin 32 × Fin 1000000, x (ix2 p.1 p.2) * x (ix2 p.1 p.2)

/-- The last point. -/
def last0 : Fin cfg0.N := ⟨15, by decide⟩

/-- After the last point: the sums over the whole table. -/
theorem sumAt_last (c : Dev nD) (h : 15 < cfg0.N) : sumAt W c 15 h = sumOf (W c main_arg0) :=
  (sumAt_eq W c 15 h).trans (upTo_all (W c main_arg0) (fun a => a) rfl)
/-- and so is the sum of the squares. -/
theorem sqAt_last (c : Dev nD) (h : 15 < cfg0.N) : sqAt W c 15 h = sqOf (W c main_arg0) :=
  (sqAt_eq W c 15 h).trans (upTo_all (W c main_arg0) (fun a => a * a) (mul_zero _))

/-- The first output in the end: the sum of all logits; -/
theorem out_sum (c : Dev nD) : (dat W c).arrAt 1 cfg0.N = fun _ => sumOf (W c main_arg0) :=
  (dat W c).arrAt_eq_of_after_last 1 last0 (by decide +kernel) _ fun _ => sumAt_last W c last0.isLt

/-- and the second: the sum of their squares. -/
theorem out_sq (c : Dev nD) : (dat W c).arrAt 2 cfg0.N = fun _ => sqOf (W c main_arg0) :=
  (dat W c).arrAt_eq_of_after_last 2 last0 (by decide +kernel) _ fun _ => sqAt_last W c last0.isLt

end Cert.Proof.Stats
-- ==== Proof.ArgmaxValue.lean ====
/-
  What the second kernel's outputs hold in the end, over the extended reals: per row, the first column whose score is
  the greatest.
-/
module

public import proofs.«01_k».proof.Proof.ArgmaxData
public import proofs.«01_k».proof.Proof.Best
public import Idealize.ShloMosaic.Lib.Pointwise
public import Idealize.ShloMosaic.Lib.Pointwise.Reduce
public import Idealize.ShloMosaic.Lib.ValueLayoutCasts
public import Idealize.ShloMosaic.Lib.ValueIdx
public import Idealize.ShloMosaic.Lib.Pipeline.ValueKit.Geometry

@[expose] public section

set_option maxRecDepth 16384

noncomputable section

namespace Cert.Proof.Argmax

open Cert.KernelIdeal Cert.KernelIdeal.Gen Cert.Proof.Common Cert.Proof.Best
open Idealize.ShloMosaic Idealize.ShloMosaic.TcCoe
open Idealize.ShloMosaic.Pipeline (Window Dat)
open Idealize.ShloMosaic.ValueIdx (shapeCast_a_a1_apply)

/-! ## The block's reductions and broadcasts at coordinates -/

/-- The pattern past a row's end is the least value. -/
theorem ofBits_least : Ideal.ofBits .f32 0xFF800000#32 = ⊥ := by simp [Ideal.ofBits, Ideal.ieee]

/-- A row's reduction by `max`, as a column, at the row. -/
theorem max_of {a b : ℕ} (v : (⟨2, ![a, b]⟩ : Shape).Idx → EReal) (h : (⟨2, ![a, b]⟩ : Shape).Reduces [1] ⟨1, ![a]⟩)
    (hacc : (0xFF800000#32 : BitVec 32) = FKind.maximumf.neutral .f32 (.inl rfl)) (hc : (⟨1, ![a]⟩ : Shape).ShapeCasts ⟨2, ![a, 1]⟩) (r : Fin a) :
    shapeCast ⟨2, ![a, 1]⟩ (multiReduction (F := Ideal) (φ := .f32) .maximumf [1] ⟨1, ![a]⟩ v 0xFF800000#32 h (.inl rfl) hacc) hc (ix2 r 0)
      = (Finset.univ : Finset (Fin b)).fold max ⊥ fun l => v (ix2 r l) := by
  refine (shapeCast_a_a1_apply _ hc r 0).trans ?_
  refine (multiReduction_maximumf_eq_fold (F := Ideal) (φ := .f32) v _ h (.inl rfl) hacc (ix1 r)).trans ?_
  refine (Shape.Reduces.fold_fiber_r2_a1 h (ix1 r) (max : EReal → EReal → EReal) _ v).trans ?_
  rw [show (FloatOps.ofBits (F := Ideal) .f32 0xFF800000#32 : EReal) = ⊥ from ofBits_least]
  rfl

/-- A row's reduction by the signed minimum, as a column, at the row. -/
theorem min_of {a b : ℕ} (v : (⟨2, ![a, b]⟩ : Shape).Idx → BitVec 32) (h : (⟨2, ![a, b]⟩ : Shape).Reduces [1] ⟨1, ![a]⟩)
    (hacc : (2147483647#32 : BitVec 32) = IKind.minsi.neutral) (hc : (⟨1, ![a]⟩ : Shape).ShapeCasts ⟨2, ![a, 1]⟩) (r : Fin a) :
    shapeCast ⟨2, ![a, 1]⟩ (multiReductionI .minsi [1] ⟨1, ![a]⟩ v 2147483647#32 h hacc) hc (ix2 r 0)
      = (Finset.univ : Finset (Fin b)).fold IntOp.minsi 2147483647#32 fun l => v (ix2 r l) := by
  refine (shapeCast_a_a1_apply _ hc r 0).trans ?_
  refine (multiReductionI_eq_fold .minsi v _ h hacc (ix1 r)).trans ?_
  exact Shape.Reduces.fold_fiber_r2_a1 h (ix1 r) IKind.minsi.op _ v

/-- A column spread over the rows' lanes. -/
theorem spread_of {α : Type} {a b : ℕ} (v : (⟨2, ![a, 1]⟩ : Shape).Idx → α) (h : (⟨2, ![a, 1]⟩ : Shape).Broadcasts ⟨2, ![a, b]⟩)
    (r : Fin a) (l : Fin b) : broadcastTo ⟨2, ![a, b]⟩ v h (ix2 r l) = v (ix2 r 0) := by
  refine broadcastTo_apply v h (ix2 r l) (ix2 r 0) fun ax => ?_
  match ax with
  | ⟨0, _⟩ =>
    have := r.isLt
    show r.val = if a = 1 then 0 else r.val
    split <;> omega
  | ⟨1, _⟩ => rfl

/-- A choice on a bit that decides a proposition. -/
theorem choose {α : Type} (P : Prop) [Decidable P] (a b : α) : (if BitVec.ofBool (decide P) = 1#1 then a else b) = if P then a else b :=
  if_congr (by by_cases h : P <;> simp [h]) rfl rfl

/-! ## The body's values at coordinates -/

section Body

variable (i : grid1.Coords) (x1 x2 x3 x4 : EReal) (X Z : S32x65536.Idx → EReal) (r : Fin 32) (l : Fin 65536)

/-- A row's maximum over the block. -/
theorem pay7_at : k1_pay7 (F := Ideal) i x1 x2 x3 x4 X Z (ix2 r 0)
    = (Finset.univ : Finset (Fin 65536)).fold max ⊥ fun l => k1_pay6 (F := Ideal) i x1 x2 x3 x4 X Z (ix2 r l) := by
  unfold k1_pay7
  exact max_of (a := 32) (b := 65536) (k1_pay6 (F := Ideal) i x1 x2 x3 x4 X Z) reduces_S32x65536_S32 rfl shapeCasts_S32_S32x1 r

/-- The column where a lane attains its row's maximum, a large number elsewhere. -/
theorem pay8_at : k1_pay8 (F := Ideal) i x1 x2 x3 x4 X Z (ix2 r l)
    = if k1_pay6 (F := Ideal) i x1 x2 x3 x4 X Z (ix2 r l) = k1_pay7 (F := Ideal) i x1 x2 x3 x4 X Z (ix2 r 0) then k1_pay5 i (ix2 r l) else 2147483647#32 := by
  rw [← spread_of (a := 32) (b := 65536) (k1_pay7 (F := Ideal) i x1 x2 x3 x4 X Z) broadcasts_S32x1_S32x65536 r l]
  exact choose _ _ _

/-- The least of a row's columns. -/
theorem pay1_at (v : S32x65536.Idx → BitVec 32) : k1_pay1 v (ix2 r 0)
    = (Finset.univ : Finset (Fin 65536)).fold IntOp.minsi 2147483647#32 fun l => v (ix2 r l) := by
  unfold k1_pay1
  exact min_of (a := 32) (b := 65536) v reduces_S32x65536_S32 rfl shapeCasts_S32_S32x1 r

/-- The running column takes the block's where the block's maximum is strictly greater. -/
theorem pay3_at (a b : S32x1.Idx → EReal) (v : S32x65536.Idx → BitVec 32) (w : S32x1.Idx → BitVec 32) (j : S32x1.Idx) :
    k1_pay3 (F := Ideal) a v b w j = if b j < a j then k1_pay1 v j else w j := by
  unfold k1_pay3 k1_pay2
  rw [shapeCast_self, shapeCast_self]
  exact choose _ _ _

/-- The running maximum takes the block's where that is strictly greater. -/
theorem pay4_at (a b e : S32x1.Idx → EReal) (j : S32x1.Idx) :
    k1_pay4 (F := Ideal) a b e j = if b j < a j then a j else e j := by
  unfold k1_pay4 k1_pay2
  rw [shapeCast_self, shapeCast_self]
  exact choose _ _ _

end Body

/-! ## One block -/

variable (W : Dev nD → Valuation τ sig (Elt Ideal))

/-- A row's scores by column number, the least value past the row's end. -/
def row (x1 x2 x3 x4 : EReal) (x g : S32x1000000.Idx → EReal) (r : Fin 32) (k : ℕ) : EReal :=
  if h : k < 1000000 then score (F := Ideal) x1 x2 x3 x4 (x (ix2 r ⟨k, h⟩)) (g (ix2 r ⟨k, h⟩)) else ⊥

/-- The same with the kernel's arrays for its arguments. -/
def scores (c : Dev nD) : Fin 32 → ℕ → EReal :=
  row (one (W c main_v13_0)) (one (W c main_v13_1)) (one (W c main_v14)) (one (W c main_v15)) (W c main_arg0) (W c main_v12)

/-- The logits' block inside the row, -/
theorem tile_apply (c : Dev nD) (t : Fin cfg1.N) (r : Fin 32) (l : Fin 65536) (h : t.val * 65536 + l.val < 1000000) :
    tile W c t (ix2 r l) = (W c main_arg0 : S32x1000000.Idx → EReal) (ix2 r ⟨t.val * 65536 + l.val, h⟩) := by
  have hm : win1_4.moved (grid1.coords t) (ix2 r l) = true := (moved4 _ _).mpr (by rw [coord1 t]; exact h)
  unfold tile Window.fill
  rw [dif_pos hm]
  show (W c main_arg0 : S32x1000000.Idx → EReal) ((win1_4.blk t).view.emb _) = _
  refine congrArg (W c main_arg0 : S32x1000000.Idx → EReal) (funext fun a => Fin.ext ?_)
  blk_simp [(by decide +kernel : ∀ t : Fin cfg1.N, win1_4.index t = ![0, t.val])]
  fin_cases a <;> simp

/-- and the noise's. -/
theorem gtile_apply (c : Dev nD) (t : Fin cfg1.N) (r : Fin 32) (l : Fin 65536) (h : t.val * 65536 + l.val < 1000000) :
    gtile W c t (ix2 r l) = (W c main_v12 : S32x1000000.Idx → EReal) (ix2 r ⟨t.val * 65536 + l.val, h⟩) := by
  have hm : win1_5.moved (grid1.coords t) (ix2 r l) = true := (moved5 _ _).mpr (by rw [coord1 t]; exact h)
  unfold gtile Window.fill
  rw [dif_pos hm]
  show (W c main_v12 : S32x1000000.Idx → EReal) ((win1_5.blk t).view.emb _) = _
  refine congrArg (W c main_v12 : S32x1000000.Idx → EReal) (funext fun a => Fin.ext ?_)
  blk_simp [(by decide +kernel : ∀ t : Fin cfg1.N, win1_5.index t = ![0, t.val])]
  fin_cases a <;> simp

/-- The masked scores of a block are the row's of its stretch. -/
theorem masked (c : Dev nD) (t : Fin cfg1.N) (r : Fin 32) (l : Fin 65536) :
    k1_pay6 (grid1.coords t) (one (W c main_v13_0)) (one (W c main_v13_1)) (one (W c main_v14)) (one (W c main_v15)) (tile W c t) (gtile W c t) (ix2 r l)
      = scores W c r (t.val * 65536 + l.val) := by
  have hc := coord1 t
  rw [pay6_apply]
  show (if (grid1.coords t 0).val * 65536 + l.val < 1000000 then _ else _) = _
  unfold scores row
  by_cases h : t.val * 65536 + l.val < 1000000
  · rw [dif_pos h, if_pos (by rw [hc]; exact h), tile_apply W c t r l h, gtile_apply W c t r l h]
  · rw [dif_neg h, if_neg (by rw [hc]; exact h)]; exact ofBits_least

/-- A block's row maximum. -/
theorem rowMax_at (c : Dev nD) (t : Fin cfg1.N) (r : Fin 32) :
    rowMax W c t (ix2 r 0) = (Finset.univ : Finset (Fin 65536)).fold max ⊥ fun l => scores W c r (t.val * 65536 + l.val) := by
  refine (pay7_at _ _ _ _ _ _ _ r).trans ?_
  exact congrArg (Finset.fold max ⊥ · Finset.univ) (funext fun l => masked W c t r l)

/-- The column a lane of a block stands for. -/
theorem pay5_apply (t : Fin cfg1.N) (r : Fin 32) (l : Fin 65536) :
    k1_pay5 (grid1.coords t) (ix2 r l) = BitVec.ofNat 32 (t.val * 65536 + l.val) := by
  have hl := l.isLt
  have ht := coord_lt (grid1.coords t)
  have e : k1_pay5 (grid1.coords t) (ix2 r l)
      = BitVec.ofNat 32 (0 * 65536 + l.val) + BitVec.ofNat 32 (grid1.coords t 0).val * 65536#32 := rfl
  rw [e, Nat.zero_mul, Nat.zero_add]
  refine BitVec.eq_of_toNat_eq ?_
  rw [toNat_col _ _ ht hl, coord1, BitVec.toNat_ofNat, Nat.mod_eq_of_lt]
  have := coord1 t
  omega

/-- A block's columns: a lane's own where it attains the maximum, the greatest word elsewhere. -/
theorem rowCols_at (c : Dev nD) (t : Fin cfg1.N) (r : Fin 32) (l : Fin 65536) :
    rowCols W c t (ix2 r l) = if scores W c r (t.val * 65536 + l.val) = rowMax W c t (ix2 r 0)
      then BitVec.ofNat 32 (t.val * 65536 + l.val) else 2147483647#32 := by
  rw [← masked W c t r l, ← pay5_apply t r l]
  exact pay8_at _ _ _ _ _ _ _ r l

/-- A point's maximum and least column, at a row: the greatest score of the stretch and the first place of it. -/
theorem block_at (c : Dev nD) (n : ℕ) (h : n < cfg1.N) (r : Fin 32) :
    ∃ j, Best (scores W c r) (n * 65536) ((n + 1) * 65536) j ∧ rowMax W c ⟨n, h⟩ (ix2 r 0) = scores W c r j
      ∧ k1_pay1 (rowCols W c ⟨n, h⟩) (ix2 r 0) = BitVec.ofNat 32 j := by
  have ht : n < 16 := by have := coord_lt (grid1.coords ⟨n, h⟩); rw [coord1] at this; exact this
  refine block (b := 65536) (by decide) (by omega) (scores W c r) _ _ (rowMax_at W c ⟨n, h⟩ r) ?_
  refine (pay1_at r (rowCols W c ⟨n, h⟩)).trans ?_
  exact congrArg (Finset.fold IntOp.minsi 2147483647#32 · Finset.univ) (funext fun l => rowCols_at W c ⟨n, h⟩ r l)

/-! ## The running best -/

/-- After the first point: its own pair; -/
theorem runAt_zero (c : Dev nD) (h : 0 < cfg1.N) : runAt W c 0 h = (k1_pay1 (rowCols W c ⟨0, h⟩), rowMax W c ⟨0, h⟩) := by
  rw [runAt]
/-- after a later one: the pair before it, or its own where its maximum is strictly greater. -/
theorem runAt_succ (c : Dev nD) (n : ℕ) (h : n + 1 < cfg1.N) : runAt W c (n + 1) h
    = (k1_pay3 (rowMax W c ⟨n + 1, h⟩) (rowCols W c ⟨n + 1, h⟩) (runAt W c n (Nat.lt_of_succ_lt h)).2 (runAt W c n (Nat.lt_of_succ_lt h)).1,
       k1_pay4 (rowMax W c ⟨n + 1, h⟩) (runAt W c n (Nat.lt_of_succ_lt h)).2 (runAt W c n (Nat.lt_of_succ_lt h)).2) := by
  rw [runAt]

/-- After a point the running pair is the first place of the greatest score so far, and that score. -/
theorem runAt_at (c : Dev nD) (r : Fin 32) (n : ℕ) : ∀ h : n < cfg1.N,
    ∃ j, Best (scores W c r) 0 ((n + 1) * 65536) j ∧ (runAt W c n h).2 (ix2 r 0) = scores W c r j
      ∧ (runAt W c n h).1 (ix2 r 0) = BitVec.ofNat 32 j := by
  induction n with
  | zero =>
    intro h
    obtain ⟨j, h1, h2, h3⟩ := block_at W c 0 h r
    rw [Nat.zero_mul] at h1
    rw [runAt_zero]
    dsimp only
    exact ⟨j, h1, h2, h3⟩
  | succ n ih =>
    intro h
    obtain ⟨i, g1, g2, g3⟩ := ih (Nat.lt_of_succ_lt h)
    obtain ⟨j, h1, h2, h3⟩ := block_at W c (n + 1) h r
    rw [runAt_succ]
    dsimp only
    refine ⟨_, g1.append h1, ?_, ?_⟩
    · refine (pay4_at _ _ _ _).trans ?_
      rw [g2, h2]; exact (apply_ite (scores W c r) _ _ _).symm
    · refine (pay3_at _ _ _ _ _).trans ?_
      rw [g2, h2, g3, h3]; exact (apply_ite (BitVec.ofNat 32) _ _ _).symm

/-- The last point. -/
def last1 : Fin cfg1.N := ⟨15, by decide⟩

/-- The first output in the end: what the running best holds after the one point that writes it back. -/
theorem out_best (c : Dev nD) (t : Fin cfg1.N) (h : (cfg1.win 6).WholeAt t) : (dat W c).arrAt 6 cfg1.N = (runAt W c t.val t.isLt).1 :=
  (dat W c).arrAt_eq_of_after_last 6 t h _ fun _ => rfl

/-- That point is the last. -/
theorem whole_last : (cfg1.win 6).WholeAt last1 := by decide +kernel

/-- At a row it is the first column of the row's greatest score. -/
theorem out_best_at (c : Dev nD) (r : Fin 32) : ∃ j, Best (scores W c r) 0 1000000 j
    ∧ ((dat W c).arrAt 6 cfg1.N : S32x1.Idx → BitVec 32) (ix2 r 0) = BitVec.ofNat 32 j := by
  rw [out_best W c last1 whole_last]
  obtain ⟨j, h1, -, h3⟩ := runAt_at W c r last1.val last1.isLt
  refine ⟨j, h1.clip (by decide) (by decide) fun k hk => ?_, h3⟩
  unfold scores row
  rw [dif_neg (not_lt.mpr hk)]

end Cert.Proof.Argmax
-- ==== Proof.OnehotValue.lean ====
/-
  What the third kernel's output holds in the end, over the extended reals: one where a column is its row's chosen one,
  zero elsewhere.
-/
module

public import proofs.«01_k».proof.Proof.Onehot
public import proofs.«01_k».proof.Proof.ArgmaxValue
public import Idealize.ShloMosaic.Lib.IdealHost

@[expose] public section

set_option maxRecDepth 16384

noncomputable section

namespace Cert.Proof.Onehot

open Cert.KernelIdeal Cert.KernelIdeal.Gen Cert.Proof.Common
open Idealize.ShloMosaic Idealize.ShloMosaic.TcCoe
open Idealize.ShloMosaic.Pipeline (Window Dat)

/-- The table of the columns `v`: one at row `r`'s column `v r`, zero elsewhere. -/
def hot (v : S32x1.Idx → BitVec 32) (i : S32x1000000.Idx) : EReal :=
  if BitVec.ofNat 32 (i 1).val = v (ix2 (i 0) 0) then 1 else 0

/-- The point's one coordinate is its number. -/
theorem coord2 : ∀ t : Fin cfg2.N, (grid2.coords t 0).val = t.val := by decide +kernel

/-- The body's block, lane by lane. -/
theorem pay_at (t : Fin cfg2.N) (v : S32x1.Idx → BitVec 32) (r : Fin 32) (l : Fin 65536) :
    k2_pay1 (F := Ideal) (grid2.coords t) v (ix2 r l) = if BitVec.ofNat 32 (t.val * 65536 + l.val) = v (ix2 r 0) then 1 else 0 := by
  have hl := l.isLt
  have ht : (grid2.coords t 0).val < 16 := (grid2.coords t 0).isLt
  have hc : BitVec.ofNat 32 (0 * 65536 + l.val) + BitVec.ofNat 32 (grid2.coords t 0).val * 65536#32
      = BitVec.ofNat 32 (t.val * 65536 + l.val) := by
    rw [Nat.zero_mul, Nat.zero_add]
    refine BitVec.eq_of_toNat_eq ?_
    rw [toNat_col _ _ ht hl, coord2, BitVec.toNat_ofNat, Nat.mod_eq_of_lt]
    have := coord2 t
    omega
  have e : k2_pay1 (F := Ideal) (grid2.coords t) v (ix2 r l)
      = if BitVec.ofBool (BitVec.ofNat 32 (0 * 65536 + l.val) + BitVec.ofNat 32 (grid2.coords t 0).val * 65536#32
          == broadcastTo S32x65536 (shapeCast S32x1 v shapeCasts_S32x1_S32x1) broadcasts_S32x1_S32x65536 (ix2 r l)) = 1#1
        then Ideal.ofBits .f32 0x3F800000#32 else Ideal.ofBits .f32 0x00000000#32 := rfl
  rw [e, hc, shapeCast_self, Ideal.ofBits_one_f32, Ideal.ofBits_zero_f32]
  have hs := Argmax.spread_of (a := 32) (b := 65536) v broadcasts_S32x1_S32x65536 r l
  exact (congrArg (fun z => if BitVec.ofBool (BitVec.ofNat 32 (t.val * 65536 + l.val) == z) = 1#1 then (1 : EReal) else 0) hs).trans
    (Argmax.choose _ _ _)

variable (W : Dev nD → Valuation τ sig (Elt Ideal))

/-- The output in the end. -/
theorem out_hot (c : Dev nD) : (dat W c).arrAt 1 cfg2.N = hot (W c main_v16_0) := by
  refine (dat W c).arrAt_eq_of_covers 1 (hot (W c main_v16_0)) (by decide +kernel) fun t _ y => ?_
  show k2_pay1 (F := Ideal) (grid2.coords t) (W c main_v16_0) (win2_1.xinj (grid2.coords t) y) = hot (W c main_v16_0) ((win2_1.blk t).view.emb y)
  have hy : win2_1.xinj (grid2.coords t) y = ix2 (win2_1.xinj (grid2.coords t) y 0) (win2_1.xinj (grid2.coords t) y 1) :=
    funext fun a => by fin_cases a <;> rfl
  refine ((congrArg (k2_pay1 (F := Ideal) (grid2.coords t) (W c main_v16_0)) hy).trans (pay_at t _ _ _)).trans ?_
  unfold hot
  have h0 : ((win2_1.blk t).view.emb y : S32x1000000.Idx) 0 = win2_1.xinj (grid2.coords t) y 0 := Fin.ext (by
    blk_simp [(by decide +kernel : ∀ t : Fin cfg2.N, win2_1.index t = ![0, t.val])])
  have h1 : (((win2_1.blk t).view.emb y : S32x1000000.Idx) 1).val = t.val * 65536 + (win2_1.xinj (grid2.coords t) y 1).val := by
    blk_simp [(by decide +kernel : ∀ t : Fin cfg2.N, win2_1.index t = ![0, t.val])]
  rw [h0, h1]

end Cert.Proof.Onehot
-- ==== Proof.KernelValue.lean ====
/-
  What the kernel program computes: its result as a function of its arguments and of its noise.
-/
module

public import proofs.«01_k».proof.Proof.Run
public import proofs.«01_k».proof.Proof.StatsValue
public import proofs.«01_k».proof.Proof.ArgmaxValue
public import proofs.«01_k».proof.Proof.OnehotValue
public import Idealize.ShloMosaic.Lib.StableHlo.Run

@[expose] public section

set_option maxRecDepth 16384

noncomputable section

namespace Cert.Proof.Run

open Cert.KernelIdeal Cert.KernelIdeal.Gen Cert.Proof.Common Cert.Proof.Best
open Idealize.ShloMosaic Idealize.ShloMosaic.TcCoe
open Idealize.ShloMosaic.Pipeline (Window Dat)

variable (m : (ℓ : Loc nD τ sig) → Buf (Elt Ideal) ℓ) (c : Dev nD)

/-- A scalar's only entry. -/
def only (f : S_.Idx → EReal) : EReal := f fun a => a.elim0

/-- A buffer the host does not write is as launched when the first kernel starts, -/
theorem V4_launched (r : Ref sig .tc) (h0 : r ∉ hostOps0_W) (h1 : r ∉ hostOps0_1_W) (h2 : r ∉ hostOps0_2_W) (h3 : r ∉ hostOps0_3_W) :
    V4 m c r = m (c, Proc.devRef .tc r) :=
  (V4_of m c r h3).trans <| (V3_of m c r h2).trans <| (V2_of m c r h1).trans (V1_of m c r h0)

/-- and the logits are when the second does. -/
theorem U6_arg0 : U6 m c main_arg0 = m (c, Proc.devRef .tc main_arg0) :=
  (U6_of m c main_arg0 (by decide)).trans <| (U5_of m c main_arg0 (by decide)).trans <|
    V4_launched m c main_arg0 (by decide) (by decide) (by decide) (by decide)

/-- The noise is as the host left it. -/
theorem U6_noise : U6 m c main_v12 = V4 m c main_v12 :=
  (U6_of m c main_v12 (by decide)).trans (U5_of m c main_v12 (by decide))

/-- The first kernel's outputs are the logits' sum -/
theorem U6_sum : U6 m c main_v13_0 = fun _ => Stats.sumOf (m (c, Proc.devRef .tc main_arg0)) := by
  refine (U6_of m c main_v13_0 (by decide)).trans ?_
  refine (Pipeline.afterRegion_arr (Stats.dat (V4 m) c) (V4 m c) launch0.win.arr_inj 1).trans ?_
  rw [Stats.out_sum, V4_launched m c main_arg0 (by decide) (by decide) (by decide) (by decide)]

/-- and the sum of their squares. -/
theorem U6_sq : U6 m c main_v13_1 = fun _ => Stats.sqOf (m (c, Proc.devRef .tc main_arg0)) := by
  refine (U6_of m c main_v13_1 (by decide)).trans ?_
  refine (Pipeline.afterRegion_arr (Stats.dat (V4 m) c) (V4 m c) launch0.win.arr_inj 2).trans ?_
  rw [Stats.out_sq, V4_launched m c main_arg0 (by decide) (by decide) (by decide) (by decide)]

/-- The scale, as the second kernel reads it, -/
theorem U6_scale : Argmax.one (F := Ideal) (U6 m c main_v14) = only (m (c, Proc.devRef .tc main_arg1)) := by
  have h : U6 m c main_v14 = fun j => shapeCast S1x1 (U5 m c main_arg1 : S_.Idx → EReal) shapeCasts_S_S1x1 j := by
    unfold U6
    after_results_simp
    rfl
  rw [h, U5_of m c main_arg1 (by decide), V4_launched m c main_arg1 (by decide) (by decide) (by decide) (by decide)]
  exact congrArg (m (c, Proc.devRef .tc main_arg1) : S_.Idx → EReal) (funext fun a => a.elim0)

/-- and the shift. -/
theorem U6_shift : Argmax.one (F := Ideal) (U6 m c main_v15) = only (m (c, Proc.devRef .tc main_arg2)) := by
  have h : U6 m c main_v15 = fun j => shapeCast S1x1 (U5 m c main_arg2 : S_.Idx → EReal) shapeCasts_S_S1x1 j := by
    unfold U6
    after_results_simp
    rfl
  rw [h, U5_of m c main_arg2 (by decide), V4_launched m c main_arg2 (by decide) (by decide) (by decide) (by decide)]
  exact congrArg (m (c, Proc.devRef .tc main_arg2) : S_.Idx → EReal) (funext fun a => a.elim0)

/-- Each row's column after the second kernel. -/
theorem U7_best (r : Fin 32) : ∃ j, Best (Argmax.row (Stats.sumOf (m (c, Proc.devRef .tc main_arg0))) (Stats.sqOf (m (c, Proc.devRef .tc main_arg0)))
      (only (m (c, Proc.devRef .tc main_arg1))) (only (m (c, Proc.devRef .tc main_arg2))) (m (c, Proc.devRef .tc main_arg0)) (V4 m c main_v12) r)
      0 1000000 j ∧ (U7 m c main_v16_0 : S32x1.Idx → BitVec 32) (ix2 r 0) = BitVec.ofNat 32 j := by
  have h := Argmax.out_best_at (U6 m) c r
  unfold Argmax.scores at h
  rw [U6_scale, U6_shift, U6_sum, U6_sq, U6_arg0, U6_noise] at h
  have e : U7 m c main_v16_0 = (Argmax.dat (U6 m) c).arrAt 6 cfg1.N :=
    Pipeline.afterRegion_arr (Argmax.dat (U6 m) c) (U6 m c) launch1.win.arr_inj 6
  rw [e]
  exact h

/-- The result is the table of those columns. -/
theorem U8_result : U8 m c main_v17 = Onehot.hot (U7 m c main_v16_0) :=
  (Pipeline.afterRegion_arr (Onehot.dat (U7 m) c) (U7 m c) launch2.win.arr_inj 1).trans (Onehot.out_hot (U7 m) c)

end Cert.Proof.Run
-- ==== Proof.RefScore.lean ====
/-
  The reference's values at coordinates, over the extended reals, and its score beside the kernel's: the two are one number,
  because the average square of the centred entries is the average square less the square of the average.
-/
module

public import proofs.«01_k».proof.Proof.RefValue
public import proofs.«01_k».proof.Proof.Spread
public import proofs.«01_k».proof.Proof.KernelValue
public import Idealize.ShloMosaic.Lib.IdealHost

@[expose] public section

set_option maxRecDepth 16384

noncomputable section

namespace Cert.Proof.Ref

open Cert.ReferenceIdeal Cert.ReferenceIdeal.Gen Cert.Proof.Best
open Idealize.ShloMosaic

/-! ## The constants -/

/-- The number of entries, as the reference spells it; -/
theorem ofBits_total : Ideal.ofBits .f32 0x4BF42400#32 = ((32000000 : ℝ) : EReal) := by
  simp [Ideal.ofBits, Ideal.ieee, -EReal.coe_mul]; norm_num

/-- the number of rows; -/
theorem ofBits_rows : Ideal.ofBits .f32 0x42000000#32 = ((32 : ℝ) : EReal) := by
  simp [Ideal.ofBits, Ideal.ieee, -EReal.coe_mul]; norm_num

/-- the number of columns; -/
theorem ofBits_cols : Ideal.ofBits .f32 0x49742400#32 = ((1000000 : ℝ) : EReal) := by
  simp [Ideal.ofBits, Ideal.ieee, -EReal.coe_mul]; norm_num

/-- and the number of entries, as the kernel spells it. -/
theorem count_eq : (Argmax.count (F := Ideal) : EReal) = ((32000000 : ℝ) : EReal) := by
  show Ideal.ofBits .f32 0x42000000#32 * Ideal.ofBits .f32 0x49742400#32 = _
  rw [ofBits_rows, ofBits_cols, ← EReal.coe_mul]
  norm_num

/-! ## The sums -/

/-- A sum over all of an array, from zero. -/
theorem reduceAdd_of {a b : ℕ} (x : (⟨2, ![a, b]⟩ : Shape).Idx → EReal) (h : (⟨2, ![a, b]⟩ : Shape).ReducesTo [0, 1] S_) (j : S_.Idx) :
    Host.reduceAdd (F := Ideal) (φ := .f32) x (constant S_ .f32 0x00000000#32) h h_S_ j = ∑ p : Fin a × Fin b, x (ix2 p.1 p.2) := by
  refine (Host.reduceAdd_apply (F := Ideal) (φ := .f32) x _ h h_S_ j).trans ?_
  refine (Ideal.hostReduceAdd_r2_a01 h x _ j).trans ?_
  rw [show (constant (F := Ideal) S_ .f32 0x00000000#32 (Shape.Idx.first h_S_) : EReal) = 0 from Ideal.ofBits_zero_f32, zero_add, Fintype.sum_prod_type]

/-- The average. -/
theorem average_apply (x : S32x1000000.Idx → EReal) (j : S_.Idx) :
    average (F := Ideal) x j = Ideal.div (Stats.sumOf x) ((32000000 : ℝ) : EReal) := by
  show Ideal.div (Host.reduceAdd (F := Ideal) (φ := .f32) x (constant S_ .f32 0x00000000#32) reducesTo_S32x1000000_S_d0_1 h_S_ j)
    (Ideal.ofBits .f32 0x4BF42400#32) = _
  rw [ofBits_total]
  have e := reduceAdd_of (a := 32) (b := 1000000) x reducesTo_S32x1000000_S_d0_1 j
  unfold Stats.sumOf
  rw [← e]

/-- The centred entry. -/
theorem centred_apply (x : S32x1000000.Idx → EReal) (i : S32x1000000.Idx) :
    centred (F := Ideal) x i = x i - Ideal.div (Stats.sumOf x) ((32000000 : ℝ) : EReal) := by
  show x i - average (F := Ideal) x _ = _
  rw [average_apply]

/-- A root entry by entry. -/
theorem sqrt_at (f : S_.Idx → EReal) (j : S_.Idx) : Host.sqrt (F := Ideal) (φ := .f32) f j = Ideal.sqrt (f j) := rfl

/-- The root of the average square of the centred entries, squared, is the kernel's. -/
theorem dev_sq (x : S32x1000000.Idx → EReal) (j : S_.Idx) :
    dev (F := Ideal) x j * dev (F := Ideal) x j
      = Argmax.sdev (F := Ideal) (Stats.sumOf x) (Stats.sqOf x) * Argmax.sdev (F := Ideal) (Stats.sumOf x) (Stats.sqOf x) := by
  have hv : dev (F := Ideal) x j = Ideal.sqrt (average (F := Ideal) (mulf (F := Ideal) (φ := .f32) (centred (F := Ideal) x) (centred (F := Ideal) x)) j) := by
    unfold dev
    exact sqrt_at _ j
  have hd : Argmax.sdev (F := Ideal) (Stats.sumOf x) (Stats.sqOf x) = Ideal.sqrt (Ideal.div (Stats.sqOf x) (Argmax.count (F := Ideal))
    - Ideal.div (Stats.sumOf x) (Argmax.count (F := Ideal)) * Ideal.div (Stats.sumOf x) (Argmax.count (F := Ideal))) := rfl
  rw [hv, hd, count_eq, average_apply]
  have hc : (Fintype.card (Fin 32 × Fin 1000000) : ℝ) = 32000000 := by
    rw [Fintype.card_prod, Fintype.card_fin, Fintype.card_fin]; norm_num
  refine Eq.trans ?_ (Spread.dev_eq_div (ι := Fin 32 × Fin 1000000) (fun p => x (ix2 p.1 p.2)) 32000000 hc (by norm_num))
  have hq : Stats.sumOf (mulf (F := Ideal) (φ := .f32) (centred (F := Ideal) x) (centred (F := Ideal) x)) = ∑ p : Fin 32 × Fin 1000000,
      (x (ix2 p.1 p.2) - Ideal.div (Stats.sumOf x) ((32000000 : ℝ) : EReal)) * (x (ix2 p.1 p.2) - Ideal.div (Stats.sumOf x) ((32000000 : ℝ) : EReal)) := by
    unfold Stats.sumOf
    refine Finset.sum_congr rfl fun p _ => ?_
    show centred (F := Ideal) x _ * centred (F := Ideal) x _ = _
    rw [centred_apply]
    rfl
  rw [hq]
  rfl

/-- The score is the kernel's. -/
theorem score_eq (x g : S32x1000000.Idx → EReal) (s b : S_.Idx → EReal) (i : S32x1000000.Idx) :
    addf (F := Ideal) (φ := .f32) g (scaled (F := Ideal) x s b) i
      = Argmax.score (F := Ideal) (Stats.sumOf x) (Stats.sqOf x) (Run.only s) (Run.only b) (x i) (g i) := by
  have hs : ∀ (f : S_.Idx → EReal) j, f j = Run.only f := fun f j => congrArg f (funext fun a => a.elim0)
  show g i + (Ideal.div (centred (F := Ideal) x i) (dev (F := Ideal) x _ * dev (F := Ideal) x _ + Ideal.ofBits .f32 0x3727C5AC#32) * s _ + b _)
    = (Ideal.div (x i - Ideal.div (Stats.sumOf x) (Argmax.count (F := Ideal))) (Argmax.sdev (F := Ideal) (Stats.sumOf x) (Stats.sqOf x)
      * Argmax.sdev (F := Ideal) (Stats.sumOf x) (Stats.sqOf x) + Ideal.ofBits .f32 0x3727C5AC#32) * Run.only s + Run.only b) + g i
  rw [dev_sq, centred_apply, count_eq, hs s, hs b]
  exact add_comm _ _

/-! ## The columns and their table -/

/-- Each row's column. -/
theorem column_best (x g : S32x1000000.Idx → EReal) (s b : S_.Idx → EReal) (r : Fin 32) :
    ∃ j, Best (Argmax.row (Stats.sumOf x) (Stats.sqOf x) (Run.only s) (Run.only b) x g r) 0 1000000 j
      ∧ column (F := Ideal) (addf (F := Ideal) (φ := .f32) g (scaled (F := Ideal) x s b)) (ix1 r) = BitVec.ofNat 32 j := by
  have h0 : 0 < 1000000 := by norm_num
  have h1 : 1000000 < 2147483648 := by norm_num
  have h2 : ∀ k : Fin 1000000, Argmax.row (Stats.sumOf x) (Stats.sqOf x) (Run.only s) (Run.only b) x g r k.val
      = addf (F := Ideal) (φ := .f32) g (scaled (F := Ideal) x s b) (ix2 r k) := fun k => by
    unfold Argmax.row
    rw [dif_pos k.isLt, score_eq]
  obtain ⟨j, hj, e⟩ := pick (a := 32) (b := 1000000) h0 h1 (addf (F := Ideal) (φ := .f32) g (scaled (F := Ideal) x s b))
    (constant (F := Ideal) S_ .f32 0xFF800000#32) (constantI S_ 32 0#32) (fun _ => Argmax.ofBits_least) (fun _ => rfl)
    reducesTo_S32x1000000_S32_d1 h_S_ _ r h2 (picked (F := Ideal) (addf (F := Ideal) (φ := .f32) g (scaled (F := Ideal) x s b))) rfl
  exact ⟨j, hj, e⟩

/-- The table, entry by entry. -/
theorem table_apply (v : S32.Idx → BitVec 32) (i : S32x1000000.Idx) :
    table (F := Ideal) v i = if BitVec.ofNat 32 (i 1).val = v (ix1 (i 0)) then 1 else 0 := by
  have h : table (F := Ideal) v i = (((BitVec.ofBool (v (ix1 (i 0)) == BitVec.ofNat 32 (i 1).val)).toNat : ℝ) : EReal) := by
    refine congrArg (fun z => (((BitVec.ofBool (v z == BitVec.ofNat 32 (i 1).val)).toNat : ℝ) : EReal)) (funext fun a => ?_)
    match a with
    | ⟨0, _⟩ => rfl
  rw [h]
  by_cases e : BitVec.ofNat 32 (i 1).val = v (ix1 (i 0))
  · rw [if_pos e, e]; simp
  · rw [if_neg e, beq_false_of_ne (Ne.symm e)]; simp

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.PrintedRun
public import proofs.«01_k».proof.Proof.Run
public import proofs.«01_k».proof.Proof.RefRun
public import proofs.«01_k».proof.Proof.Sim
public import proofs.«01_k».proof.Proof.RefScore
public import Idealize.ShloMosaic.Lib.StableHlo.RunHlo
public import Idealize.ShloMosaic.Adequacy
public import Idealize.ShloMosaic.Init

@[expose] public section

noncomputable section

namespace Cert.Proof

open Idealize.ShloMosaic Idealize.ShloMosaic.StableHlo Idealize.SL.Sem

/-- The kernel's argument buffers and the reference's hold the same contents. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- Launched on the same arguments, the reference and the kernel end with the same result. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : SameArgs m m')
    (c : Dev Cert.KernelIdeal.nD) :
    Ref.R7 m' c (Proc.devRef .tc Cert.ReferenceIdeal.main_v33) = Run.U8 m c (Proc.devRef .tc Cert.KernelIdeal.main_v17) := by
  have hn : Cert.KernelIdeal.Gen.V4 m c (Proc.devRef .tc Cert.KernelIdeal.main_v12) = Ref.R4 m' c (Proc.devRef .tc Cert.ReferenceIdeal.main_v30) :=
    Sim.noise_eq m m' c
  obtain ⟨e0, e1, e2⟩ := h c
  refine (Ref.R7_result m' c).trans (.trans ?_ (Run.U8_result m c).symm)
  refine funext fun i => (Ref.table_apply _ i).trans ?_
  obtain ⟨j, hj, hc⟩ := Ref.column_best (m' (c, Proc.devRef .tc Cert.ReferenceIdeal.main_arg0)) (Ref.R4 m' c (Proc.devRef .tc Cert.ReferenceIdeal.main_v30))
    (m' (c, Proc.devRef .tc Cert.ReferenceIdeal.main_arg1)) (m' (c, Proc.devRef .tc Cert.ReferenceIdeal.main_arg2)) (i 0)
  obtain ⟨k, hk, hc'⟩ := Run.U7_best m c (i 0)
  rw [hn] at hk
  have hj' : Best.Best (Argmax.row (Stats.sumOf (m (c, Proc.devRef .tc Cert.KernelIdeal.main_arg0))) (Stats.sqOf (m (c, Proc.devRef .tc Cert.KernelIdeal.main_arg0)))
      (Run.only (m (c, Proc.devRef .tc Cert.KernelIdeal.main_arg1))) (Run.only (m (c, Proc.devRef .tc Cert.KernelIdeal.main_arg2)))
      (m (c, Proc.devRef .tc Cert.KernelIdeal.main_arg0)) (Ref.R4 m' c (Proc.devRef .tc Cert.ReferenceIdeal.main_v30)) (i 0)) 0 1000000 j :=
    e0 ▸ e1 ▸ e2 ▸ hj
  unfold Onehot.hot
  rw [hc, hc', Best.Best.unique hj' hk]

/-- The five claims. -/
theorem claim : Cert.Claim := ⟨Cert.Kernel.Gen.facts, Cert.KernelIdeal.Gen.facts, Cert.ReferenceIdeal.Gen.facts,
  fun m g _ => θ_run_mono (Printed.Run.run_main m g) (fun _ h => ⟨fun c => ⟨(h.1 c).1, (h.1 c).2.1, (h.1 c).2.2.1⟩, h.2⟩),
  fun m g _ => θ_run_mono (Run.run_main m g) (fun _ h => ⟨fun c => ⟨(h.1 c).1, (h.1 c).2.1, (h.1 c).2.2.1⟩, h.2⟩),
  fun m g _ => θ_run_mono (Ref.run_main m g) (fun _ h => ⟨fun c => ⟨(h.1 c).1, (h.1 c).2.1, (h.1 c).2.2.1⟩, h.2⟩),
  trivial,
  fun m g m' g' _ hm => ⟨fun c => Run.U8 m c (Proc.devRef .tc Cert.KernelIdeal.main_v17),
    θ_run_mono (Run.run_main m g) (fun _ h c => ⟨(h.1 c).2.2.2, (h.1 c).1, (h.1 c).2.1, (h.1 c).2.2.1⟩),
    θ_run_mono (Ref.run_main m' g') (fun _ h c => ⟨(h.1 c).2.2.2.trans (results_eq m m' hm c), (h.1 c).1, (h.1 c).2.1, (h.1 c).2.2.1⟩)⟩⟩

end Cert.Proof

end
